-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Experts [hPre_block_e_names_experts : Cert.Pre_block_e_names_experts.Facts] (m : (ℓ : Loc Cert.Experts.nD Cert.Experts.τ Cert.Experts.sig) → Buf (Elt Bits) ℓ) : Prop :=
  ∀ c : Dev Cert.Experts.nD,
    (Cert.Pre_block_e_names_experts.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7)) (m ((c.tc : Thread Cert.Experts.nD Cert.Experts.τ).loc Cert.Experts.main_arg8))) = (fun _ => 1#1)

def Pre_ExpertsIdeal [hPre_block_e_names_experts : Cert.Pre_block_e_names_experts.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_block_e_names_experts.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_block_e_names_experts [hPre_block_e_names_experts : Cert.Pre_block_e_names_experts.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_block_e_names_experts.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6)) (m ((c.tc : Thread Cert.ExpertsRefIdeal.nD Cert.ExpertsRefIdeal.τ).loc Cert.ExpertsRefIdeal.main_arg7)) (m ((c.tc : Thread Cert.ExpertsRefIdeal.nD Cert.ExpertsRefIdeal.τ).loc Cert.ExpertsRefIdeal.main_arg8))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Gather [hPre_slot_tok_names_rows : Cert.Pre_slot_tok_names_rows.Facts] (m : (ℓ : Loc Cert.Gather.nD Cert.Gather.τ Cert.Gather.sig) → Buf (Elt Bits) ℓ) : Prop :=
  ∀ c : Dev Cert.Gather.nD,
    (Cert.Pre_slot_tok_names_rows.fn (F := Bits) (m ((c.tc : Thread Cert.Gather.nD Cert.Gather.τ).loc Cert.Gather.main_arg0)) (m ((c.tc : Thread Cert.Gather.nD Cert.Gather.τ).loc Cert.Gather.main_arg1))) = (fun _ => 1#1)

def Pre_GatherIdeal [hPre_slot_tok_names_rows : Cert.Pre_slot_tok_names_rows.Facts] (m : (ℓ : Loc Cert.GatherIdeal.nD Cert.GatherIdeal.τ Cert.GatherIdeal.sig) → Buf (Elt Ideal) ℓ) : Prop :=
  ∀ c : Dev Cert.GatherIdeal.nD,
    (Cert.Pre_slot_tok_names_rows.fn (F := Ideal) (m ((c.tc : Thread Cert.GatherIdeal.nD Cert.GatherIdeal.τ).loc Cert.GatherIdeal.main_arg0)) (m ((c.tc : Thread Cert.GatherIdeal.nD Cert.GatherIdeal.τ).loc Cert.GatherIdeal.main_arg1))) = (fun _ => 1#1)

def Pre_GatherRefIdeal (m : (ℓ : Loc Cert.GatherRefIdeal.nD Cert.GatherRefIdeal.τ Cert.GatherRefIdeal.sig) → Buf (Elt Ideal) ℓ) : Prop :=
  True

def Pre_GatherRefIdeal_slot_tok_names_rows [hPre_slot_tok_names_rows : Cert.Pre_slot_tok_names_rows.Facts] (m : (ℓ : Loc Cert.GatherRefIdeal.nD Cert.GatherRefIdeal.τ Cert.GatherRefIdeal.sig) → Buf (Elt Ideal) ℓ) : Prop :=
  ∀ c : Dev Cert.GatherRefIdeal.nD,
    (Cert.Pre_slot_tok_names_rows.fn (F := Ideal) (m ((c.tc : Thread Cert.GatherRefIdeal.nD Cert.GatherRefIdeal.τ).loc Cert.GatherRefIdeal.main_arg0)) (m ((c.tc : Thread Cert.GatherRefIdeal.nD Cert.GatherRefIdeal.τ).loc Cert.GatherRefIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Experts [hExperts : Cert.Experts.Facts] [hPre_block_e_names_experts : Cert.Pre_block_e_names_experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6)
      ∧ r.2.mem ((c.tc : Thread Cert.Experts.nD Cert.Experts.τ).loc Cert.Experts.main_arg7) = m ((c.tc : Thread Cert.Experts.nD Cert.Experts.τ).loc Cert.Experts.main_arg7)
      ∧ r.2.mem ((c.tc : Thread Cert.Experts.nD Cert.Experts.τ).loc Cert.Experts.main_arg8) = m ((c.tc : Thread Cert.Experts.nD Cert.Experts.τ).loc Cert.Experts.main_arg8))
      ∧ r.2.sem = fun _ => 0)

def quiescent_ExpertsIdeal [hExpertsIdeal : Cert.ExpertsIdeal.Facts] [hPre_block_e_names_experts : Cert.Pre_block_e_names_experts.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
      ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6)
      ∧ r.2.mem ((c.tc : Thread Cert.ExpertsRefIdeal.nD Cert.ExpertsRefIdeal.τ).loc Cert.ExpertsRefIdeal.main_arg7) = m ((c.tc : Thread Cert.ExpertsRefIdeal.nD Cert.ExpertsRefIdeal.τ).loc Cert.ExpertsRefIdeal.main_arg7)
      ∧ r.2.mem ((c.tc : Thread Cert.ExpertsRefIdeal.nD Cert.ExpertsRefIdeal.τ).loc Cert.ExpertsRefIdeal.main_arg8) = m ((c.tc : Thread Cert.ExpertsRefIdeal.nD Cert.ExpertsRefIdeal.τ).loc Cert.ExpertsRefIdeal.main_arg8))
      ∧ r.2.sem = fun _ => 0)

def quiescent_ExpertsRefIdeal_pre_block_e_names_experts [hExpertsRefIdeal : Cert.ExpertsRefIdeal.Facts] [hPre_block_e_names_experts : Cert.Pre_block_e_names_experts.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_block_e_names_experts m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6)
      ∧ r.2.mem ((c.tc : Thread Cert.ExpertsRefIdeal.nD Cert.ExpertsRefIdeal.τ).loc Cert.ExpertsRefIdeal.main_arg7) = m ((c.tc : Thread Cert.ExpertsRefIdeal.nD Cert.ExpertsRefIdeal.τ).loc Cert.ExpertsRefIdeal.main_arg7)
      ∧ r.2.mem ((c.tc : Thread Cert.ExpertsRefIdeal.nD Cert.ExpertsRefIdeal.τ).loc Cert.ExpertsRefIdeal.main_arg8) = m ((c.tc : Thread Cert.ExpertsRefIdeal.nD Cert.ExpertsRefIdeal.τ).loc Cert.ExpertsRefIdeal.main_arg8))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6))
      ∧ r.2.sem = fun _ => 0)

def quiescent_Gather [hGather : Cert.Gather.Facts] [hPre_slot_tok_names_rows : Cert.Pre_slot_tok_names_rows.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0)

def quiescent_GatherIdeal [hGatherIdeal : Cert.GatherIdeal.Facts] [hPre_slot_tok_names_rows : Cert.Pre_slot_tok_names_rows.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ r.2.sem = fun _ => 0)

def quiescent_GatherRefIdeal [hGatherRefIdeal : Cert.GatherRefIdeal.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0)
      ∧ r.2.mem ((c.tc : Thread Cert.GatherRefIdeal.nD Cert.GatherRefIdeal.τ).loc Cert.GatherRefIdeal.main_arg1) = m ((c.tc : Thread Cert.GatherRefIdeal.nD Cert.GatherRefIdeal.τ).loc Cert.GatherRefIdeal.main_arg1))
      ∧ r.2.sem = fun _ => 0)

def quiescent_GatherRefIdeal_pre_slot_tok_names_rows [hGatherRefIdeal : Cert.GatherRefIdeal.Facts] [hPre_slot_tok_names_rows : Cert.Pre_slot_tok_names_rows.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal_slot_tok_names_rows m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0)
      ∧ r.2.mem ((c.tc : Thread Cert.GatherRefIdeal.nD Cert.GatherRefIdeal.τ).loc Cert.GatherRefIdeal.main_arg1) = m ((c.tc : Thread Cert.GatherRefIdeal.nD Cert.GatherRefIdeal.τ).loc Cert.GatherRefIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Experts_ExpertsIdeal : Prop :=
  True

def algebraic_ExpertsIdeal_ExpertsRefIdeal [hExpertsIdeal : Cert.ExpertsIdeal.Facts] [hExpertsRefIdeal : Cert.ExpertsRefIdeal.Facts] [hPre_block_e_names_experts : Cert.Pre_block_e_names_experts.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)
      ∧ m' ((c.tc : Thread Cert.ExpertsRefIdeal.nD Cert.ExpertsRefIdeal.τ).loc Cert.ExpertsRefIdeal.main_arg6) = m ((c.tc : Thread Cert.ExpertsIdeal.nD Cert.ExpertsIdeal.τ).loc Cert.ExpertsIdeal.main_arg6)
      ∧ m' ((c.tc : Thread Cert.ExpertsRefIdeal.nD Cert.ExpertsRefIdeal.τ).loc Cert.ExpertsRefIdeal.main_arg7) = m ((c.tc : Thread Cert.ExpertsIdeal.nD Cert.ExpertsIdeal.τ).loc Cert.ExpertsIdeal.main_arg7)
      ∧ m' ((c.tc : Thread Cert.ExpertsRefIdeal.nD Cert.ExpertsRefIdeal.τ).loc Cert.ExpertsRefIdeal.main_arg8) = m ((c.tc : Thread Cert.ExpertsIdeal.nD Cert.ExpertsIdeal.τ).loc Cert.ExpertsIdeal.main_arg8)) →
    ∃ (v0 : (c : Dev Cert.ExpertsIdeal.nD) → Buf (Elt Ideal) ((c.tc : Thread Cert.ExpertsIdeal.nD Cert.ExpertsIdeal.τ).loc Cert.ExpertsIdeal.main_v6)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v6) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
          ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
          ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v76) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5)
          ∧ r.2.mem ((c.tc : Thread Cert.ExpertsRefIdeal.nD Cert.ExpertsRefIdeal.τ).loc Cert.ExpertsRefIdeal.main_arg6) = m' ((c.tc : Thread Cert.ExpertsRefIdeal.nD Cert.ExpertsRefIdeal.τ).loc Cert.ExpertsRefIdeal.main_arg6)
          ∧ r.2.mem ((c.tc : Thread Cert.ExpertsRefIdeal.nD Cert.ExpertsRefIdeal.τ).loc Cert.ExpertsRefIdeal.main_arg7) = m' ((c.tc : Thread Cert.ExpertsRefIdeal.nD Cert.ExpertsRefIdeal.τ).loc Cert.ExpertsRefIdeal.main_arg7)
          ∧ r.2.mem ((c.tc : Thread Cert.ExpertsRefIdeal.nD Cert.ExpertsRefIdeal.τ).loc Cert.ExpertsRefIdeal.main_arg8) = m' ((c.tc : Thread Cert.ExpertsRefIdeal.nD Cert.ExpertsRefIdeal.τ).loc Cert.ExpertsRefIdeal.main_arg8))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v8_0)) (v1 : (c : Dev Cert.InProjIdeal.nD) → Buf (Elt Ideal) ((c.tc : Thread Cert.InProjIdeal.nD Cert.InProjIdeal.τ).loc Cert.InProjIdeal.main_v8_1)) (v2 : (c : Dev Cert.InProjIdeal.nD) → Buf (Elt Ideal) ((c.tc : Thread Cert.InProjIdeal.nD Cert.InProjIdeal.τ).loc Cert.InProjIdeal.main_v8_2)) (v3 : (c : Dev Cert.InProjIdeal.nD) → Buf (Elt Ideal) ((c.tc : Thread Cert.InProjIdeal.nD Cert.InProjIdeal.τ).loc Cert.InProjIdeal.main_v8_3)) (v4 : (c : Dev Cert.InProjIdeal.nD) → Buf (Elt Ideal) ((c.tc : Thread Cert.InProjIdeal.nD Cert.InProjIdeal.τ).loc Cert.InProjIdeal.main_v8_4)) (v5 : (c : Dev Cert.InProjIdeal.nD) → Buf (Elt Ideal) ((c.tc : Thread Cert.InProjIdeal.nD Cert.InProjIdeal.τ).loc Cert.InProjIdeal.main_v8_5)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v8_0) = v0 c
          ∧ r.2.mem ((c.tc : Thread Cert.InProjIdeal.nD Cert.InProjIdeal.τ).loc Cert.InProjIdeal.main_v8_1) = v1 c
          ∧ r.2.mem ((c.tc : Thread Cert.InProjIdeal.nD Cert.InProjIdeal.τ).loc Cert.InProjIdeal.main_v8_2) = v2 c
          ∧ r.2.mem ((c.tc : Thread Cert.InProjIdeal.nD Cert.InProjIdeal.τ).loc Cert.InProjIdeal.main_v8_3) = v3 c
          ∧ r.2.mem ((c.tc : Thread Cert.InProjIdeal.nD Cert.InProjIdeal.τ).loc Cert.InProjIdeal.main_v8_4) = v4 c
          ∧ r.2.mem ((c.tc : Thread Cert.InProjIdeal.nD Cert.InProjIdeal.τ).loc Cert.InProjIdeal.main_v8_5) = v5 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v26) = v0 c
          ∧ r.2.mem ((c.tc : Thread Cert.InProjRefIdeal.nD Cert.InProjRefIdeal.τ).loc Cert.InProjRefIdeal.main_v27) = v1 c
          ∧ r.2.mem ((c.tc : Thread Cert.InProjRefIdeal.nD Cert.InProjRefIdeal.τ).loc Cert.InProjRefIdeal.main_v28) = v2 c
          ∧ r.2.mem ((c.tc : Thread Cert.InProjRefIdeal.nD Cert.InProjRefIdeal.τ).loc Cert.InProjRefIdeal.main_v30) = v3 c
          ∧ r.2.mem ((c.tc : Thread Cert.InProjRefIdeal.nD Cert.InProjRefIdeal.τ).loc Cert.InProjRefIdeal.main_v32) = v4 c
          ∧ r.2.mem ((c.tc : Thread Cert.InProjRefIdeal.nD Cert.InProjRefIdeal.τ).loc Cert.InProjRefIdeal.main_v34) = v5 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)) →
    ∃ (v0 : (c : Dev Cert.OutProjIdeal.nD) → Buf (Elt Ideal) ((c.tc : Thread Cert.OutProjIdeal.nD Cert.OutProjIdeal.τ).loc Cert.OutProjIdeal.main_v8_0)) (v1 : (c : Dev Cert.OutProjIdeal.nD) → Buf (Elt Ideal) ((c.tc : Thread Cert.OutProjIdeal.nD Cert.OutProjIdeal.τ).loc Cert.OutProjIdeal.main_v8_1)) (v2 : (c : Dev Cert.OutProjIdeal.nD) → Buf (Elt Ideal) ((c.tc : Thread Cert.OutProjIdeal.nD Cert.OutProjIdeal.τ).loc Cert.OutProjIdeal.main_v8_3)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v8_0) = v0 c
          ∧ r.2.mem ((c.tc : Thread Cert.OutProjIdeal.nD Cert.OutProjIdeal.τ).loc Cert.OutProjIdeal.main_v8_1) = v1 c
          ∧ r.2.mem ((c.tc : Thread Cert.OutProjIdeal.nD Cert.OutProjIdeal.τ).loc Cert.OutProjIdeal.main_v8_3) = v2 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v32) = v0 c
          ∧ r.2.mem ((c.tc : Thread Cert.OutProjRefIdeal.nD Cert.OutProjRefIdeal.τ).loc Cert.OutProjRefIdeal.main_v16) = v1 c
          ∧ r.2.mem ((c.tc : Thread Cert.OutProjRefIdeal.nD Cert.OutProjRefIdeal.τ).loc Cert.OutProjRefIdeal.main_v33) = v2 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6))

def preserves_Gather_GatherIdeal : Prop :=
  True

def algebraic_GatherIdeal_GatherRefIdeal [hGatherIdeal : Cert.GatherIdeal.Facts] [hGatherRefIdeal : Cert.GatherRefIdeal.Facts] [hPre_slot_tok_names_rows : Cert.Pre_slot_tok_names_rows.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherRefIdeal.nD Cert.GatherRefIdeal.τ Cert.GatherRefIdeal.sig) → Buf (Elt Ideal) ℓ) (g' : Dev Cert.GatherRefIdeal.nD → PrngReg), Pre_GatherIdeal m →
    (∀ c : Dev Cert.GatherIdeal.nD,
      m' ((c.tc : Thread Cert.GatherRefIdeal.nD Cert.GatherRefIdeal.τ).loc Cert.GatherRefIdeal.main_arg0) = m ((c.tc : Thread Cert.GatherIdeal.nD Cert.GatherIdeal.τ).loc Cert.GatherIdeal.main_arg0)
      ∧ m' ((c.tc : Thread Cert.GatherRefIdeal.nD Cert.GatherRefIdeal.τ).loc Cert.GatherRefIdeal.main_arg1) = m ((c.tc : Thread Cert.GatherIdeal.nD Cert.GatherIdeal.τ).loc Cert.GatherIdeal.main_arg1)) →
    ∃ (v0 : (c : Dev Cert.GatherIdeal.nD) → Buf (Elt Ideal) ((c.tc : Thread Cert.GatherIdeal.nD Cert.GatherIdeal.τ).loc Cert.GatherIdeal.main_v1)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1) = v0 c
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ θ_run (Cert.GatherRefIdeal.defs (F := Ideal)) (onTc (τ := Cert.GatherRefIdeal.τ) (Cert.GatherRefIdeal.main (F := Ideal))) ⟨m', fun _ => 0, g'⟩ (fun r => ∀ c : Dev Cert.GatherRefIdeal.nD,
          r.2.mem ((c.tc : Thread Cert.GatherRefIdeal.nD Cert.GatherRefIdeal.τ).loc Cert.GatherRefIdeal.main_v6) = v0 c
          ∧ r.2.mem ((c.tc : Thread Cert.GatherRefIdeal.nD Cert.GatherRefIdeal.τ).loc Cert.GatherRefIdeal.main_arg0) = m' ((c.tc : Thread Cert.GatherRefIdeal.nD Cert.GatherRefIdeal.τ).loc Cert.GatherRefIdeal.main_arg0)
          ∧ r.2.mem ((c.tc : Thread Cert.GatherRefIdeal.nD Cert.GatherRefIdeal.τ).loc Cert.GatherRefIdeal.main_arg1) = m' ((c.tc : Thread Cert.GatherRefIdeal.nD Cert.GatherRefIdeal.τ).loc Cert.GatherRefIdeal.main_arg1))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsRefIdeal : Cert.ExpertsRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hGather : Cert.Gather.Facts) (hGatherIdeal : Cert.GatherIdeal.Facts) (hGatherRefIdeal : Cert.GatherRefIdeal.Facts) (hPre_block_e_names_experts : Cert.Pre_block_e_names_experts.Facts) (hPre_slot_tok_names_rows : Cert.Pre_slot_tok_names_rows.Facts),
    quiescent_Kernel (hKernel := hKernel)
    ∧ quiescent_KernelIdeal (hKernelIdeal := hKernelIdeal)
    ∧ quiescent_ReferenceIdeal (hReferenceIdeal := hReferenceIdeal)
    ∧ quiescent_Experts (hExperts := hExperts) (hPre_block_e_names_experts := hPre_block_e_names_experts)
    ∧ quiescent_ExpertsIdeal (hExpertsIdeal := hExpertsIdeal) (hPre_block_e_names_experts := hPre_block_e_names_experts)
    ∧ quiescent_ExpertsRefIdeal (hExpertsRefIdeal := hExpertsRefIdeal)
    ∧ quiescent_ExpertsRefIdeal_pre_block_e_names_experts (hExpertsRefIdeal := hExpertsRefIdeal) (hPre_block_e_names_experts := hPre_block_e_names_experts)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Gather (hGather := hGather) (hPre_slot_tok_names_rows := hPre_slot_tok_names_rows)
    ∧ quiescent_GatherIdeal (hGatherIdeal := hGatherIdeal) (hPre_slot_tok_names_rows := hPre_slot_tok_names_rows)
    ∧ quiescent_GatherRefIdeal (hGatherRefIdeal := hGatherRefIdeal)
    ∧ quiescent_GatherRefIdeal_pre_slot_tok_names_rows (hGatherRefIdeal := hGatherRefIdeal) (hPre_slot_tok_names_rows := hPre_slot_tok_names_rows)
    ∧ preserves_Kernel_KernelIdeal
    ∧ algebraic_KernelIdeal_ReferenceIdeal (hKernelIdeal := hKernelIdeal) (hReferenceIdeal := hReferenceIdeal)
    ∧ preserves_Experts_ExpertsIdeal
    ∧ algebraic_ExpertsIdeal_ExpertsRefIdeal (hExpertsIdeal := hExpertsIdeal) (hExpertsRefIdeal := hExpertsRefIdeal) (hPre_block_e_names_experts := hPre_block_e_names_experts)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_Gather_GatherIdeal
    ∧ algebraic_GatherIdeal_GatherRefIdeal (hGatherIdeal := hGatherIdeal) (hGatherRefIdeal := hGatherRefIdeal) (hPre_slot_tok_names_rows := hPre_slot_tok_names_rows)
-- ==== Pre_block_e_names_experts.lean ====
abbrev S139264x1024 : Shape := ⟨2, ![139264, 1024]⟩
abbrev S544 : Shape := ⟨1, ![544]⟩
abbrev S1 : Shape := ⟨1, ![1]⟩
abbrev S32x1024x1024 : Shape := ⟨3, ![32, 1024, 1024]⟩
abbrev S32x1024 : Shape := ⟨2, ![32, 1024]⟩
abbrev S_ : Shape := ⟨0, ![]⟩

class Facts : Prop where
  bcast_S_S544 : S_.BroadcastsInDim S544 (![] : Fin 0 → Fin S544.rank)

variable [Facts]

def fn {F : FTy → Type} [FloatOps F] (main_arg0 : FVec F S139264x1024 .f32) (main_arg1 : IVec S544 32) (main_arg2 : IVec S1 32) (main_arg3 : FVec F S32x1024x1024 .f32) (main_arg4 : FVec F S32x1024 .f32) (main_arg5 : FVec F S32x1024x1024 .f32) (main_arg6 : FVec F S32x1024 .f32) (main_arg7 : FVec F S32x1024x1024 .f32) (main_arg8 : FVec F S32x1024 .f32) : IVec S544 1 :=
  let main_c : IVec S_ 32 := constantI S_ 32 0#32
  let main_v0 : IVec S544 32 := broadcastInDim S544 ![] bcast_S_S544 main_c
  let main_v1 : IVec S544 1 := cmpi .sge main_arg1 main_v0
  let main_c_0 : IVec S_ 32 := constantI S_ 32 32#32
  let main_v2 : IVec S544 32 := broadcastInDim S544 ![] bcast_S_S544 main_c_0
  let main_v3 : IVec S544 1 := cmpi .slt main_arg1 main_v2
  let main_v4 : IVec S544 1 := andi main_v1 main_v3
  main_v4
-- ==== Pre_slot_tok_names_rows.lean ====
abbrev S32768x1024 : Shape := ⟨2, ![32768, 1024]⟩
abbrev S139264 : Shape := ⟨1, ![139264]⟩
abbrev S_ : Shape := ⟨0, ![]⟩

class Facts : Prop where
  bcast_S_S139264 : S_.BroadcastsInDim S139264 (![] : Fin 0 → Fin S139264.rank)

variable [Facts]

def fn {F : FTy → Type} [FloatOps F] (main_arg0 : FVec F S32768x1024 .f32) (main_arg1 : IVec S139264 32) : IVec S139264 1 :=
  let main_c : IVec S_ 32 := constantI S_ 32 0#32
  let main_v0 : IVec S139264 32 := broadcastInDim S139264 ![] bcast_S_S139264 main_c
  let main_v1 : IVec S139264 1 := cmpi .sge main_arg1 main_v0
  let main_c_0 : IVec S_ 32 := constantI S_ 32 32768#32
  let main_v2 : IVec S139264 32 := broadcastInDim S139264 ![] bcast_S_S139264 main_c_0
  let main_v3 : IVec S139264 1 := cmpi .slt main_arg1 main_v2
  let main_v4 : IVec S139264 1 := andi main_v1 main_v3
  main_v4
-- ==== Kernel.lean ====
abbrev S8x4096x512 : Shape := ⟨3, ![8, 4096, 512]⟩
abbrev S8x513 : Shape := ⟨2, ![8, 513]⟩
abbrev S512 : Shape := ⟨1, ![512]⟩
abbrev S64 : Shape := ⟨1, ![64]⟩
abbrev S576 : Shape := ⟨1, ![576]⟩
abbrev S64x1 : Shape := ⟨2, ![64, 1]⟩
abbrev S_ : Shape := ⟨0, ![]⟩
abbrev S1x576 : Shape := ⟨2, ![1, 576]⟩
abbrev S64x576 : Shape := ⟨2, ![64, 576]⟩
abbrev S64x576x1 : Shape := ⟨3, ![64, 576, 1]⟩
abbrev S8x64x576 : Shape := ⟨3, ![8, 64, 576]⟩
abbrev S1x512 : Shape := ⟨2, ![1, 512]⟩
abbrev S1x64x512 : Shape := ⟨3, ![1, 64, 512]⟩
abbrev S1x4096x512 : Shape := ⟨3, ![1, 4096, 512]⟩
abbrev S64x512 : Shape := ⟨2, ![64, 512]⟩
abbrev S576x512 : Shape := ⟨2, ![576, 512]⟩
abbrev S64x128 : Shape := ⟨2, ![64, 128]⟩
abbrev S576x128 : Shape := ⟨2, ![576, 128]⟩
abbrev S1x64x576 : Shape := ⟨3, ![1, 64, 576]⟩

abbrev nBuf : Space → Nat
  | .hbm => 37
  | .vmem => 10
  | .smem => 0
  | _ => 0

abbrev bufTy : (tb : Table) → Fin (tcTables nBuf tb) → BufTy
  | .hbm, ⟨0, _⟩ => ⟨S8x4096x512, .bf16⟩
  | .hbm, ⟨1, _⟩ => ⟨S8x4096x512, .bf16⟩
  | .hbm, ⟨2, _⟩ => ⟨S8x4096x512, .bf16⟩
  | .hbm, ⟨3, _⟩ => ⟨S8x513, .f32⟩
  | .hbm, ⟨4, _⟩ => ⟨S512, .f32⟩
  | .hbm, ⟨5, _⟩ => ⟨S64, .i32⟩
  | .hbm, ⟨6, _⟩ => ⟨S576, .i32⟩
  | .hbm, ⟨7, _⟩ => ⟨S64x1, .i32⟩
  | .hbm, ⟨8, _⟩ => ⟨S_, .i32⟩
  | .hbm, ⟨9, _⟩ => ⟨S64x1, .i32⟩
  | .hbm, ⟨10, _⟩ => ⟨S64x1, .i32⟩
  | .hbm, ⟨11, _⟩ => ⟨S1x576, .i32⟩
  | .hbm, ⟨12, _⟩ => ⟨S64x576, .i32⟩
  | .hbm, ⟨13, _⟩ => ⟨S64x576, .i32⟩
  | .hbm, ⟨14, _⟩ => ⟨S64x576, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S64x576, .i32⟩
  | .hbm, ⟨19, _⟩ => ⟨S64x576, .i32⟩
  | .hbm, ⟨20, _⟩ => ⟨S_, .i32⟩
  | .hbm, ⟨21, _⟩ => ⟨S64x576, .i32⟩
  | .hbm, ⟨22, _⟩ => ⟨S64x576, .i32⟩
  | .hbm, ⟨23, _⟩ => ⟨S_, .i32⟩
  | .hbm, ⟨24, _⟩ => ⟨S64x576, .i32⟩
  | .hbm, ⟨25, _⟩ => ⟨S64x576, .i32⟩
  | .hbm, ⟨26, _⟩ => ⟨S_, .i32⟩
  | .hbm, ⟨27, _⟩ => ⟨S64x576, .i32⟩
  | .hbm, ⟨28, _⟩ => ⟨S64x576, .i1⟩
  | .hbm, ⟨29, _⟩ => ⟨S_, .i32⟩
  | .hbm, ⟨30, _⟩ => ⟨S64x576, .i32⟩
  | .hbm, ⟨31, _⟩ => ⟨S64x576, .i32⟩
  | .hbm, ⟨32, _⟩ => ⟨S64x576, .i32⟩
  | .hbm, ⟨33, _⟩ => ⟨S64x576x1, .i32⟩
  | .hbm, ⟨34, _⟩ => ⟨S8x64x576, .f32⟩
  | .hbm, ⟨35, _⟩ => ⟨S1x512, .f32⟩
  | .hbm, ⟨36, _⟩ => ⟨S8x4096x512, .f32⟩
  | .local _ .vmem, ⟨0, _⟩ => ⟨S1x64x512, .bf16⟩
  | .local _ .vmem, ⟨1, _⟩ => ⟨S1x64x512, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S8x64x576, .f32⟩
  | .local _ .vmem, ⟨7, _⟩ => ⟨S1x512, .f32⟩
  | .local _ .vmem, ⟨8, _⟩ => ⟨S1x64x512, .f32⟩
  | .local _ .vmem, ⟨9, _⟩ => ⟨S1x64x512, .f32⟩
  | _, _ => ⟨S8x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_c_1 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v9 : Ref sig .tc := ⟨.hbm, 22, rfl⟩
abbrev main_c_2 : Ref sig .tc := ⟨.hbm, 23, rfl⟩
abbrev main_v10 : Ref sig .tc := ⟨.hbm, 24, rfl⟩
abbrev main_v11 : Ref sig .tc := ⟨.hbm, 25, rfl⟩
abbrev main_c_3 : Ref sig .tc := ⟨.hbm, 26, rfl⟩
abbrev main_v12 : Ref sig .tc := ⟨.hbm, 27, rfl⟩
abbrev main_v13 : Ref sig .tc := ⟨.hbm, 28, rfl⟩
abbrev main_c_4 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 64], ![false, false]⟩

def k0_mult1 (i : grid0.Coords) : BitVec 32 :=
  let arg1 : BitVec 32 := BitVec.ofNat 32 (i 1).val
  let c8_i32 : BitVec 32 := 8#32
  let v0 : BitVec 32 := Scalar.subi arg1 c8_i32
  let c0_i32 : BitVec 32 := 0#32
  let v1 : BitVec 32 := Scalar.addi v0 c0_i32
  let c0_i32_0 : BitVec 32 := 0#32
  let v2 : BitVec 32 := Scalar.maxsi v1 c0_i32_0
  let c64_i32 : BitVec 32 := 64#32
  let v3 : BitVec 32 := Scalar.muli v2 c64_i32
  v3
def k0_off1 (i : grid0.Coords) (c0_i32 : BitVec 32) : Fin 3 → Nat :=
  let c0 : Index := 0#32
  let arg1 : BitVec 32 := BitVec.ofNat 32 (i 1).val
  let c8_i32 : BitVec 32 := 8#32
  let v0 : BitVec 32 := Scalar.subi arg1 c8_i32
  let v1 : BitVec 32 := Scalar.addi v0 c0_i32
  let c0_i32_0 : BitVec 32 := 0#32
  let v2 : BitVec 32 := Scalar.maxsi v1 c0_i32_0
  let c64_i32 : BitVec 32 := 64#32
  let v3 : BitVec 32 := Scalar.muli v2 c64_i32
  let v4 : BitVec 32 := v3
  let v5 : Index := Scalar.indexCast v4
  let c0_1 : Index := 0#32
  ![0, v5.toNat, 0]
def k0_mult2 (i : grid0.Coords) : BitVec 32 :=
  let arg1 : BitVec 32 := BitVec.ofNat 32 (i 1).val
  let c8_i32_4 : BitVec 32 := 8#32
  let v11 : BitVec 32 := Scalar.subi arg1 c8_i32_4
  let c1_i32 : BitVec 32 := 1#32
  let v12 : BitVec 32 := Scalar.addi v11 c1_i32
  let c0_i32_5 : BitVec 32 := 0#32
  let v13 : BitVec 32 := Scalar.maxsi v12 c0_i32_5
  let c64_i32_6 : BitVec 32 := 64#32
  let v14 : BitVec 32 := Scalar.muli v13 c64_i32_6
  v14
def k0_mult3 (i : grid0.Coords) : BitVec 32 :=
  let arg1 : BitVec 32 := BitVec.ofNat 32 (i 1).val
  let c8_i32_11 : BitVec 32 := 8#32
  let v22 : BitVec 32 := Scalar.subi arg1 c8_i32_11
  let c2_i32 : BitVec 32 := 2#32
  let v23 : BitVec 32 := Scalar.addi v22 c2_i32
  let c0_i32_12 : BitVec 32 := 0#32
  let v24 : BitVec 32 := Scalar.maxsi v23 c0_i32_12
  let c64_i32_13 : BitVec 32 := 64#32
  let v25 : BitVec 32 := Scalar.muli v24 c64_i32_13
  v25
def k0_mult4 (i : grid0.Coords) : BitVec 32 :=
  let arg1 : BitVec 32 := BitVec.ofNat 32 (i 1).val
  let c8_i32_18 : BitVec 32 := 8#32
  let v33 : BitVec 32 := Scalar.subi arg1 c8_i32_18
  let c3_i32 : BitVec 32 := 3#32
  let v34 : BitVec 32 := Scalar.addi v33 c3_i32
  let c0_i32_19 : BitVec 32 := 0#32
  let v35 : BitVec 32 := Scalar.maxsi v34 c0_i32_19
  let c64_i32_20 : BitVec 32 := 64#32
  let v36 : BitVec 32 := Scalar.muli v35 c64_i32_20
  v36
def k0_mult5 (i : grid0.Coords) : BitVec 32 :=
  let arg1 : BitVec 32 := BitVec.ofNat 32 (i 1).val
  let c8_i32_25 : BitVec 32 := 8#32
  let v44 : BitVec 32 := Scalar.subi arg1 c8_i32_25
  let c4_i32 : BitVec 32 := 4#32
  let v45 : BitVec 32 := Scalar.addi v44 c4_i32
  let c0_i32_26 : BitVec 32 := 0#32
  let v46 : BitVec 32 := Scalar.maxsi v45 c0_i32_26
  let c64_i32_27 : BitVec 32 := 64#32
  let v47 : BitVec 32 := Scalar.muli v46 c64_i32_27
  v47
def k0_mult6 (i : grid0.Coords) : BitVec 32 :=
  let arg1 : BitVec 32 := BitVec.ofNat 32 (i 1).val
  let c8_i32_32 : BitVec 32 := 8#32
  let v55 : BitVec 32 := Scalar.subi arg1 c8_i32_32
  let c5_i32 : BitVec 32 := 5#32
  let v56 : BitVec 32 := Scalar.addi v55 c5_i32
  let c0_i32_33 : BitVec 32 := 0#32
  let v57 : BitVec 32 := Scalar.maxsi v56 c0_i32_33
  let c64_i32_34 : BitVec 32 := 64#32
  let v58 : BitVec 32 := Scalar.muli v57 c64_i32_34
  v58
def k0_mult7 (i : grid0.Coords) : BitVec 32 :=
  let arg1 : BitVec 32 := BitVec.ofNat 32 (i 1).val
  let c8_i32_39 : BitVec 32 := 8#32
  let v66 : BitVec 32 := Scalar.subi arg1 c8_i32_39
  let c6_i32 : BitVec 32 := 6#32
  let v67 : BitVec 32 := Scalar.addi v66 c6_i32
  let c0_i32_40 : BitVec 32 := 0#32
  let v68 : BitVec 32 := Scalar.maxsi v67 c0_i32_40
  let c64_i32_41 : BitVec 32 := 64#32
  let v69 : BitVec 32 := Scalar.muli v68 c64_i32_41
  v69
def k0_mult8 (i : grid0.Coords) : BitVec 32 :=
  let arg1 : BitVec 32 := BitVec.ofNat 32 (i 1).val
  let c8_i32_46 : BitVec 32 := 8#32
  let v77 : BitVec 32 := Scalar.subi arg1 c8_i32_46
  let c7_i32 : BitVec 32 := 7#32
  let v78 : BitVec 32 := Scalar.addi v77 c7_i32
  let c0_i32_47 : BitVec 32 := 0#32
  let v79 : BitVec 32 := Scalar.maxsi v78 c0_i32_47
  let c64_i32_48 : BitVec 32 := 64#32
  let v80 : BitVec 32 := Scalar.muli v79 c64_i32_48
  v80
def k0_mult9 (i : grid0.Coords) : BitVec 32 :=
  let arg1 : BitVec 32 := BitVec.ofNat 32 (i 1).val
  let c8_i32_53 : BitVec 32 := 8#32
  let v88 : BitVec 32 := Scalar.subi arg1 c8_i32_53
  let c8_i32_54 : BitVec 32 := 8#32
  let v89 : BitVec 32 := Scalar.addi v88 c8_i32_54
  let c0_i32_55 : BitVec 32 := 0#32
  let v90 : BitVec 32 := Scalar.maxsi v89 c0_i32_55
  let c64_i32_56 : BitVec 32 := 64#32
  let v91 : BitVec 32 := Scalar.muli v90 c64_i32_56
  v91
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8x64x576 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S8x4096x512 : Shape := ⟨3, ![8, 4096, 512]⟩
abbrev S8x513 : Shape := ⟨2, ![8, 513]⟩
abbrev S512 : Shape := ⟨1, ![512]⟩
abbrev S8x64x64x8x64 : Shape := ⟨5, ![8, 64, 64, 8, 64]⟩
abbrev S_ : Shape := ⟨0, ![]⟩
abbrev S8x72x64x8x64 : Shape := ⟨5, ![8, 72, 64, 8, 64]⟩
abbrev S8x64x576x8x64 : Shape := ⟨5, ![8, 64, 576, 8, 64]⟩
abbrev S8x8x64x64x576 : Shape := ⟨5, ![8, 8, 64, 64, 576]⟩
abbrev S64 : Shape := ⟨1, ![64]⟩
abbrev S576 : Shape := ⟨1, ![576]⟩
abbrev S64x1 : Shape := ⟨2, ![64, 1]⟩
abbrev S1x576 : Shape := ⟨2, ![1, 576]⟩
abbrev S64x576 : Shape := ⟨2, ![64, 576]⟩
abbrev S64x576x1 : Shape := ⟨3, ![64, 576, 1]⟩
abbrev S8x64x576 : Shape := ⟨3, ![8, 64, 576]⟩
abbrev S1x1x64x1x576 : Shape := ⟨5, ![1, 1, 64, 1, 576]⟩
abbrev S1x8x1x64x576 : Shape := ⟨5, ![1, 8, 1, 64, 576]⟩
abbrev S8x8x64x64 : Shape := ⟨4, ![8, 8, 64, 64]⟩
abbrev S8x8x64x64x1 : Shape := ⟨5, ![8, 8, 64, 64, 1]⟩
abbrev S8x64x8x64x64 : Shape := ⟨5, ![8, 64, 8, 64, 64]⟩
abbrev S8x4096 : Shape := ⟨2, ![8, 4096]⟩
abbrev S8x4096x1 : Shape := ⟨3, ![8, 4096, 1]⟩
abbrev S1x1x512 : Shape := ⟨3, ![1, 1, 512]⟩

abbrev nBuf : Space → Nat
  | .hbm => 143
  | .vmem => 0
  | .smem => 0
  | _ => 0

abbrev hbmTy0_0 (i : Nat) : BufTy := match i % 128 with
  | 0 => ⟨S8x4096x512, .bf16⟩
  | 1 => ⟨S8x4096x512, .bf16⟩
  | 2 => ⟨S8x4096x512, .bf16⟩
  | 3 => ⟨S8x513, .f32⟩
  | 4 => ⟨S512, .f32⟩
  | 5 => ⟨S8x4096x512, .f32⟩
  | 6 => ⟨S8x4096x512, .f32⟩
  | 7 => ⟨S8x4096x512, .f32⟩
  | 8 => ⟨S8x64x64x8x64, .f32⟩
  | 9 => ⟨S8x64x64x8x64, .f32⟩
  | 10 => ⟨S_, .i32⟩
  | 11 => ⟨S_, .f32⟩
  | 12 => ⟨S8x72x64x8x64, .f32⟩
  | 13 => ⟨S8x64x64x8x64, .f32⟩
  | 14 => ⟨S8x64x64x8x64, .f32⟩
  | 15 => ⟨S8x64x64x8x64, .f32⟩
  | 16 => ⟨S8x64x64x8x64, .f32⟩
  | 17 => ⟨S8x64x64x8x64, .f32⟩
  | 18 => ⟨S8x64x64x8x64, .f32⟩
  | 19 => ⟨S8x64x64x8x64, .f32⟩
  | 20 => ⟨S8x64x64x8x64, .f32⟩
  | 21 => ⟨S8x64x64x8x64, .f32⟩
  | 22 => ⟨S8x64x576x8x64, .f32⟩
  | 23 => ⟨S8x64x64x8x64, .f32⟩
  | 24 => ⟨S_, .i32⟩
  | 25 => ⟨S_, .f32⟩
  | 26 => ⟨S8x72x64x8x64, .f32⟩
  | 27 => ⟨S8x64x64x8x64, .f32⟩
  | 28 => ⟨S8x64x64x8x64, .f32⟩
  | 29 => ⟨S8x64x64x8x64, .f32⟩
  | 30 => ⟨S8x64x64x8x64, .f32⟩
  | 31 => ⟨S8x64x64x8x64, .f32⟩
  | 32 => ⟨S8x64x64x8x64, .f32⟩
  | 33 => ⟨S8x64x64x8x64, .f32⟩
  | 34 => ⟨S8x64x64x8x64, .f32⟩
  | 35 => ⟨S8x64x64x8x64, .f32⟩
  | 36 => ⟨S8x64x576x8x64, .f32⟩
  | 37 => ⟨S8x8x64x64x576, .f32⟩
  | 38 => ⟨S_, .f32⟩
  | 39 => ⟨S8x8x64x64x576, .f32⟩
  | 40 => ⟨S8x8x64x64x576, .f32⟩
  | 41 => ⟨S64, .i32⟩
  | 42 => ⟨S576, .i32⟩
  | 43 => ⟨S64x1, .i32⟩
  | 44 => ⟨S_, .i32⟩
  | 45 => ⟨S64x1, .i32⟩
  | 46 => ⟨S64x1, .i32⟩
  | 47 => ⟨S1x576, .i32⟩
  | 48 => ⟨S64x576, .i32⟩
  | 49 => ⟨S64x576, .i32⟩
  | 50 => ⟨S64x576, .i32⟩
  | 51 => ⟨S_, .i32⟩
  | 52 => ⟨S_, .i32⟩
  | 53 => ⟨S_, .i32⟩
  | 54 => ⟨S64x576, .i32⟩
  | 55 => ⟨S64x576, .i32⟩
  | 56 => ⟨S_, .i32⟩
  | 57 => ⟨S64x576, .i32⟩
  | 58 => ⟨S64x576, .i32⟩
  | 59 => ⟨S_, .i32⟩
  | 60 => ⟨S64x576, .i32⟩
  | 61 => ⟨S64x576, .i32⟩
  | 62 => ⟨S_, .i32⟩
  | 63 => ⟨S64x576, .i32⟩
  | 64 => ⟨S64x576, .i1⟩
  | 65 => ⟨S_, .i32⟩
  | 66 => ⟨S64x576, .i32⟩
  | 67 => ⟨S64x576, .i32⟩
  | 68 => ⟨S64x576, .i32⟩
  | 69 => ⟨S64x576x1, .i32⟩
  | 70 => ⟨S8x64x576, .f32⟩
  | 71 => ⟨S64, .i32⟩
  | 72 => ⟨S64x1, .i32⟩
  | 73 => ⟨S_, .i32⟩
  | 74 => ⟨S64x1, .i32⟩
  | 75 => ⟨S64x1, .i32⟩
  | 76 => ⟨S1x576, .i32⟩
  | 77 => ⟨S_, .i32⟩
  | 78 => ⟨S_, .i32⟩
  | 79 => ⟨S1x576, .i32⟩
  | 80 => ⟨S1x576, .i32⟩
  | 81 => ⟨S1x576, .i32⟩
  | 82 => ⟨S_, .i32⟩
  | 83 => ⟨S1x576, .i32⟩
  | 84 => ⟨S1x576, .i1⟩
  | 85 => ⟨S1x576, .i32⟩
  | 86 => ⟨S1x576, .i32⟩
  | 87 => ⟨S_, .i32⟩
  | 88 => ⟨S1x576, .i32⟩
  | 89 => ⟨S1x576, .i1⟩
  | 90 => ⟨S1x576, .i1⟩
  | 91 => ⟨S_, .i32⟩
  | 92 => ⟨S1x576, .i32⟩
  | 93 => ⟨S1x576, .i32⟩
  | 94 => ⟨S1x576, .i32⟩
  | 95 => ⟨S64x576, .i32⟩
  | 96 => ⟨S64x576, .i32⟩
  | 97 => ⟨S64x576, .i32⟩
  | 98 => ⟨S_, .i32⟩
  | 99 => ⟨S64x576, .i32⟩
  | 100 => ⟨S64x576, .i1⟩
  | 101 => ⟨S1x1x64x1x576, .i1⟩
  | 102 => ⟨S1x8x1x64x576, .f32⟩
  | 103 => ⟨S8x8x64x64x576, .f32⟩
  | 104 => ⟨S8x8x64x64x576, .f32⟩
  | 105 => ⟨S_, .f32⟩
  | 106 => ⟨S_, .f32⟩
  | 107 => ⟨S8x8x64x64x576, .i1⟩
  | 108 => ⟨S8x8x64x64x576, .f32⟩
  | 109 => ⟨S8x8x64x64x576, .f32⟩
  | 110 => ⟨S_, .f32⟩
  | 111 => ⟨S8x8x64x64, .f32⟩
  | 112 => ⟨S_, .f32⟩
  | 113 => ⟨S8x8x64x64, .f32⟩
  | 114 => ⟨S8x8x64x64, .f32⟩
  | 115 => ⟨S8x8x64x64x1, .f32⟩
  | 116 => ⟨S8x8x64x64x576, .f32⟩
  | 117 => ⟨S8x8x64x64x576, .f32⟩
  | 118 => ⟨S8x8x64x64x576, .f32⟩
  | 119 => ⟨S_, .f32⟩
  | 120 => ⟨S8x8x64x64, .f32⟩
  | 121 => ⟨S8x8x64x64x1, .f32⟩
  | 122 => ⟨S8x8x64x64x576, .f32⟩
  | 123 => ⟨S8x8x64x64x576, .f32⟩
  | 124 => ⟨S8x64x8x64x64, .f32⟩
  | 125 => ⟨S8x64x64x8x64, .f32⟩
  | 126 => ⟨S8x4096x512, .f32⟩
  | 127 => ⟨S8x4096x512, .f32⟩
  | _ => ⟨S8x4096x512, .bf16⟩

abbrev hbmTy0_1 (i : Nat) : BufTy := match i % 128 with
  | 0 => ⟨S_, .f32⟩
  | 1 => ⟨S8x4096, .f32⟩
  | 2 => ⟨S8x4096x1, .f32⟩
  | 3 => ⟨S_, .f32⟩
  | 4 => ⟨S8x4096x1, .f32⟩
  | 5 => ⟨S8x4096x1, .f32⟩
  | 6 => ⟨S_, .f32⟩
  | 7 => ⟨S8x4096x1, .f32⟩
  | 8 => ⟨S8x4096x1, .f32⟩
  | 9 => ⟨S8x4096x1, .f32⟩
  | 10 => ⟨S8x4096x512, .f32⟩
  | 11 => ⟨S8x4096x512, .f32⟩
  | 12 => ⟨S1x1x512, .f32⟩
  | 13 => ⟨S8x4096x512, .f32⟩
  | 14 => ⟨S8x4096x512, .f32⟩
  | _ => ⟨S8x4096x512, .bf16⟩

abbrev hbmTy (i : Nat) : BufTy := match i / 128 with
  | 0 => hbmTy0_0 i
  | 1 => hbmTy0_1 i
  | _ => ⟨S8x4096x512, .bf16⟩

abbrev bufTy : (tb : Table) → Fin (tcTables nBuf tb) → BufTy
  | .hbm, ⟨i, _⟩ => hbmTy i
  | _, _ => ⟨S8x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_0 : Ref sig .tc := ⟨.hbm, 24, rfl⟩
abbrev main_call1_v0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c_1 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_c_2 : Ref sig .tc := ⟨.hbm, 51, rfl⟩
abbrev main_c_3 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_v40 : Ref sig .tc := ⟨.hbm, 58, rfl⟩
abbrev main_c_4 : Ref sig .tc := ⟨.hbm, 59, rfl⟩
abbrev main_v41 : Ref sig .tc := ⟨.hbm, 60, rfl⟩
abbrev main_v42 : Ref sig .tc := ⟨.hbm, 61, rfl⟩
abbrev main_c_5 : Ref sig .tc := ⟨.hbm, 62, rfl⟩
abbrev main_v43 : Ref sig .tc := ⟨.hbm, 63, rfl⟩
abbrev main_v44 : Ref sig .tc := ⟨.hbm, 64, rfl⟩
abbrev main_c_6 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_7 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c_8 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_call3_v3 : Ref sig .tc := ⟨.hbm, 81, rfl⟩
abbrev main_call3_v4 : Ref sig .tc := ⟨.hbm, 82, rfl⟩
abbrev main_call3_v5 : Ref sig .tc := ⟨.hbm, 83, rfl⟩
abbrev main_call3_v6 : Ref sig .tc := ⟨.hbm, 84, rfl⟩
abbrev main_call3_v7 : Ref sig .tc := ⟨.hbm, 85, rfl⟩
abbrev main_call3_v8 : Ref sig .tc := ⟨.hbm, 86, rfl⟩
abbrev main_call3_c : Ref sig .tc := ⟨.hbm, 87, rfl⟩
abbrev main_call3_v9 : Ref sig .tc := ⟨.hbm, 88, rfl⟩
abbrev main_call3_v10 : Ref sig .tc := ⟨.hbm, 89, rfl⟩
abbrev main_call3_v11 : Ref sig .tc := ⟨.hbm, 90, rfl⟩
abbrev main_call3_c_0 : Ref sig .tc := ⟨.hbm, 91, rfl⟩
abbrev main_call3_v12 : Ref sig .tc := ⟨.hbm, 92, rfl⟩
abbrev main_call3_v13 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_c_9 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_cst_10 : Ref sig .tc := ⟨.hbm, 105, rfl⟩
abbrev main_call4_v0 : Ref sig .tc := ⟨.hbm, 106, rfl⟩
abbrev main_call4_v1 : Ref sig .tc := ⟨.hbm, 107, rfl⟩
abbrev main_call4_v2 : Ref sig .tc := ⟨.hbm, 108, rfl⟩
abbrev main_v65 : Ref sig .tc := ⟨.hbm, 109, rfl⟩
abbrev main_cst_11 : Ref sig .tc := ⟨.hbm, 110, rfl⟩
abbrev main_v66 : Ref sig .tc := ⟨.hbm, 111, rfl⟩
abbrev main_cst_12 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_cst_13 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_cst_14 : Ref sig .tc := ⟨.hbm, 128, rfl⟩
abbrev main_v81 : Ref sig .tc := ⟨.hbm, 129, rfl⟩
abbrev main_v82 : Ref sig .tc := ⟨.hbm, 130, rfl⟩
abbrev main_cst_15 : Ref sig .tc := ⟨.hbm, 131, rfl⟩
abbrev main_v83 : Ref sig .tc := ⟨.hbm, 132, rfl⟩
abbrev main_v84 : Ref sig .tc := ⟨.hbm, 133, rfl⟩
abbrev main_cst_16 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩

abbrev nD : Nat := 1
abbrev τ : Topo := Topo.v7x

variable {F : FTy → Type} [FloatOps F]
-- ==== Experts.lean ====
abbrev S139264x1024 : Shape := ⟨2, ![139264, 1024]⟩
abbrev S544 : Shape := ⟨1, ![544]⟩
abbrev S1 : Shape := ⟨1, ![1]⟩
abbrev S32x1024x1024 : Shape := ⟨3, ![32, 1024, 1024]⟩
abbrev S32x1024 : Shape := ⟨2, ![32, 1024]⟩
abbrev S32x1x1024 : Shape := ⟨3, ![32, 1, 1024]⟩
abbrev S256x1024 : Shape := ⟨2, ![256, 1024]⟩
abbrev S1x1024x1024 : Shape := ⟨3, ![1, 1024, 1024]⟩
abbrev S1x1x1024 : Shape := ⟨3, ![1, 1, 1024]⟩
abbrev S1024x1024 : Shape := ⟨2, ![1024, 1024]⟩
abbrev S1x1024 : Shape := ⟨2, ![1, 1024]⟩

abbrev nBuf : Space → Nat
  | .hbm => 14
  | .vmem => 16
  | .smem => 2
  | _ => 0

abbrev bufTy : (tb : Table) → Fin (tcTables nBuf tb) → BufTy
  | .hbm, ⟨0, _⟩ => ⟨S139264x1024, .f32⟩
  | .hbm, ⟨1, _⟩ => ⟨S32x1024x1024, .f32⟩
  | .hbm, ⟨2, _⟩ => ⟨S32x1024, .f32⟩
  | .hbm, ⟨3, _⟩ => ⟨S32x1024x1024, .f32⟩
  | .hbm, ⟨4, _⟩ => ⟨S32x1024, .f32⟩
  | .hbm, ⟨5, _⟩ => ⟨S32x1024x1024, .f32⟩
  | .hbm, ⟨6, _⟩ => ⟨S32x1024, .f32⟩
  | .hbm, ⟨7, _⟩ => ⟨S32x1024x1024, .bf16⟩
  | .hbm, ⟨8, _⟩ => ⟨S32x1x1024, .f32⟩
  | .hbm, ⟨9, _⟩ => ⟨S32x1024x1024, .bf16⟩
  | .hbm, ⟨10, _⟩ => ⟨S32x1x1024, .f32⟩
  | .hbm, ⟨11, _⟩ => ⟨S32x1024x1024, .bf16⟩
  | .hbm, ⟨12, _⟩ => ⟨S32x1x1024, .f32⟩
  | .hbm, ⟨13, _⟩ => ⟨S139264x1024, .f32⟩
  | .local _ .vmem, ⟨0, _⟩ => ⟨S256x1024, .f32⟩
  | .local _ .vmem, ⟨1, _⟩ => ⟨S256x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x1x1024, .f32⟩
  | .local _ .vmem, ⟨9, _⟩ => ⟨S1x1x1024, .f32⟩
  | .local _ .vmem, ⟨10, _⟩ => ⟨S1x1024x1024, .bf16⟩
  | .local _ .vmem, ⟨11, _⟩ => ⟨S1x1024x1024, .bf16⟩
  | .local _ .vmem, ⟨12, _⟩ => ⟨S1x1x1024, .f32⟩
  | .local _ .vmem, ⟨13, _⟩ => ⟨S1x1x1024, .f32⟩
  | .local _ .vmem, ⟨14, _⟩ => ⟨S256x1024, .f32⟩
  | .local _ .vmem, ⟨15, _⟩ => ⟨S256x1024, .f32⟩
  | .local _ .smem, ⟨0, _⟩ => ⟨S544, .i32⟩
  | .local _ .smem, ⟨1, _⟩ => ⟨S1, .i32⟩
  | _, _ => ⟨S139264x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_arg8 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![544], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ExpertsRefIdeal.lean ====
abbrev S139264x1024 : Shape := ⟨2, ![139264, 1024]⟩
abbrev S544 : Shape := ⟨1, ![544]⟩
abbrev S1 : Shape := ⟨1, ![1]⟩
abbrev S32x1024x1024 : Shape := ⟨3, ![32, 1024, 1024]⟩
abbrev S32x1024 : Shape := ⟨2, ![32, 1024]⟩
abbrev S544x256x1024 : Shape := ⟨3, ![544, 256, 1024]⟩
abbrev S_ : Shape := ⟨0, ![]⟩
abbrev S544x1 : Shape := ⟨2, ![544, 1]⟩
abbrev S544x1024x1024 : Shape := ⟨3, ![544, 1024, 1024]⟩
abbrev S544x1024 : Shape := ⟨2, ![544, 1024]⟩
abbrev S544x1x1024 : Shape := ⟨3, ![544, 1, 1024]⟩
abbrev S544x1x1 : Shape := ⟨3, ![544, 1, 1]⟩

abbrev nBuf : Space → Nat
  | .hbm => 114
  | .vmem => 0
  | .smem => 0
  | _ => 0

abbrev bufTy : (tb : Table) → Fin (tcTables nBuf tb) → BufTy
  | .hbm, ⟨0, _⟩ => ⟨S139264x1024, .f32⟩
  | .hbm, ⟨1, _⟩ => ⟨S544, .i32⟩
  | .hbm, ⟨2, _⟩ => ⟨S1, .i32⟩
  | .hbm, ⟨3, _⟩ => ⟨S32x1024x1024, .f32⟩
  | .hbm, ⟨4, _⟩ => ⟨S32x1024, .f32⟩
  | .hbm, ⟨5, _⟩ => ⟨S32x1024x1024, .f32⟩
  | .hbm, ⟨6, _⟩ => ⟨S32x1024, .f32⟩
  | .hbm, ⟨7, _⟩ => ⟨S32x1024x1024, .f32⟩
  | .hbm, ⟨8, _⟩ => ⟨S32x1024, .f32⟩
  | .hbm, ⟨9, _⟩ => ⟨S544x256x1024, .f32⟩
  | .hbm, ⟨10, _⟩ => ⟨S_, .i32⟩
  | .hbm, ⟨11, _⟩ => ⟨S544, .i32⟩
  | .hbm, ⟨12, _⟩ => ⟨S544, .i1⟩
  | .hbm, ⟨13, _⟩ => ⟨S_, .i32⟩
  | .hbm, ⟨14, _⟩ => ⟨S544, .i32⟩
  | .hbm, ⟨15, _⟩ => ⟨S544, .i32⟩
  | .hbm, ⟨16, _⟩ => ⟨S544, .i32⟩
  | .hbm, ⟨17, _⟩ => ⟨S544x1, .i32⟩
  | .hbm, ⟨18, _⟩ => ⟨S544x1024x1024, .f32⟩
  | .hbm, ⟨19, _⟩ => ⟨S_, .i32⟩
  | .hbm, ⟨20, _⟩ => ⟨S544, .i32⟩
  | .hbm, ⟨21, _⟩ => ⟨S544, .i1⟩
  | .hbm, ⟨22, _⟩ => ⟨S_, .i32⟩
  | .hbm, ⟨23, _⟩ => ⟨S544, .i32⟩
  | .hbm, ⟨24, _⟩ => ⟨S544, .i32⟩
  | .hbm, ⟨25, _⟩ => ⟨S544, .i32⟩
  | .hbm, ⟨26, _⟩ => ⟨S544x1, .i32⟩
  | .hbm, ⟨27, _⟩ => ⟨S544x1024, .f32⟩
  | .hbm, ⟨28, _⟩ => ⟨S_, .i32⟩
  | .hbm, ⟨29, _⟩ => ⟨S544, .i32⟩
  | .hbm, ⟨30, _⟩ => ⟨S544, .i1⟩
  | .hbm, ⟨31, _⟩ => ⟨S_, .i32⟩
  | .hbm, ⟨32, _⟩ => ⟨S544, .i32⟩
  | .hbm, ⟨33, _⟩ => ⟨S544, .i32⟩
  | .hbm, ⟨34, _⟩ => ⟨S544, .i32⟩
  | .hbm, ⟨35, _⟩ => ⟨S544x1, .i32⟩
  | .hbm, ⟨36, _⟩ => ⟨S544x1024x1024, .f32⟩
  | .hbm, ⟨37, _⟩ => ⟨S_, .i32⟩
  | .hbm, ⟨38, _⟩ => ⟨S544, .i32⟩
  | .hbm, ⟨39, _⟩ => ⟨S544, .i1⟩
  | .hbm, ⟨40, _⟩ => ⟨S_, .i32⟩
  | .hbm, ⟨41, _⟩ => ⟨S544, .i32⟩
  | .hbm, ⟨42, _⟩ => ⟨S544, .i32⟩
  | .hbm, ⟨43, _⟩ => ⟨S544, .i32⟩
  | .hbm, ⟨44, _⟩ => ⟨S544x1, .i32⟩
  | .hbm, ⟨45, _⟩ => ⟨S544x1024, .f32⟩
  | .hbm, ⟨46, _⟩ => ⟨S_, .i32⟩
  | .hbm, ⟨47, _⟩ => ⟨S544, .i32⟩
  | .hbm, ⟨48, _⟩ => ⟨S544, .i1⟩
  | .hbm, ⟨49, _⟩ => ⟨S_, .i32⟩
  | .hbm, ⟨50, _⟩ => ⟨S544, .i32⟩
  | .hbm, ⟨51, _⟩ => ⟨S544, .i32⟩
  | .hbm, ⟨52, _⟩ => ⟨S544, .i32⟩
  | .hbm, ⟨53, _⟩ => ⟨S544x1, .i32⟩
  | .hbm, ⟨54, _⟩ => ⟨S544x1024x1024, .f32⟩
  | .hbm, ⟨55, _⟩ => ⟨S_, .i32⟩
  | .hbm, ⟨56, _⟩ => ⟨S544, .i32⟩
  | .hbm, ⟨57, _⟩ => ⟨S544, .i1⟩
  | .hbm, ⟨58, _⟩ => ⟨S_, .i32⟩
  | .hbm, ⟨59, _⟩ => ⟨S544, .i32⟩
  | .hbm, ⟨60, _⟩ => ⟨S544, .i32⟩
  | .hbm, ⟨61, _⟩ => ⟨S544, .i32⟩
  | .hbm, ⟨62, _⟩ => ⟨S544x1, .i32⟩
  | .hbm, ⟨63, _⟩ => ⟨S544x1024, .f32⟩
  | .hbm, ⟨64, _⟩ => ⟨S544x256x1024, .f32⟩
  | .hbm, ⟨65, _⟩ => ⟨S544x1x1024, .f32⟩
  | .hbm, ⟨66, _⟩ => ⟨S544x256x1024, .f32⟩
  | .hbm, ⟨67, _⟩ => ⟨S544x256x1024, .f32⟩
  | .hbm, ⟨68, _⟩ => ⟨S544x256x1024, .f32⟩
  | .hbm, ⟨69, _⟩ => ⟨S544x1x1024, .f32⟩
  | .hbm, ⟨70, _⟩ => ⟨S544x256x1024, .f32⟩
  | .hbm, ⟨71, _⟩ => ⟨S544x256x1024, .f32⟩
  | .hbm, ⟨72, _⟩ => ⟨S_, .f32⟩
  | .hbm, ⟨73, _⟩ => ⟨S544x256x1024, .f32⟩
  | .hbm, ⟨74, _⟩ => ⟨S544x256x1024, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S544x256x1024, .f32⟩
  | .hbm, ⟨79, _⟩ => ⟨S544x256x1024, .f32⟩
  | .hbm, ⟨80, _⟩ => ⟨S_, .f32⟩
  | .hbm, ⟨81, _⟩ => ⟨S544x256x1024, .f32⟩
  | .hbm, ⟨82, _⟩ => ⟨S544x256x1024, .f32⟩
  | .hbm, ⟨83, _⟩ => ⟨S_, .f32⟩
  | .hbm, ⟨84, _⟩ => ⟨S544x256x1024, .f32⟩
  | .hbm, ⟨85, _⟩ => ⟨S544x256x1024, .f32⟩
  | .hbm, ⟨86, _⟩ => ⟨S544x256x1024, .f32⟩
  | .hbm, ⟨87, _⟩ => ⟨S544x256x1024, .f32⟩
  | .hbm, ⟨88, _⟩ => ⟨S_, .f32⟩
  | .hbm, ⟨89, _⟩ => ⟨S544x256x1024, .f32⟩
  | .hbm, ⟨90, _⟩ => ⟨S544x256x1024, .f32⟩
  | .hbm, ⟨91, _⟩ => ⟨S_, .f32⟩
  | .hbm, ⟨92, _⟩ => ⟨S544x256x1024, .f32⟩
  | .hbm, ⟨93, _⟩ => ⟨S544x256x1024, .f32⟩
  | .hbm, ⟨94, _⟩ => ⟨S544x256x1024, .f32⟩
  | .hbm, ⟨95, _⟩ => ⟨S_, .f32⟩
  | .hbm, ⟨96, _⟩ => ⟨S544x256x1024, .f32⟩
  | .hbm, ⟨97, _⟩ => ⟨S544x256x1024, .f32⟩
  | .hbm, ⟨98, _⟩ => ⟨S544x256x1024, .f32⟩
  | .hbm, ⟨99, _⟩ => ⟨S544x256x1024, .f32⟩
  | .hbm, ⟨100, _⟩ => ⟨S544x1x1024, .f32⟩
  | .hbm, ⟨101, _⟩ => ⟨S544x256x1024, .f32⟩
  | .hbm, ⟨102, _⟩ => ⟨S544x256x1024, .f32⟩
  | .hbm, ⟨103, _⟩ => ⟨S544, .i32⟩
  | .hbm, ⟨104, _⟩ => ⟨S_, .i32⟩
  | .hbm, ⟨105, _⟩ => ⟨S544, .i32⟩
  | .hbm, ⟨106, _⟩ => ⟨S544, .i1⟩
  | .hbm, ⟨107, _⟩ => ⟨S544x1x1, .i1⟩
  | .hbm, ⟨108, _⟩ => ⟨S_, .f32⟩
  | .hbm, ⟨109, _⟩ => ⟨S_, .f32⟩
  | .hbm, ⟨110, _⟩ => ⟨S544x256x1024, .i1⟩
  | .hbm, ⟨111, _⟩ => ⟨S544x256x1024, .f32⟩
  | .hbm, ⟨112, _⟩ => ⟨S544x256x1024, .f32⟩
  | .hbm, ⟨113, _⟩ => ⟨S139264x1024, .f32⟩
  | _, _ => ⟨S139264x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_v8 : Ref sig .tc := ⟨.hbm, 20, rfl⟩
abbrev main_v9 : Ref sig .tc := ⟨.hbm, 21, rfl⟩
abbrev main_c_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_c_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_c_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_7 : Ref sig .tc := ⟨.hbm, 46, rfl⟩
abbrev main_v29 : Ref sig .tc := ⟨.hbm, 47, rfl⟩
abbrev main_v30 : Ref sig .tc := ⟨.hbm, 48, rfl⟩
abbrev main_c_8 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_9 : Ref sig .tc := ⟨.hbm, 55, rfl⟩
abbrev main_v36 : Ref sig .tc := ⟨.hbm, 56, rfl⟩
abbrev main_v37 : Ref sig .tc := ⟨.hbm, 57, rfl⟩
abbrev main_c_10 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst : Ref sig .tc := ⟨.hbm, 72, rfl⟩
abbrev main_v51 : Ref sig .tc := ⟨.hbm, 73, rfl⟩
abbrev main_v52 : Ref sig .tc := ⟨.hbm, 74, rfl⟩
abbrev main_cst_11 : Ref sig .tc := ⟨.hbm, 75, rfl⟩
abbrev main_cst_12 : Ref sig .tc := ⟨.hbm, 76, rfl⟩
abbrev main_call0_v0 : Ref sig .tc := ⟨.hbm, 77, rfl⟩
abbrev main_call0_v1 : Ref sig .tc := ⟨.hbm, 78, rfl⟩
abbrev main_call0_v2 : Ref sig .tc := ⟨.hbm, 79, rfl⟩
abbrev main_call0_v3 : Ref sig .tc := ⟨.hbm, 80, rfl⟩
abbrev main_call0_v4 : Ref sig .tc := ⟨.hbm, 81, rfl⟩
abbrev main_v53 : Ref sig .tc := ⟨.hbm, 82, rfl⟩
abbrev main_cst_13 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_14 : Ref sig .tc := ⟨.hbm, 88, rfl⟩
abbrev main_v58 : Ref sig .tc := ⟨.hbm, 89, rfl⟩
abbrev main_v59 : Ref sig .tc := ⟨.hbm, 90, rfl⟩
abbrev main_cst_15 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_16 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_17 : Ref sig .tc := ⟨.hbm, 108, rfl⟩
abbrev main_call1_v0 : Ref sig .tc := ⟨.hbm, 109, rfl⟩
abbrev main_call1_v1 : Ref sig .tc := ⟨.hbm, 110, rfl⟩
abbrev main_call1_v2 : Ref sig .tc := ⟨.hbm, 111, rfl⟩
abbrev main_v75 : Ref sig .tc := ⟨.hbm, 112, rfl⟩
abbrev main_v76 : Ref sig .tc := ⟨.hbm, 113, rfl⟩

abbrev nD : Nat := 1
abbrev τ : Topo := Topo.v7x

variable {F : FTy → Type} [FloatOps F]
-- ==== InProj.lean ====
abbrev S8x4096x1024 : Shape := ⟨3, ![8, 4096, 1024]⟩
abbrev S1024 : Shape := ⟨1, ![1024]⟩
abbrev S1024x3592 : Shape := ⟨2, ![1024, 3592]⟩
abbrev S32768x1024 : Shape := ⟨2, ![32768, 1024]⟩
abbrev S1024x8 : Shape := ⟨2, ![1024, 8]⟩
abbrev S_ : Shape := ⟨0, ![]⟩
abbrev S1024x128 : Shape := ⟨2, ![1024, 128]⟩
abbrev S1024x2048 : Shape := ⟨2, ![1024, 2048]⟩
abbrev S1024x1536 : Shape := ⟨2, ![1024, 1536]⟩
abbrev S1024x3712 : Shape := ⟨2, ![1024, 3712]⟩
abbrev S1x1024 : Shape := ⟨2, ![1, 1024]⟩
abbrev S32768x1536 : Shape := ⟨2, ![32768, 1536]⟩
abbrev S32768x512 : Shape := ⟨2, ![32768, 512]⟩
abbrev S32768x128 : Shape := ⟨2, ![32768, 128]⟩
abbrev S512x1024 : Shape := ⟨2, ![512, 1024]⟩
abbrev S512x1536 : Shape := ⟨2, ![512, 1536]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S1024x512 : Shape := ⟨2, ![1024, 512]⟩

abbrev nBuf : Space → Nat
  | .hbm => 19
  | .vmem => 16
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x3592, .f32⟩
  | .hbm, ⟨3, _⟩ => ⟨S32768x1024, .f32⟩
  | .hbm, ⟨4, _⟩ => ⟨S1024x8, .f32⟩
  | .hbm, ⟨5, _⟩ => ⟨S_, .i32⟩
  | .hbm, ⟨6, _⟩ => ⟨S_, .f32⟩
  | .hbm, ⟨7, _⟩ => ⟨S1024x128, .f32⟩
  | .hbm, ⟨8, _⟩ => ⟨S1024x2048, .f32⟩
  | .hbm, ⟨9, _⟩ => ⟨S1024x1536, .f32⟩
  | .hbm, ⟨10, _⟩ => ⟨S1024x3712, .f32⟩
  | .hbm, ⟨11, _⟩ => ⟨S1024x3712, .bf16⟩
  | .hbm, ⟨12, _⟩ => ⟨S1x1024, .f32⟩
  | .hbm, ⟨13, _⟩ => ⟨S32768x1536, .f32⟩
  | .hbm, ⟨14, _⟩ => ⟨S32768x512, .f32⟩
  | .hbm, ⟨15, _⟩ => ⟨S32768x128, .f32⟩
  | .hbm, ⟨16, _⟩ => ⟨S32768x512, .bf16⟩
  | .hbm, ⟨17, _⟩ => ⟨S32768x512, .bf16⟩
  | .hbm, ⟨18, _⟩ => ⟨S32768x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3712, .bf16⟩
  | .local _ .vmem, ⟨4, _⟩ => ⟨S512x1536, .f32⟩
  | .local _ .vmem, ⟨5, _⟩ => ⟨S512x1536, .f32⟩
  | .local _ .vmem, ⟨6, _⟩ => ⟨S512x512, .f32⟩
  | .local _ .vmem, ⟨7, _⟩ => ⟨S512x512, .f32⟩
  | .local _ .vmem, ⟨8, _⟩ => ⟨S512x128, .f32⟩
  | .local _ .vmem, ⟨9, _⟩ => ⟨S512x128, .f32⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev main_v8_4 : Ref sig .tc := ⟨.hbm, 17, rfl⟩
abbrev main_v8_5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3712 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InProjRefIdeal.lean ====
abbrev S8x4096x1024 : Shape := ⟨3, ![8, 4096, 1024]⟩
abbrev S1024 : Shape := ⟨1, ![1024]⟩
abbrev S1024x3592 : Shape := ⟨2, ![1024, 3592]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x3592 : Shape := ⟨3, ![8, 4096, 3592]⟩
abbrev S8x4096x512 : Shape := ⟨3, ![8, 4096, 512]⟩
abbrev S8x4096x4 : Shape := ⟨3, ![8, 4096, 4]⟩
abbrev S8x4096x8 : Shape := ⟨3, ![8, 4096, 8]⟩
abbrev S8x4096x128 : Shape := ⟨3, ![8, 4096, 128]⟩
abbrev S8x4096x1536 : Shape := ⟨3, ![8, 4096, 1536]⟩
abbrev S32768x1536 : Shape := ⟨2, ![32768, 1536]⟩
abbrev S32768x512 : Shape := ⟨2, ![32768, 512]⟩
abbrev S32768x128 : Shape := ⟨2, ![32768, 128]⟩

abbrev nBuf : Space → Nat
  | .hbm => 43
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x3592, .f32⟩
  | .hbm, ⟨3, _⟩ => ⟨S8x4096x1024, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x1, .f32⟩
  | .hbm, ⟨14, _⟩ => ⟨S8x4096x1024, .f32⟩
  | .hbm, ⟨15, _⟩ => ⟨S8x4096x1024, .f32⟩
  | .hbm, ⟨16, _⟩ => ⟨S1x1x1024, .f32⟩
  | .hbm, ⟨17, _⟩ => ⟨S8x4096x1024, .f32⟩
  | .hbm, ⟨18, _⟩ => ⟨S8x4096x1024, .f32⟩
  | .hbm, ⟨19, _⟩ => ⟨S8x4096x3592, .f32⟩
  | .hbm, ⟨20, _⟩ => ⟨S8x4096x512, .f32⟩
  | .hbm, ⟨21, _⟩ => ⟨S8x4096x512, .f32⟩
  | .hbm, ⟨22, _⟩ => ⟨S8x4096x512, .f32⟩
  | .hbm, ⟨23, _⟩ => ⟨S8x4096x512, .f32⟩
  | .hbm, ⟨24, _⟩ => ⟨S8x4096x4, .f32⟩
  | .hbm, ⟨25, _⟩ => ⟨S8x4096x4, .f32⟩
  | .hbm, ⟨26, _⟩ => ⟨S8x4096x512, .f32⟩
  | .hbm, ⟨27, _⟩ => ⟨S8x4096x512, .f32⟩
  | .hbm, ⟨28, _⟩ => ⟨S8x4096x512, .f32⟩
  | .hbm, ⟨29, _⟩ => ⟨S8x4096x8, .f32⟩
  | .hbm, ⟨30, _⟩ => ⟨S_, .i32⟩
  | .hbm, ⟨31, _⟩ => ⟨S_, .f32⟩
  | .hbm, ⟨32, _⟩ => ⟨S8x4096x128, .f32⟩
  | .hbm, ⟨33, _⟩ => ⟨S8x4096x1536, .f32⟩
  | .hbm, ⟨34, _⟩ => ⟨S32768x1536, .f32⟩
  | .hbm, ⟨35, _⟩ => ⟨S32768x512, .f32⟩
  | .hbm, ⟨36, _⟩ => ⟨S32768x128, .f32⟩
  | .hbm, ⟨37, _⟩ => ⟨S32768x512, .f32⟩
  | .hbm, ⟨38, _⟩ => ⟨S32768x512, .bf16⟩
  | .hbm, ⟨39, _⟩ => ⟨S32768x512, .f32⟩
  | .hbm, ⟨40, _⟩ => ⟨S32768x512, .bf16⟩
  | .hbm, ⟨41, _⟩ => ⟨S32768x512, .f32⟩
  | .hbm, ⟨42, _⟩ => ⟨S32768x512, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_c : Ref sig .tc := ⟨.hbm, 30, rfl⟩
abbrev main_call0_v0 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩

abbrev nD : Nat := 1
abbrev τ : Topo := Topo.v7x

variable {F : FTy → Type} [FloatOps F]
-- ==== OutProj.lean ====
abbrev S8x4096x512 : Shape := ⟨3, ![8, 4096, 512]⟩
abbrev S8x4096x1024 : Shape := ⟨3, ![8, 4096, 1024]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S32768x1024 : Shape := ⟨2, ![32768, 1024]⟩
abbrev S_ : Shape := ⟨0, ![]⟩
abbrev S1024x128 : Shape := ⟨2, ![1024, 128]⟩
abbrev S128 : Shape := ⟨1, ![128]⟩
abbrev S1x128 : Shape := ⟨2, ![1, 128]⟩
abbrev S32768x512 : Shape := ⟨2, ![32768, 512]⟩
abbrev S1x1024 : Shape := ⟨2, ![1, 1024]⟩
abbrev S32768x128 : Shape := ⟨2, ![32768, 128]⟩
abbrev S512x512 : Shape := ⟨2, ![512, 512]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 24
  | .vmem => 20
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x1024, .f32⟩
  | .hbm, ⟨3, _⟩ => ⟨S1024x1024, .f32⟩
  | .hbm, ⟨4, _⟩ => ⟨S1024, .f32⟩
  | .hbm, ⟨5, _⟩ => ⟨S1024x32, .f32⟩
  | .hbm, ⟨6, _⟩ => ⟨S32, .f32⟩
  | .hbm, ⟨7, _⟩ => ⟨S32768x1024, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S_, .i32⟩
  | .hbm, ⟨12, _⟩ => ⟨S_, .f32⟩
  | .hbm, ⟨13, _⟩ => ⟨S128, .f32⟩
  | .hbm, ⟨14, _⟩ => ⟨S1x128, .f32⟩
  | .hbm, ⟨15, _⟩ => ⟨S32768x512, .f32⟩
  | .hbm, ⟨16, _⟩ => ⟨S32768x512, .f32⟩
  | .hbm, ⟨17, _⟩ => ⟨S1024x1024, .bf16⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S32768x128, .i32⟩
  | .hbm, ⟨22, _⟩ => ⟨S32768x128, .f32⟩
  | .hbm, ⟨23, _⟩ => ⟨S1x128, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1024, .f32⟩
  | .local _ .vmem, ⟨8, _⟩ => ⟨S1024x128, .f32⟩
  | .local _ .vmem, ⟨9, _⟩ => ⟨S1x128, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x128, .i32⟩
  | .local _ .vmem, ⟨15, _⟩ => ⟨S512x128, .i32⟩
  | .local _ .vmem, ⟨16, _⟩ => ⟨S512x128, .f32⟩
  | .local _ .vmem, ⟨17, _⟩ => ⟨S512x128, .f32⟩
  | .local _ .vmem, ⟨18, _⟩ => ⟨S1x128, .f32⟩
  | .local _ .vmem, ⟨19, _⟩ => ⟨S1x128, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_c_0 : Ref sig .tc := ⟨.hbm, 11, rfl⟩
abbrev main_call1_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev main_v8_2 : Ref sig .tc := ⟨.hbm, 21, rfl⟩
abbrev main_v8_3 : Ref sig .tc := ⟨.hbm, 22, rfl⟩
abbrev main_v8_4 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== OutProjRefIdeal.lean ====
abbrev S8x4096x512 : Shape := ⟨3, ![8, 4096, 512]⟩
abbrev S8x4096x1024 : Shape := ⟨3, ![8, 4096, 1024]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S32768x1024 : Shape := ⟨2, ![32768, 1024]⟩
abbrev S32768x32 : Shape := ⟨2, ![32768, 32]⟩
abbrev S1x32 : Shape := ⟨2, ![1, 32]⟩
abbrev S32768x4 : Shape := ⟨2, ![32768, 4]⟩
abbrev S32768 : Shape := ⟨1, ![32768]⟩
abbrev S32768x1 : Shape := ⟨2, ![32768, 1]⟩
abbrev S32768x128 : Shape := ⟨2, ![32768, 128]⟩

abbrev nBuf : Space → Nat
  | .hbm => 51
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x1024, .f32⟩
  | .hbm, ⟨3, _⟩ => ⟨S1024x1024, .f32⟩
  | .hbm, ⟨4, _⟩ => ⟨S1024, .f32⟩
  | .hbm, ⟨5, _⟩ => ⟨S1024x32, .f32⟩
  | .hbm, ⟨6, _⟩ => ⟨S32, .f32⟩
  | .hbm, ⟨7, _⟩ => ⟨S8x4096x1024, .f32⟩
  | .hbm, ⟨8, _⟩ => ⟨S8x4096x1024, .f32⟩
  | .hbm, ⟨9, _⟩ => ⟨S8x4096x1024, .f32⟩
  | .hbm, ⟨10, _⟩ => ⟨S8x4096x1024, .f32⟩
  | .hbm, ⟨11, _⟩ => ⟨S_, .f32⟩
  | .hbm, ⟨12, _⟩ => ⟨S8x4096, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S_, .f32⟩
  | .hbm, ⟨18, _⟩ => ⟨S8x4096x1, .f32⟩
  | .hbm, ⟨19, _⟩ => ⟨S8x4096x1, .f32⟩
  | .hbm, ⟨20, _⟩ => ⟨S8x4096x1, .f32⟩
  | .hbm, ⟨21, _⟩ => ⟨S8x4096x1024, .f32⟩
  | .hbm, ⟨22, _⟩ => ⟨S8x4096x1024, .f32⟩
  | .hbm, ⟨23, _⟩ => ⟨S1x1x1024, .f32⟩
  | .hbm, ⟨24, _⟩ => ⟨S8x4096x1024, .f32⟩
  | .hbm, ⟨25, _⟩ => ⟨S8x4096x1024, .f32⟩
  | .hbm, ⟨26, _⟩ => ⟨S32768x1024, .f32⟩
  | .hbm, ⟨27, _⟩ => ⟨S32768x32, .f32⟩
  | .hbm, ⟨28, _⟩ => ⟨S1x32, .f32⟩
  | .hbm, ⟨29, _⟩ => ⟨S32768x32, .f32⟩
  | .hbm, ⟨30, _⟩ => ⟨S32768x32, .f32⟩
  | .hbm, ⟨31, _⟩ => ⟨S32768x4, .f32⟩
  | .hbm, ⟨32, _⟩ => ⟨S32768x4, .i32⟩
  | .hbm, ⟨33, _⟩ => ⟨S_, .f32⟩
  | .hbm, ⟨34, _⟩ => ⟨S32768, .f32⟩
  | .hbm, ⟨35, _⟩ => ⟨S_, .f32⟩
  | .hbm, ⟨36, _⟩ => ⟨S32768, .f32⟩
  | .hbm, ⟨37, _⟩ => ⟨S32768, .f32⟩
  | .hbm, ⟨38, _⟩ => ⟨S32768x1, .f32⟩
  | .hbm, ⟨39, _⟩ => ⟨S32768x4, .f32⟩
  | .hbm, ⟨40, _⟩ => ⟨S32768x4, .f32⟩
  | .hbm, ⟨41, _⟩ => ⟨S32768x4, .f32⟩
  | .hbm, ⟨42, _⟩ => ⟨S_, .f32⟩
  | .hbm, ⟨43, _⟩ => ⟨S32768, .f32⟩
  | .hbm, ⟨44, _⟩ => ⟨S32768x1, .f32⟩
  | .hbm, ⟨45, _⟩ => ⟨S32768x4, .f32⟩
  | .hbm, ⟨46, _⟩ => ⟨S32768x4, .f32⟩
  | .hbm, ⟨47, _⟩ => ⟨S32768x1024, .f32⟩
  | .hbm, ⟨48, _⟩ => ⟨S_, .i32⟩
  | .hbm, ⟨49, _⟩ => ⟨S_, .f32⟩
  | .hbm, ⟨50, _⟩ => ⟨S32768x128, .f32⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_values : Ref sig .tc := ⟨.hbm, 31, rfl⟩
abbrev main_indices : Ref sig .tc := ⟨.hbm, 32, rfl⟩
abbrev main_cst_2 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c : Ref sig .tc := ⟨.hbm, 48, rfl⟩
abbrev main_call0_v0 : Ref sig .tc := ⟨.hbm, 49, rfl⟩
abbrev main_v33 : Ref sig .tc := ⟨.hbm, 50, rfl⟩

abbrev nD : Nat := 1
abbrev τ : Topo := Topo.v7x

variable {F : FTy → Type} [FloatOps F]
-- ==== Gather.lean ====
abbrev S32768x1024 : Shape := ⟨2, ![32768, 1024]⟩
abbrev S139264 : Shape := ⟨1, ![139264]⟩
abbrev S544x1x256 : Shape := ⟨3, ![544, 1, 256]⟩
abbrev S139264x1024 : Shape := ⟨2, ![139264, 1024]⟩
abbrev S1x1x256 : Shape := ⟨3, ![1, 1, 256]⟩
abbrev S256x1024 : Shape := ⟨2, ![256, 1024]⟩
abbrev S_ : Shape := ⟨0, ![]⟩
abbrev S1x1x1 : Shape := ⟨3, ![1, 1, 1]⟩
abbrev S1x1024 : Shape := ⟨2, ![1, 1024]⟩

abbrev nBuf : Space → Nat
  | .hbm => 4
  | .vmem => 2
  | .smem => 2
  | _ => 0

abbrev bufTy : (tb : Table) → Fin (tcTables nBuf tb) → BufTy
  | .hbm, ⟨0, _⟩ => ⟨S32768x1024, .f32⟩
  | .hbm, ⟨1, _⟩ => ⟨S139264, .i32⟩
  | .hbm, ⟨2, _⟩ => ⟨S544x1x256, .i32⟩
  | .hbm, ⟨3, _⟩ => ⟨S139264x1024, .f32⟩
  | .local _ .vmem, ⟨0, _⟩ => ⟨S256x1024, .f32⟩
  | .local _ .vmem, ⟨1, _⟩ => ⟨S256x1024, .f32⟩
  | .local _ .smem, ⟨0, _⟩ => ⟨S1x1x256, .i32⟩
  | .local _ .smem, ⟨1, _⟩ => ⟨S1x1x256, .i32⟩
  | _, _ => ⟨S32768x1024, .f32⟩

abbrev bufScoped : (cs : CoreSpace) → Fin (nBuf (.core cs)) → Bool
  | .vmem, ⟨0, _⟩ => true
  | .vmem, ⟨1, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![544], ![false]⟩

@[reducible] def k0_t1_loop : Scf.Loop 32 :=
  let c0_i32 : BitVec 32 := 0#32
  let c256_i32 : BitVec 32 := 256#32
  let v0 : BitVec 32 := Scalar.addi c0_i32 c256_i32
  let c1_i32 : BitVec 32 := 1#32
  ⟨c0_i32, v0, c1_i32⟩
def k0_off1 (k0_t1 : Fin k0_t1_loop.trips) : Fin 3 → Nat :=
  let c0 : Index := 0#32
  let c0_5 : Index := 0#32
  let c0_i32 : BitVec 32 := 0#32
  let c1_i32 : BitVec 32 := 1#32
  let arg5 : BitVec 32 := Scf.iv c0_i32 c1_i32 k0_t1
  let v2 : Index := Scalar.indexCast arg5
  ![0, 0, v2.toNat]
def k0_off2 (k0_t1 : Fin k0_t1_loop.trips) : Fin 2 → Nat :=
  let c0_i32 : BitVec 32 := 0#32
  let c1_i32 : BitVec 32 := 1#32
  let arg5 : BitVec 32 := Scf.iv c0_i32 c1_i32 k0_t1
  let c0_i32_6 : BitVec 32 := 0#32
  ![arg5.toNat, 0]
def k0_off3 (v3 : BitVec 32) : Fin 2 → Nat :=
  let c0_i32_7 : BitVec 32 := 0#32
  ![v3.toNat, 0]

def k0_chk1 (v3 : BitVec 32) : Prop :=
  (∀ a, (k0_off3 v3) a + S1x1024.size a ≤ S32768x1024.size a)
theorem k0_off3_inb : ∀ (v3 : BitVec 32) (k0_hw1 : k0_chk1 v3), ∀ a, (k0_off3 v3) a + S1x1024.size a ≤ S32768x1024.size a := fun v3 k0_hw1 => k0_hw1

@[reducible] def k0_t2_loop : Scf.Loop 32 :=
  let c0_i32_1 : BitVec 32 := 0#32
  let c256_i32_2 : BitVec 32 := 256#32
  let v1 : BitVec 32 := Scalar.addi c0_i32_1 c256_i32_2
  let c1_i32_3 : BitVec 32 := 1#32
  ⟨c0_i32_1, v1, c1_i32_3⟩
def k0_off4 (k0_t2 : Fin k0_t2_loop.trips) : Fin 2 → Nat :=
  let c0_i32_1 : BitVec 32 := 0#32
  let c1_i32_3 : BitVec 32 := 1#32
  let arg5 : BitVec 32 := Scf.iv c0_i32_1 c1_i32_3 k0_t2
  let c0_i32_5 : BitVec 32 := 0#32
  ![arg5.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1x1x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== GatherRefIdeal.lean ====
abbrev S32768x1024 : Shape := ⟨2, ![32768, 1024]⟩
abbrev S139264 : Shape := ⟨1, ![139264]⟩
abbrev S_ : Shape := ⟨0, ![]⟩
abbrev S139264x1 : Shape := ⟨2, ![139264, 1]⟩
abbrev S139264x1024 : Shape := ⟨2, ![139264, 1024]⟩

abbrev nBuf : Space → Nat
  | .hbm => 11
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S139264, .i32⟩
  | .hbm, ⟨2, _⟩ => ⟨S_, .i32⟩
  | .hbm, ⟨3, _⟩ => ⟨S139264, .i32⟩
  | .hbm, ⟨4, _⟩ => ⟨S139264, .i1⟩
  | .hbm, ⟨5, _⟩ => ⟨S_, .i32⟩
  | .hbm, ⟨6, _⟩ => ⟨S139264, .i32⟩
  | .hbm, ⟨7, _⟩ => ⟨S139264, .i32⟩
  | .hbm, ⟨8, _⟩ => ⟨S139264, .i32⟩
  | .hbm, ⟨9, _⟩ => ⟨S139264x1, .i32⟩
  | .hbm, ⟨10, _⟩ => ⟨S139264x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.AttnSpec.lean ====
module

public import Idealize.ShloMosaic.Lib.Pointwise

@[expose] public section

set_option maxRecDepth 16384

noncomputable section

namespace Cert.Attn

open Idealize.ShloMosaic

/-- The score of a key that is not there. -/
abbrev ninf : EReal := Ideal.ofBits .f32 0xFF800000#32

theorem ninf_eq : ninf = ⊥ := by simp [ninf, Ideal.ofBits, Ideal.ieee]

/-- One score's exponential, the greatest score of the row taken off. -/
def ex (sc : Fin 576 → EReal) (x : Fin 576) : EReal := Ideal.exp (sc x - Finset.fold max ninf sc Finset.univ)

/-- The values weighted by the softmax of the scores. -/
def softAvg (sc v : Fin 576 → EReal) : EReal := ∑ x, Ideal.div (ex sc x) (∑ y, ex sc y) * v x

/-- A key that is not there has weight zero. -/
theorem ex_masked (sc : Fin 576 → EReal) (x : Fin 576) (h : sc x = ninf) : ex sc x = 0 := by
  rw [ex, h, ninf_eq, EReal.bot_sub, Ideal.exp_bot]

theorem exp_nonneg (x : EReal) : 0 ≤ Ideal.exp x := by
  induction x with
  | bot => simp
  | top => simp
  | coe r => simpa using (Real.exp_pos r).le

/-- Terms that repeat terms already in a sum leave it as it is, when doubling a term changes nothing. -/
theorem sum_absorb {ι : Type*} [DecidableEq ι] (A B : Finset ι) (g h : ι → EReal) (hg : ∀ i ∈ A, g i + g i = g i)
    (hB : ∀ b ∈ B, ∃ a ∈ A, h b = g a) : ∑ i ∈ A, g i + ∑ i ∈ B, h i = ∑ i ∈ A, g i := by
  induction B using Finset.induction_on with
  | empty => simp
  | insert b B hb ih =>
    rw [Finset.sum_insert hb]
    obtain ⟨a, ha, e⟩ := hB b (Finset.mem_insert_self b B)
    have key : ∑ i ∈ A, g i + h b = ∑ i ∈ A, g i := by
      rw [e, ← Finset.sum_erase_add A g ha, add_assoc, hg a ha]
    rw [← add_assoc, key]
    exact ih fun b hb => hB b (Finset.mem_insert_of_mem hb)

theorem bot_mul_add_self (x : EReal) : (⊥ : EReal) * x + ⊥ * x = ⊥ * x := by
  rcases lt_trichotomy x 0 with h | h | h
  · rw [EReal.bot_mul_of_neg h]; rfl
  · simp [h]
  · rw [EReal.bot_mul_of_pos h]; rfl

/-- The weighted values do not see the values of the keys that are not there: on one side each repeats the value of
    a key that is there, on the other it is zero. -/
theorem softAvg_masked (sc v v' : Fin 576 → EReal) (valid : Fin 576 → Prop) [DecidablePred valid]
    (h1 : ∀ x, ¬ valid x → sc x = ninf) (h2 : ∀ x, valid x → v x = v' x) (h3 : ∀ x, ¬ valid x → v' x = 0)
    (h4 : ∀ x, ¬ valid x → ∃ y, valid y ∧ v x = v y) : softAvg sc v = softAvg sc v' := by
  unfold softAvg
  generalize hS : (∑ y, ex sc y) = S
  by_cases hz : S = 0
  · have hall : ∀ x, ex sc x = 0 := fun x =>
      (Finset.sum_eq_zero_iff_of_nonneg fun i _ => exp_nonneg _).1 (hS.trans hz) x (Finset.mem_univ x)
    have hdiv : ∀ x, Ideal.div (ex sc x) S = ⊥ := fun x => by rw [hall, hz]; simp [Ideal.div]
    simp only [hdiv]
    rw [← Finset.sum_filter_add_sum_filter_not Finset.univ valid (fun x => ⊥ * v x),
      ← Finset.sum_filter_add_sum_filter_not Finset.univ valid (fun x => ⊥ * v' x),
      sum_absorb _ _ _ _ (fun i _ => bot_mul_add_self _), Finset.sum_eq_zero (s := Finset.univ.filter fun x => ¬ valid x), add_zero]
    · exact Finset.sum_congr rfl fun x hx => by rw [h2 x (Finset.mem_filter.1 hx).2]
    · intro x hx; rw [h3 x (Finset.mem_filter.1 hx).2, mul_zero]
    · intro x hx
      obtain ⟨y, hy, e⟩ := h4 x (Finset.mem_filter.1 hx).2
      exact ⟨y, Finset.mem_filter.2 ⟨Finset.mem_univ y, hy⟩, by rw [e]⟩
  · refine Finset.sum_congr rfl fun x _ => ?_
    by_cases hx : valid x
    · rw [h2 x hx]
    · rw [ex_masked sc x (h1 x hx), Ideal.div, if_neg hz, zero_mul, zero_mul, zero_mul]

/-- Root-mean-square normalisation of a row of 512 numbers, times a weight. -/
def rms (o w : Fin 512 → EReal) (l : Fin 512) : EReal :=
  o l * Ideal.rsqrt (Ideal.div (∑ x, o x * o x) (Ideal.ofBits .f32 0x44000000#32) + Ideal.ofBits .f32 0x358637BD#32) * w l

/-- The head of a lane. -/
abbrev headOf (l : Fin 512) : Fin 8 := ⟨l / 64, by omega⟩

/-- The array index of a row of a chunk. -/
abbrev rowOf (n i : Fin 64) : Fin 4096 := ⟨64 * n + i, by omega⟩

abbrev laneOf (h : Fin 8) (d : Fin 64) : Fin 512 := ⟨64 * h + d, by omega⟩

/-- Key `x` of the band of chunk `n` is there. -/
abbrev there (n : Fin 64) (x : Fin 576) : Prop := 512 ≤ 64 * (n : ℕ) + x

/-- The score of query `i` of chunk `n` against key `x` of its band, in head `h` of batch `b`. -/
def score (q k : (⟨3, ![8, 4096, 512]⟩ : Shape).Idx → EReal) (bias : (⟨3, ![8, 64, 576]⟩ : Shape).Idx → EReal)
    (b : Fin 8) (n : Fin 64) (h : Fin 8) (i : Fin 64) (x : Fin 576) : EReal :=
  if hx : there n x then
    (∑ d : Fin 64, q (ix3 b (rowOf n i) (laneOf h d)) * k (ix3 b ⟨64 * (n : ℕ) + x - 512, by omega⟩ (laneOf h d)))
      * Ideal.ofBits .f32 0x3E000000#32 + bias (ix3 h i x)
  else ninf

/-- The value of key `x` of the band of chunk `n`, zero where it is not there. -/
def value (v : (⟨3, ![8, 4096, 512]⟩ : Shape).Idx → EReal) (b : Fin 8) (n : Fin 64) (l : Fin 512) (x : Fin 576) : EReal :=
  if hx : there n x then v (ix3 b ⟨64 * (n : ℕ) + x - 512, by omega⟩ l) else 0

/-- The band attention of one row: every head's weighted values, normalised. -/
def attn (q k v : (⟨3, ![8, 4096, 512]⟩ : Shape).Idx → EReal) (bias : (⟨3, ![8, 64, 576]⟩ : Shape).Idx → EReal)
    (w : (⟨1, ![512]⟩ : Shape).Idx → EReal) (b : Fin 8) (n i : Fin 64) (l : Fin 512) : EReal :=
  rms (fun l => softAvg (score q k bias b n (headOf l) i) (value v b n l)) (fun l => w (ix1 l)) l

end Cert.Attn
end
-- ==== Proof.AttnBlock.lean ====
module

public import proofs.«01_k».proof.Proof.Gen.KernelIdeal.Skeleton
public import Idealize.ShloMosaic.Lib.Pointwise
public import Idealize.ShloMosaic.Lib.Pipeline.ValueKit
public import proofs.«01_k».proof.Proof.AttnSpec

@[expose] public section

set_option maxRecDepth 16384

noncomputable section

namespace Cert.KernelIdeal.Attn

open Cert.KernelIdeal Cert.KernelIdeal.Gen Idealize.ShloMosaic Idealize.ShloMosaic.TcCoe Idealize.SL.Sem

/-- The lane number of each of the 128 lanes of a group of two heads. -/
abbrev lanes : IVec S64x128 32 := iota Kind.tc S64x128 32 [1] iota_S64x128_d1_w32

/-- The scaled products of one head's queries and keys, taken over the 128 lanes of its group with the queries
    outside the head set to zero. -/
def scaled (half : IVec S64x128 1) (qg : FVec Ideal S64x128 .bf16) (kg : FVec Ideal S576x128 .bf16) :
    FVec Ideal S64x576 .f32 :=
  mulf (matmul dot_S64x128_S576x128_S64x576_1_1_0_0_n_n none
      (select half qg (broadcast S64x128 (Scalar.ofBits .bf16 0x0000#16))) kg (constant S64x576 .f32 0x00000000#32))
    (broadcast S64x576 (Scalar.ofBits .f32 0x3E000000#32))

/-- What one group of two heads leaves: each head's weighted values on its own 64 lanes. -/
def group (M : IVec S64x576 1) (qg : FVec Ideal S64x128 .bf16) (kg vg : FVec Ideal S576x128 .bf16)
    (b b' : FVec Ideal S1x64x576 .f32) : FVec Ideal S64x128 .f32 :=
  k0_pay25 M vg (k0_pay25 M vg k0_pay21 k0_pay22 (scaled k0_pay22 qg kg) (k0_pay24 b)) (k0_pay26 lanes)
    (scaled (k0_pay26 lanes) qg kg) (k0_pay24 b')

/-- The four groups side by side. -/
def beside (g0 g1 g2 g3 : FVec Ideal S64x128 .f32) : FVec Ideal S64x512 .f32 :=
  concatenate S64x512 1 [⟨S64x128, g0⟩, ⟨S64x128, g1⟩, ⟨S64x128, g2⟩, ⟨S64x128, g3⟩]
    concatenates_S64x128_S64x128_S64x128_S64x128_S64x512_d1

/-- Rows of 512 numbers normalised by their root mean square and multiplied by the weight. -/
def normed (o : FVec Ideal S64x512 .f32) (nw : FVec Ideal S1x512 .f32) : FVec Ideal S1x64x512 .f32 :=
  shapeCast S1x64x512 (mulf (mulf o (broadcastTo S64x512 (rsqrt (addf (divf
      (shapeCast S64x1 (multiReduction .add [1] S64 (mulf o o) 0x00000000#32 reduces_S64x512_S64 (.inl rfl) rfl)
        shapeCasts_S64_S64x1)
      (broadcast S64x1 (Scalar.ofBits .f32 0x44000000#32))) (broadcast S64x1 (Scalar.ofBits .f32 0x358637BD#32))))
      broadcasts_S64x1_S64x512))
    (broadcastTo S64x512 (shapeCast S1x512 nw shapeCasts_S1x512_S1x512) broadcasts_S1x512_S64x512))
    shapeCasts_S64x512_S1x64x512

/-- What the body stores, from the query chunk `Q`, the window of keys `K` and values `V`, the mask `M`, the eight
    bias tables and the weight: the four groups, normalised. -/
theorem stored_eq (M : IVec S64x576 1) (Q : FVec Ideal S64x512 .bf16) (K V : FVec Ideal S576x512 .bf16)
    (b0 b1 b2 b3 b4 b5 b6 b7 : FVec Ideal S1x64x576 .f32) (nw : FVec Ideal S1x512 .f32) :
    k0_pay1 M (k0_pay29 M (k0_pay20 V) (k0_pay25 M (k0_pay20 V) k0_pay21 k0_pay22 (k0_pay23 K Q) (k0_pay24 b0))
        (k0_pay26 lanes) (k0_pay27 lanes (k0_pay18 Q) (k0_pay19 K)) k0_pay28 b1)
      (k0_pay41 M (k0_pay30 Q) (k0_pay31 K) (k0_pay32 V)
        (k0_pay37 M (k0_pay30 Q) (k0_pay31 K) (k0_pay32 V) k0_pay33 (k0_pay34 lanes) (k0_pay35 lanes) (k0_pay36 lanes) b2)
        (k0_pay38 lanes) (k0_pay39 lanes) (k0_pay40 lanes) (0#32) b3)
      (k0_pay51 M lanes (k0_pay42 Q) (k0_pay43 K) (k0_pay44 V)
        (k0_pay48 M lanes (k0_pay42 Q) (k0_pay43 K) (k0_pay44 V) k0_pay45 (64#32) (k0_pay46 lanes) (k0_pay47 lanes) (0#32) b4)
        (64#32) (k0_pay49 lanes) (k0_pay50 lanes) b5)
      (k0_pay54 V) (k0_pay58 (k0_pay54 V) k0_pay55 (k0_pay56 lanes) (k0_pay57 K M lanes (k0_pay52 Q) b6))
      (k0_pay59 lanes) (k0_pay60 lanes (k0_pay52 Q) (k0_pay53 K) b7) k0_pay61 nw
    = normed (beside (group M (k0_pay18 Q) (k0_pay19 K) (k0_pay20 V) b0 b1)
        (group M (k0_pay30 Q) (k0_pay31 K) (k0_pay32 V) b2 b3)
        (group M (k0_pay42 Q) (k0_pay43 K) (k0_pay44 V) b4 b5)
        (group M (k0_pay52 Q) (k0_pay53 K) (k0_pay54 V) b6 b7)) nw := by
  rfl

/-- The lanes of the group's first head. -/
theorem half0_at (i : Fin 64) (l : Fin 128) : k0_pay22 (ix2 i l) = if (l : ℕ) < 64 then 1#1 else 0#1 := by
  pointwise [k0_pay22]
  revert l; decide +kernel

/-- The lanes of the group's second head. -/
theorem half1_at (i : Fin 64) (l : Fin 128) : k0_pay26 lanes (ix2 i l) = if (l : ℕ) < 64 then 0#1 else 1#1 := by
  pointwise [k0_pay26, lanes]
  revert l; decide +kernel

/-- The scaled products at a query and a key. -/
theorem scaled_at (half : IVec S64x128 1) (qg : FVec Ideal S64x128 .bf16) (kg : FVec Ideal S576x128 .bf16)
    (i : Fin 64) (j : Fin 576) : scaled half qg kg (ix2 i j)
      = (∑ d : Fin 128, Scalar.select (half (ix2 i d)) (qg (ix2 i d) * kg (ix2 j d)) 0) * Ideal.ofBits .f32 0x3E000000#32 := by
  pointwise [scaled]

/-- … in the group's first head. -/
theorem scaled0_at (qg : FVec Ideal S64x128 .bf16) (kg : FVec Ideal S576x128 .bf16) (i : Fin 64) (j : Fin 576) :
    scaled k0_pay22 qg kg (ix2 i j)
      = (∑ d : Fin 64, qg (ix2 i ⟨d, by omega⟩) * kg (ix2 j ⟨d, by omega⟩)) * Ideal.ofBits .f32 0x3E000000#32 := by
  rw [scaled_at, Fin.sum_univ_two_halves 64 64 rfl]
  refine congrArg (· * _) ((congrArg₂ (· + ·) (Finset.sum_congr rfl fun d _ => ?_)
    (Finset.sum_eq_zero fun d _ => ?_)).trans (add_zero _))
  · rw [half0_at, if_pos (by simp)]; rfl
  · rw [half0_at, if_neg (by simp)]; rfl

/-- … in the group's second head. -/
theorem scaled1_at (qg : FVec Ideal S64x128 .bf16) (kg : FVec Ideal S576x128 .bf16) (i : Fin 64) (j : Fin 576) :
    scaled (k0_pay26 lanes) qg kg (ix2 i j)
      = (∑ d : Fin 64, qg (ix2 i ⟨64 + d, by omega⟩) * kg (ix2 j ⟨64 + d, by omega⟩)) * Ideal.ofBits .f32 0x3E000000#32 := by
  rw [scaled_at, Fin.sum_univ_two_halves 64 64 rfl]
  refine congrArg (· * _) ((congrArg₂ (· + ·) (Finset.sum_eq_zero fun d _ => ?_)
    (Finset.sum_congr rfl fun d _ => ?_)).trans (zero_add _))
  · rw [half1_at, if_pos (by simp)]; rfl
  · rw [half1_at, if_neg (by simp)]; rfl

/-- One head's weighted values on its own lanes, what was there before on the others. -/
theorem pay25_at (M : IVec S64x576 1) (vg : FVec Ideal S576x128 .bf16) (p : FVec Ideal S64x128 .f32)
    (half : IVec S64x128 1) (s b : FVec Ideal S64x576 .f32) (i : Fin 64) (l : Fin 128) :
    k0_pay25 M vg p half s b (ix2 i l) = Scalar.select (half (ix2 i l))
      (Cert.Attn.softAvg (fun x => Scalar.select (M (ix2 i x)) (s (ix2 i x) + b (ix2 i x)) Cert.Attn.ninf) fun x => vg (ix2 x l))
      (p (ix2 i l)) := by
  pointwise [k0_pay25, Cert.Attn.softAvg, Cert.Attn.ex, Cert.Attn.ninf]

/-- A group at a lane: the softmax of its head's scores over the values of the lane. -/
theorem group_at (M : IVec S64x576 1) (qg : FVec Ideal S64x128 .bf16) (kg vg : FVec Ideal S576x128 .bf16)
    (b b' : FVec Ideal S1x64x576 .f32) (i : Fin 64) (l : Fin 128) :
    group M qg kg vg b b' (ix2 i l) = Cert.Attn.softAvg (fun x => Scalar.select (M (ix2 i x))
      (if (l : ℕ) < 64 then
        (∑ d : Fin 64, qg (ix2 i ⟨d, by omega⟩) * kg (ix2 x ⟨d, by omega⟩)) * Ideal.ofBits .f32 0x3E000000#32 + b (ix3 0 i x)
       else (∑ d : Fin 64, qg (ix2 i ⟨64 + d, by omega⟩) * kg (ix2 x ⟨64 + d, by omega⟩)) * Ideal.ofBits .f32 0x3E000000#32 + b' (ix3 0 i x))
      Cert.Attn.ninf) fun x => vg (ix2 x l) := by
  have hb : ∀ (b : FVec Ideal S1x64x576 .f32) (x : Fin 576), k0_pay24 b (ix2 i x) = b (ix3 0 i x) := fun b x => by
    pointwise [k0_pay24]
  rw [group, pay25_at, pay25_at, half1_at, half0_at]
  simp only [scaled0_at, scaled1_at, hb]
  by_cases h : (l : ℕ) < 64
  · simp only [if_pos h]; rfl
  · simp only [if_neg h]; rfl

/-- A normalised row. -/
theorem normed_at (o : FVec Ideal S64x512 .f32) (nw : FVec Ideal S1x512 .f32) (i : Fin 64) (l : Fin 512) :
    normed o nw (ix3 0 i l) = Cert.Attn.rms (fun l => o (ix2 i l)) (fun l => nw (ix2 0 l)) l := by
  pointwise [normed, Cert.Attn.rms]

/-- The softmax of one head's scores over a window's values, at a query and a lane. -/
def lane (M : IVec S64x576 1) (Q : FVec Ideal S64x512 .bf16) (K V : FVec Ideal S576x512 .bf16)
    (b : Fin 8 → FVec Ideal S1x64x576 .f32) (i : Fin 64) (l : Fin 512) : EReal :=
  Cert.Attn.softAvg (fun x => Scalar.select (M (ix2 i x))
    ((∑ d : Fin 64, Q (ix2 i (Cert.Attn.laneOf (Cert.Attn.headOf l) d)) * K (ix2 x (Cert.Attn.laneOf (Cert.Attn.headOf l) d)))
      * Ideal.ofBits .f32 0x3E000000#32 + b (Cert.Attn.headOf l) (ix3 0 i x)) Cert.Attn.ninf) fun x => V (ix2 x l)

/-- A group whose queries, keys and values are lanes `128 g …` of the window's is the window's heads there. -/
theorem group_lane (M : IVec S64x576 1) (Q : FVec Ideal S64x512 .bf16) (K V : FVec Ideal S576x512 .bf16)
    (b : Fin 8 → FVec Ideal S1x64x576 .f32) (g : Fin 4) (qg : FVec Ideal S64x128 .bf16) (kg vg : FVec Ideal S576x128 .bf16)
    (hq : ∀ (i : Fin 64) (l : Fin 128), qg (ix2 i l) = Q (ix2 i ⟨128 * g + l, by omega⟩))
    (hk : ∀ (i : Fin 576) (l : Fin 128), kg (ix2 i l) = K (ix2 i ⟨128 * g + l, by omega⟩))
    (hv : ∀ (i : Fin 576) (l : Fin 128), vg (ix2 i l) = V (ix2 i ⟨128 * g + l, by omega⟩)) (i : Fin 64) (l : Fin 128) :
    group M qg kg vg (b ⟨2 * g, by omega⟩) (b ⟨2 * g + 1, by omega⟩) (ix2 i l) = lane M Q K V b i ⟨128 * g + l, by omega⟩ := by
  rw [group_at, lane]
  simp only [hq, hk, hv]
  by_cases h : (l : ℕ) < 64
  · have e : Cert.Attn.headOf ⟨128 * g + l, by omega⟩ = ⟨2 * g, by omega⟩ := Fin.ext (by simp only; omega)
    have e' : ∀ d : Fin 64, Cert.Attn.laneOf ⟨2 * g, by omega⟩ d = ⟨128 * g + d, by omega⟩ := fun d => Fin.ext (by simp only; omega)
    simp only [if_pos h, e, e']
  · have e : Cert.Attn.headOf ⟨128 * g + l, by omega⟩ = ⟨2 * g + 1, by omega⟩ := Fin.ext (by simp only; omega)
    have e' : ∀ d : Fin 64, Cert.Attn.laneOf ⟨2 * g + 1, by omega⟩ d = ⟨128 * g + (64 + d), by omega⟩ := fun d => Fin.ext (by simp only; omega)
    simp only [if_neg h, e, e']

/-- What the body computes before normalising, at a query and a lane. -/
theorem beside_at (M : IVec S64x576 1) (Q : FVec Ideal S64x512 .bf16) (K V : FVec Ideal S576x512 .bf16)
    (b : Fin 8 → FVec Ideal S1x64x576 .f32) (i : Fin 64) (l : Fin 512) :
    beside (group M (k0_pay18 Q) (k0_pay19 K) (k0_pay20 V) (b 0) (b 1))
        (group M (k0_pay30 Q) (k0_pay31 K) (k0_pay32 V) (b 2) (b 3))
        (group M (k0_pay42 Q) (k0_pay43 K) (k0_pay44 V) (b 4) (b 5))
        (group M (k0_pay52 Q) (k0_pay53 K) (k0_pay54 V) (b 6) (b 7)) (ix2 i l) = lane M Q K V b i l := by
  have h0 : ∀ l' : Fin 128, (l : ℕ) = 0 + l' →
      group M (k0_pay18 Q) (k0_pay19 K) (k0_pay20 V) (b 0) (b 1) (ix2 i l') = lane M Q K V b i l := fun l' h =>
    (group_lane M Q K V b 0 (k0_pay18 Q) (k0_pay19 K) (k0_pay20 V) (fun i l => by pointwise [k0_pay18]; blk_ext)
      (fun i l => by pointwise [k0_pay19]; blk_ext) (fun i l => by pointwise [k0_pay20]; blk_ext) i l').trans
      (congrArg _ (Fin.ext (by simpa using h.symm)))
  have h1 : ∀ l' : Fin 128, (l : ℕ) = 128 + l' →
      group M (k0_pay30 Q) (k0_pay31 K) (k0_pay32 V) (b 2) (b 3) (ix2 i l') = lane M Q K V b i l := fun l' h =>
    (group_lane M Q K V b 1 (k0_pay30 Q) (k0_pay31 K) (k0_pay32 V) (fun i l => by pointwise [k0_pay30]; blk_ext)
      (fun i l => by pointwise [k0_pay31]; blk_ext) (fun i l => by pointwise [k0_pay32]; blk_ext) i l').trans
      (congrArg _ (Fin.ext (by simpa using h.symm)))
  have h2 : ∀ l' : Fin 128, (l : ℕ) = 256 + l' →
      group M (k0_pay42 Q) (k0_pay43 K) (k0_pay44 V) (b 4) (b 5) (ix2 i l') = lane M Q K V b i l := fun l' h =>
    (group_lane M Q K V b 2 (k0_pay42 Q) (k0_pay43 K) (k0_pay44 V) (fun i l => by pointwise [k0_pay42]; blk_ext)
      (fun i l => by pointwise [k0_pay43]; blk_ext) (fun i l => by pointwise [k0_pay44]; blk_ext) i l').trans
      (congrArg _ (Fin.ext (by simpa using h.symm)))
  have h3 : ∀ l' : Fin 128, (l : ℕ) = 384 + l' →
      group M (k0_pay52 Q) (k0_pay53 K) (k0_pay54 V) (b 6) (b 7) (ix2 i l') = lane M Q K V b i l := fun l' h =>
    (group_lane M Q K V b 3 (k0_pay52 Q) (k0_pay53 K) (k0_pay54 V) (fun i l => by pointwise [k0_pay52]; blk_ext)
      (fun i l => by pointwise [k0_pay53]; blk_ext) (fun i l => by pointwise [k0_pay54]; blk_ext) i l').trans
      (congrArg _ (Fin.ext (by simpa using h.symm)))
  generalize group M (k0_pay18 Q) (k0_pay19 K) (k0_pay20 V) (b 0) (b 1) = G0 at h0 ⊢
  generalize group M (k0_pay30 Q) (k0_pay31 K) (k0_pay32 V) (b 2) (b 3) = G1 at h1 ⊢
  generalize group M (k0_pay42 Q) (k0_pay43 K) (k0_pay44 V) (b 4) (b 5) = G2 at h2 ⊢
  generalize group M (k0_pay52 Q) (k0_pay53 K) (k0_pay54 V) (b 6) (b 7) = G3 at h3 ⊢
  pointwise [beside]
  split
  · exact h0 _ (by simp)
  split
  · exact h1 _ (by simp; omega)
  split
  · exact h2 _ (by simp; omega)
  · exact h3 _ (by simp; omega)

end Cert.KernelIdeal.Attn
end
-- ==== Proof.AttnWindow.lean ====
module

public import proofs.«01_k».proof.Proof.Gen.KernelIdeal.Value
public import Idealize.ShloMosaic.Lib.Pipeline.ValueKit
public import Idealize.ShloMosaic.Lib.Pointwise
public import proofs.«01_k».proof.Proof.AttnBlock

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat)

/-- The window of keys, row by row: nine chunks one below the other. -/
theorem keys_at (k : Fin 9 → FVec Ideal S1x64x512 .bf16) (x : Fin 576) (l : Fin 512) :
    k0_pay14 (k0_pay2 (k 0)) (k0_pay4 (k 1)) (k0_pay6 (k 2)) (k0_pay8 (k 3)) (k0_pay10 (k 4)) (k0_pay12 (k 5)) (k 6) (k 7) (k 8)
      (ix2 x l) = k ⟨x / 64, by omega⟩ (ix3 0 ⟨x % 64, by omega⟩ l) := by
  have h : ∀ (w : Fin 9) (r : Fin 64), (x : ℕ) = 64 * w + r → k w (ix3 0 r l) = k ⟨x / 64, by omega⟩ (ix3 0 ⟨x % 64, by omega⟩ l) :=
    fun w r h => by
      have e : (⟨x / 64, by omega⟩ : Fin 9) = w := Fin.ext (by simp only; omega)
      have e' : (⟨x % 64, by omega⟩ : Fin 64) = r := Fin.ext (by simp only; omega)
      rw [e, e']
  pointwise [k0_pay14, k0_pay2, k0_pay4, k0_pay6, k0_pay8, k0_pay10, k0_pay12]
  split
  · exact h 0 _ (by simp)
  split
  · exact h 1 _ (by simp; omega)
  split
  · exact h 2 _ (by simp; omega)
  split
  · exact h 3 _ (by simp; omega)
  split
  · exact h 4 _ (by simp; omega)
  split
  · exact h 5 _ (by simp; omega)
  split
  · exact h 6 _ (by simp; omega)
  split
  · exact h 7 _ (by simp; omega)
  · exact h 8 _ (by simp; omega)

/-- The window of values likewise. -/
theorem values_at (k : Fin 9 → FVec Ideal S1x64x512 .bf16) (x : Fin 576) (l : Fin 512) :
    k0_pay15 (k0_pay3 (k 0)) (k0_pay5 (k 1)) (k0_pay7 (k 2)) (k0_pay9 (k 3)) (k0_pay11 (k 4)) (k0_pay13 (k 5)) (k 6) (k 7) (k 8)
      (ix2 x l) = k ⟨x / 64, by omega⟩ (ix3 0 ⟨x % 64, by omega⟩ l) :=
  keys_at k x l

/-- The chunk of keys at window position `w` starts at chunk `n + w - 8`, or at chunk 0 before the first. -/
theorem start_at : ∀ (t : Fin cfg0.N) (w : Fin 9),
    k0_off1 (grid0.coords t) (BitVec.ofNat 32 w) = ![0, 64 * ((grid0.coords t 1).val + w - 8), 0] :=
  (by decide +kernel : ∀ (t : Fin grid0.N) (w : Fin 9), _)

/-- The mask keeps the keys that are there. -/
theorem mask_at (n : Fin 64) (i : Fin 64) (x : Fin 576) :
    k0_pay17 (BitVec.ofNat 32 n) (ix2 i x) = if Cert.Attn.there n x then 1#1 else 0#1 := by
  pointwise [k0_pay17]
  revert n x; decide +kernel

/-- The chunk of a block of keys that window position `w` loads. -/
def chunkOf (X : FVec Ideal S1x4096x512 .bf16) (t : Fin cfg0.N) (w : Fin 9) : FVec Ideal S1x64x512 .bf16 :=
  fun j => X ((Rect.unit (s := S1x4096x512) (k0_off1 (grid0.coords t) (BitVec.ofNat 32 w)) S1x64x512.size
    (k0_off1_inb (grid0.coords t) w)).idx j)

/-- … at a row and a lane. -/
theorem chunkOf_at (X : FVec Ideal S1x4096x512 .bf16) (t : Fin cfg0.N) (w : Fin 9) (r : Fin 64) (l : Fin 512) :
    chunkOf X t w (ix3 0 r l) = X (ix3 0 ⟨(64 * ((grid0.coords t 1).val + w - 8) + r) % 4096, by omega⟩ l) := by
  have h : (grid0.coords t 1).val < 64 := (grid0.coords t 1).isLt
  refine congrArg X (funext fun a => Fin.ext ?_)
  have e := congrFun (start_at t w) a
  show k0_off1 (grid0.coords t) (BitVec.ofNat 32 w) a + 1 * _ = _
  rw [e]
  fin_cases a
  · rfl
  · show 64 * ((grid0.coords t 1).val + w - 8) + 1 * (r : ℕ) = (64 * ((grid0.coords t 1).val + w - 8) + r) % 4096
    omega
  · show 0 + 1 * (l : ℕ) = l
    omega

/-- One head's bias table. -/
def biasOf (B : FVec Ideal S8x64x576 .f32) (h : Fin 8) : FVec Ideal S1x64x576 .f32 :=
  fun j => B ((Rect.unit (s := S8x64x576) ![h, 0, 0] ![1, 64, 576] (by
    intro a; fin_cases a
    · exact h.isLt
    · exact Nat.le_refl _
    · exact Nat.le_refl _)).idx j)

/-- … at a query and a key. -/
theorem biasOf_at (B : FVec Ideal S8x64x576 .f32) (h : Fin 8) (i : Fin 64) (x : Fin 576) :
    biasOf B h (ix3 0 i x) = B (ix3 h i x) := by
  refine congrArg B (funext fun a => Fin.ext ?_)
  fin_cases a
  · rfl
  · show 0 + 1 * (i : ℕ) = i
    omega
  · show 0 + 1 * (x : ℕ) = x
    omega

/-- The query chunk without its leading unit axis. -/
theorem query_at (q : FVec Ideal S1x64x512 .bf16) (i : Fin 64) (l : Fin 512) : k0_pay16 q (ix2 i l) = q (ix3 0 i l) := by
  pointwise [k0_pay16]

/-- The block each window holds at each grid point. -/
theorem idx : ∀ t : Fin cfg0.N, win0_0.index t = ![(grid0.coords t 0).val, (grid0.coords t 1).val, 0]
   ∧ win0_1.index t = ![(grid0.coords t 0).val, 0, 0] ∧ win0_2.index t = ![(grid0.coords t 0).val, 0, 0]
   ∧ win0_3.index t = ![0, 0, 0] ∧ win0_4.index t = ![0, 0]
   ∧ win0_5.index t = ![(grid0.coords t 0).val, (grid0.coords t 1).val, 0] :=
  (by decide +kernel : ∀ t : Fin grid0.N, _)

/-- The window of keys that point `t` gathers from a block of keys. -/
abbrev keysOf (X : FVec Ideal S1x4096x512 .bf16) (t : Fin cfg0.N) : FVec Ideal S576x512 .bf16 :=
  k0_pay14 (k0_pay2 (chunkOf X t 0)) (k0_pay4 (chunkOf X t 1)) (k0_pay6 (chunkOf X t 2)) (k0_pay8 (chunkOf X t 3)) (k0_pay10 (chunkOf X t 4)) (k0_pay12 (chunkOf X t 5)) (chunkOf X t 6) (chunkOf X t 7) (chunkOf X t 8)

/-- The window of values that point `t` gathers from a block of values. -/
abbrev valuesOf (Y : FVec Ideal S1x4096x512 .bf16) (t : Fin cfg0.N) : FVec Ideal S576x512 .bf16 :=
  k0_pay15 (k0_pay3 (chunkOf Y t 0)) (k0_pay5 (chunkOf Y t 1)) (k0_pay7 (chunkOf Y t 2)) (k0_pay9 (chunkOf Y t 3)) (k0_pay11 (chunkOf Y t 4)) (k0_pay13 (chunkOf Y t 5)) (chunkOf Y t 6) (chunkOf Y t 7) (chunkOf Y t 8)

/-- The window of keys at a key and a lane: the row of the array, or of chunk 0 where the key is not there. -/
theorem keysOf_at (X : FVec Ideal S1x4096x512 .bf16) (t : Fin cfg0.N) (x : Fin 576) (l : Fin 512) :
    keysOf X t (ix2 x l) = X (ix3 0 ⟨(64 * ((grid0.coords t 1).val + x / 64 - 8) + x % 64) % 4096, by omega⟩ l) :=
  (keys_at (chunkOf X t) x l).trans (chunkOf_at X t _ _ _)

/-- The window of values likewise. -/
theorem valuesOf_at (X : FVec Ideal S1x4096x512 .bf16) (t : Fin cfg0.N) (x : Fin 576) (l : Fin 512) :
    valuesOf X t (ix2 x l) = X (ix3 0 ⟨(64 * ((grid0.coords t 1).val + x / 64 - 8) + x % 64) % 4096, by omega⟩ l) :=
  (values_at (chunkOf X t) x l).trans (chunkOf_at X t _ _ _)

/-- What point `t` stores from its blocks, at a query and a lane: the attention of the arrays that the blocks are cut from. -/
theorem stored_at (t : Fin cfg0.N) (q : FVec Ideal S1x64x512 .bf16) (X Y : FVec Ideal S1x4096x512 .bf16)
    (B : FVec Ideal S8x64x576 .f32) (nw : FVec Ideal S1x512 .f32) (i : Fin 64) (l : Fin 512) :
    normed (beside
      (group (k0_pay17 (BitVec.ofNat 32 (grid0.coords t 1))) (k0_pay18 (k0_pay16 q)) (k0_pay19 (keysOf X t)) (k0_pay20 (valuesOf Y t)) (biasOf B 0) (biasOf B 1))
      (group (k0_pay17 (BitVec.ofNat 32 (grid0.coords t 1))) (k0_pay30 (k0_pay16 q)) (k0_pay31 (keysOf X t)) (k0_pay32 (valuesOf Y t)) (biasOf B 2) (biasOf B 3))
      (group (k0_pay17 (BitVec.ofNat 32 (grid0.coords t 1))) (k0_pay42 (k0_pay16 q)) (k0_pay43 (keysOf X t)) (k0_pay44 (valuesOf Y t)) (biasOf B 4) (biasOf B 5))
      (group (k0_pay17 (BitVec.ofNat 32 (grid0.coords t 1))) (k0_pay52 (k0_pay16 q)) (k0_pay53 (keysOf X t)) (k0_pay54 (valuesOf Y t)) (biasOf B 6) (biasOf B 7)))
      nw (ix3 0 i l)
    = Cert.Attn.rms (fun l => lane (k0_pay17 (BitVec.ofNat 32 (grid0.coords t 1))) (k0_pay16 q) (keysOf X t) (valuesOf Y t) (biasOf B) i l)
        (fun l => nw (ix2 0 l)) l := by
  rw [normed_at]
  exact congrArg (fun o => Cert.Attn.rms o _ l) (funext fun l => beside_at _ _ _ _ (biasOf B) i l)

/-- A selection on the bit of a proposition. -/
theorem select_if (p : Prop) [Decidable p] (a b : EReal) :
    Scalar.select (if p then 1#1 else 0#1) a b = if p then a else b := by
  by_cases h : p
  · rw [if_pos h, if_pos h]; rfl
  · rw [if_neg h, if_neg h]; rfl

/-- One lane before normalising is the softmax of the band's scores over the band's values. -/
theorem lane_eq (t : Fin cfg0.N) (q : FVec Ideal S1x64x512 .bf16) (X Y : FVec Ideal S1x4096x512 .bf16)
    (B : FVec Ideal S8x64x576 .f32) (aq ak av : (⟨3, ![8, 4096, 512]⟩ : Shape).Idx → EReal) (b : Fin 8) (n : Fin 64)
    (hn : (grid0.coords t 1).val = n) (hq : ∀ i l, q (ix3 0 i l) = aq (ix3 b (Cert.Attn.rowOf n i) l))
    (hX : ∀ r l, X (ix3 0 r l) = ak (ix3 b r l)) (hY : ∀ r l, Y (ix3 0 r l) = av (ix3 b r l)) (i : Fin 64) (l : Fin 512) :
    lane (k0_pay17 (BitVec.ofNat 32 (grid0.coords t 1))) (k0_pay16 q) (keysOf X t) (valuesOf Y t) (biasOf B) i l
      = Cert.Attn.softAvg (Cert.Attn.score aq ak B b n (Cert.Attn.headOf l) i) (Cert.Attn.value av b n l) := by
  have hs : (fun x => Scalar.select (k0_pay17 (BitVec.ofNat 32 (grid0.coords t 1)) (ix2 i x))
      ((∑ d : Fin 64, k0_pay16 q (ix2 i (Cert.Attn.laneOf (Cert.Attn.headOf l) d)) * keysOf X t (ix2 x (Cert.Attn.laneOf (Cert.Attn.headOf l) d)))
      * Ideal.ofBits .f32 0x3E000000#32 + biasOf B (Cert.Attn.headOf l) (ix3 0 i x)) Cert.Attn.ninf)
      = Cert.Attn.score aq ak B b n (Cert.Attn.headOf l) i := by
    funext x
    rw [hn, mask_at, select_if, Cert.Attn.score]
    by_cases hx : Cert.Attn.there n x
    · rw [if_pos hx, dif_pos hx, biasOf_at]
      refine congrArg (· * _ + _) (Finset.sum_congr rfl fun d _ => ?_)
      rw [query_at, hq, keysOf_at, hX]
      refine congrArg (fun r => aq (ix3 b (Cert.Attn.rowOf n i) _) * ak (ix3 b r _)) ?_
      have : (⟨(64 * ((grid0.coords t 1).val + x / 64 - 8) + x % 64) % 4096, by omega⟩ : Fin 4096) = ⟨64 * (n : ℕ) + x - 512, by omega⟩ := by
        refine Fin.ext ?_
        simp only [hn]
        unfold Cert.Attn.there at hx
        omega
      exact this
    · rw [if_neg hx, dif_neg hx]
  rw [lane, hs]
  refine Cert.Attn.softAvg_masked _ _ _ (Cert.Attn.there n) (fun x hx => ?_) (fun x hx => ?_) (fun x hx => ?_) (fun x hx => ?_)
  · rw [Cert.Attn.score, dif_neg hx]
  · rw [valuesOf_at, hY, Cert.Attn.value, dif_pos hx]
    refine congrArg (av ·) ?_
    have : (⟨(64 * ((grid0.coords t 1).val + x / 64 - 8) + x % 64) % 4096, by omega⟩ : Fin 4096) = ⟨64 * (n : ℕ) + x - 512, by omega⟩ := by
      refine Fin.ext ?_
      simp only [hn]
      unfold Cert.Attn.there at hx
      omega
    rw [this]
  · rw [Cert.Attn.value, dif_neg hx]
  · unfold Cert.Attn.there at hx
    refine ⟨⟨(8 - n) * 64 + x % 64, by omega⟩, ?_, ?_⟩
    · show 512 ≤ 64 * (n : ℕ) + ((8 - n) * 64 + x % 64)
      omega
    · rw [valuesOf_at, valuesOf_at]
      refine congrArg (fun r => Y (ix3 0 r l)) (Fin.ext ?_)
      simp only [hn]
      omega

end Cert.KernelIdeal.Attn
end
-- ==== Proof.AttnArray.lean ====
module

public import proofs.«01_k».proof.Proof.Gen.KernelIdeal.Value
public import Idealize.ShloMosaic.Lib.Pipeline.ValueKit
public import Idealize.ShloMosaic.Lib.Pointwise
public import Idealize.ShloMosaic.Lib.StableHlo.ReadAt
public import proofs.«01_k».proof.Proof.AttnWindow

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The attention at equal coordinates. -/
theorem attn_congr (q k v : (⟨3, ![8, 4096, 512]⟩ : Shape).Idx → EReal) (bias : (⟨3, ![8, 64, 576]⟩ : Shape).Idx → EReal)
    (w : (⟨1, ![512]⟩ : Shape).Idx → EReal) {b b' : Fin 8} {n n' i i' : Fin 64} {l l' : Fin 512} (hb : (b : ℕ) = b')
    (hn : (n : ℕ) = n') (hi : (i : ℕ) = i') (hl : (l : ℕ) = l') :
    Cert.Attn.attn q k v bias w b n i l = Cert.Attn.attn q k v bias w b' n' i' l' := by
  rw [Fin.ext hb, Fin.ext hn, Fin.ext hi, Fin.ext hl]

/-- The relative-position bias table that the host looks up before the launch. -/
abbrev biasTable (c : Dev nD) : (⟨3, ![8, 64, 576]⟩ : Shape).Idx → EReal := V m c main_v18

/-- The result of the attention, from the argument arrays and the bias table. -/
def result (c : Dev nD) : S8x4096x512.Idx → EReal := fun j =>
  Cert.Attn.attn (m ((c : Thread nD τ).loc main_arg0)) (m ((c : Thread nD τ).loc main_arg1)) (m ((c : Thread nD τ).loc main_arg2))
    (biasTable m c) (m ((c : Thread nD τ).loc main_arg4)) (j 0) ⟨(j 1).val / 64, by have := (j 1).isLt; exact Nat.div_lt_of_lt_mul this⟩
    ⟨(j 1).val % 64, by omega⟩ (j 2)

/-- The normalisation weight as the launch passes it, a row. -/
theorem weight_at (c : Dev nD) (t : Fin cfg0.N) (l : Fin 512) :
    iblk m c 4 t (ix2 0 l) = m ((c : Thread nD τ).loc main_arg4) (ix1 l) := by
  have e : iblk m c 4 t (ix2 0 l) = V m c main_v19 (ix2 0 l) := by blk_ext [iblk, idx t]
  rw [e]
  unfold V
  after_reads_at

/-- Every point's block of the result is the attention of its chunk. -/
theorem point (c : Dev nD) (t : Fin cfg0.N) (i : Fin 64) (l : Fin 512) :
    Cert.Attn.rms (fun l => lane (k0_pay17 (BitVec.ofNat 32 (grid0.coords t 1))) (k0_pay16 (iblk m c 0 t)) (keysOf (iblk m c 1 t) t)
          (valuesOf (iblk m c 2 t) t) (biasOf (iblk m c 3 t)) i l)
      (fun l => iblk m c 4 t (ix2 0 l)) l
    = Cert.Attn.attn (m ((c : Thread nD τ).loc main_arg0)) (m ((c : Thread nD τ).loc main_arg1)) (m ((c : Thread nD τ).loc main_arg2))
        (biasTable m c) (m ((c : Thread nD τ).loc main_arg4)) (grid0.coords t 0) (grid0.coords t 1) i l := by
  have hB : iblk m c 3 t = biasTable m c := by
    funext j
    blk_ext [iblk, idx t]
  have hw : (fun l => iblk m c 4 t (ix2 0 l)) = fun l => (m ((c : Thread nD τ).loc main_arg4) (ix1 l) : EReal) := funext fun l => weight_at m c t l
  unfold Cert.Attn.attn
  rw [hw]
  refine congrArg (fun o => Cert.Attn.rms o _ l) (funext fun l => ?_)
  refine (lane_eq t _ _ _ _ (m ((c : Thread nD τ).loc main_arg0)) (m ((c : Thread nD τ).loc main_arg1)) (m ((c : Thread nD τ).loc main_arg2))
    (grid0.coords t 0) (grid0.coords t 1) rfl ?_ ?_ ?_ i l).trans ?_
  · intro i l
    blk_ext [iblk, V, idx t]
  · intro i l
    blk_ext [iblk, V, idx t]
  · intro i l
    blk_ext [iblk, V, idx t]
  · rw [hB]

set_option maxHeartbeats 1000000 in
/-- The result array after the run. -/
theorem final (c : Dev nD) : (dats m 0 c).arrAt 5 (cfgs 0).N = result m c := by
  refine (dats m 0 c).arrAt_eq_of_covers 5 _ (by decide +kernel) fun t _ y => ?_
  blk_simp
  rw [after0_5]
  simp only [outsAt0]
  frame_out
  refine (congrFun (stored_eq ..) y).trans ?_
  have hy : y = ix3 0 (y 1) (y 2) := by
    funext a
    fin_cases a
    · exact Fin.ext (by have := (y 0).isLt; simp at this ⊢)
    · rfl
    · rfl
  rw [hy]
  refine (stored_at t (iblk m c 0 t) (iblk m c 1 t) (iblk m c 2 t) (iblk m c 3 t) (iblk m c 4 t) (y 1) (y 2)).trans ?_
  refine (point m c t (y 1) (y 2)).trans ?_
  unfold result
  blk_simp [idx t]
  have h1 : (y 1).val < 64 := (y 1).isLt
  refine attn_congr _ _ _ _ _ ?_ ?_ ?_ ?_
  · blk_simp [idx t]
    simp
  · show (grid0.coords t 1).val = ((grid0.coords t 1).val * 64 + (y 1).val) / 64
    omega
  · show (y 1).val = ((grid0.coords t 1).val * 64 + (y 1).val) % 64
    omega
  · blk_simp [idx t]

end Cert.KernelIdeal.Attn
end
-- ==== Proof.AttnRef.lean ====
module

public import proofs.«01_k».proof.Proof.Gen.ReferenceIdeal.Run
public import Idealize.ShloMosaic.Lib.Pointwise
public import Idealize.ShloMosaic.Lib.Pipeline.ValueKit
public import proofs.«01_k».proof.Proof.AttnSpec

@[expose] public section

set_option maxRecDepth 16384

noncomputable section

namespace Cert.ReferenceIdeal.Attn

open Cert.ReferenceIdeal Cert.ReferenceIdeal.Gen Cert.ReferenceIdeal.Value Idealize.ShloMosaic Idealize.ShloMosaic.TcCoe Idealize.SL.Sem

variable (V0 : Valuation τ sig (Elt Ideal))

/-- The band of every chunk: nine copies of the padded chunks, each one chunk further on, side by side. -/
def band (P : FVec Ideal S8x72x64x8x64 .f32) : FVec Ideal S8x64x576x8x64 .f32 :=
  ((concatenate S8x64x576x8x64 2 [⟨S8x64x64x8x64, ((extractStridedSlice S8x64x64x8x64 ![0, 0, 0, 0, 0] P slices_S8x72x64x8x64_S8x64x64x8x64_0_0_0_0_0) : (⟨S8x64x64x8x64, .f32⟩ : BufTy).Contents (Elt Ideal))⟩, ⟨S8x64x64x8x64, ((extractStridedSlice S8x64x64x8x64 ![0, 1, 0, 0, 0] P slices_S8x72x64x8x64_S8x64x64x8x64_0_1_0_0_0) : (⟨S8x64x64x8x64, .f32⟩ : BufTy).Contents (Elt Ideal))⟩, ⟨S8x64x64x8x64, ((extractStridedSlice S8x64x64x8x64 ![0, 2, 0, 0, 0] P slices_S8x72x64x8x64_S8x64x64x8x64_0_2_0_0_0) : (⟨S8x64x64x8x64, .f32⟩ : BufTy).Contents (Elt Ideal))⟩, ⟨S8x64x64x8x64, ((extractStridedSlice S8x64x64x8x64 ![0, 3, 0, 0, 0] P slices_S8x72x64x8x64_S8x64x64x8x64_0_3_0_0_0) : (⟨S8x64x64x8x64, .f32⟩ : BufTy).Contents (Elt Ideal))⟩, ⟨S8x64x64x8x64, ((extractStridedSlice S8x64x64x8x64 ![0, 4, 0, 0, 0] P slices_S8x72x64x8x64_S8x64x64x8x64_0_4_0_0_0) : (⟨S8x64x64x8x64, .f32⟩ : BufTy).Contents (Elt Ideal))⟩, ⟨S8x64x64x8x64, ((extractStridedSlice S8x64x64x8x64 ![0, 5, 0, 0, 0] P slices_S8x72x64x8x64_S8x64x64x8x64_0_5_0_0_0) : (⟨S8x64x64x8x64, .f32⟩ : BufTy).Contents (Elt Ideal))⟩, ⟨S8x64x64x8x64, ((extractStridedSlice S8x64x64x8x64 ![0, 6, 0, 0, 0] P slices_S8x72x64x8x64_S8x64x64x8x64_0_6_0_0_0) : (⟨S8x64x64x8x64, .f32⟩ : BufTy).Contents (Elt Ideal))⟩, ⟨S8x64x64x8x64, ((extractStridedSlice S8x64x64x8x64 ![0, 7, 0, 0, 0] P slices_S8x72x64x8x64_S8x64x64x8x64_0_7_0_0_0) : (⟨S8x64x64x8x64, .f32⟩ : BufTy).Contents (Elt Ideal))⟩, ⟨S8x64x64x8x64, ((extractStridedSlice S8x64x64x8x64 ![0, 8, 0, 0, 0] P slices_S8x72x64x8x64_S8x64x64x8x64_0_8_0_0_0) : (⟨S8x64x64x8x64, .f32⟩ : BufTy).Contents (Elt Ideal))⟩] concatenates_S8x64x64x8x64_S8x64x64x8x64_S8x64x64x8x64_S8x64x64x8x64_S8x64x64x8x64_S8x64x64x8x64_S8x64x64x8x64_S8x64x64x8x64_S8x64x64x8x64_S8x64x576x8x64_d2 : (⟨S8x64x576x8x64, .f32⟩ : BufTy).Contents (Elt Ideal)))

/-- The relative-position bias table. -/
def biasTable : FVec Ideal S8x64x576 .f32 :=
  (Host.gather gather_S8x513_S64x576x1_S8x64x576_0_1_n_n_1_2_81 (V0 (Proc.devRef .tc main_arg3)) (broadcastInDim S64x576x1 ![0, 1] bcast_S64x576_S64x576x1_0_1 (select (cmpi .slt (res_main_v42 V0) (broadcastInDim S64x576 ![] bcast_S_S64x576 (constantI S_ 32 0#32))) (addi (res_main_v42 V0) (broadcastInDim S64x576 ![] bcast_S_S64x576 (constantI S_ 32 513#32))) (res_main_v42 V0))))

/-- The masked scores, over the band and the bias table. -/
theorem scores_eq : res_main_v65 (F := Ideal) V0 =
  select (broadcastInDim S8x8x64x64x576 ![0, 1, 2, 3, 4] bcast_S1x1x64x1x576_S8x8x64x64x576_0_1_2_3_4 (broadcastInDim S1x1x64x1x576 ![2, 4] bcast_S64x576_S1x1x64x1x576_2_4 (cmpi .sge (addi (broadcastInDim S64x576 ![0, 1] bcast_S64x1_S64x576_0_1 (subi (broadcastInDim S64x1 ![0] bcast_S64_S64x1_0 (iotaInDim S64 32 0)) (broadcastInDim S64x1 ![] bcast_S_S64x1 (constantI S_ 32 8#32)))) (broadcastInDim S64x576 ![0, 1] bcast_S1x576_S64x576_0_1 (select (andi (cmpi .ne (signi (res_main_v54 V0)) (broadcastInDim S1x576 ![] bcast_S_S1x576 (signi (res_main_call3_v0 V0)))) (cmpi .ne (Host.remsi (res_main_v54 V0) (broadcastInDim S1x576 ![] bcast_S_S1x576 (res_main_call3_v0 V0))) (broadcastInDim S1x576 ![] bcast_S_S1x576 (constantI S_ 32 0#32)))) (subi (res_main_call3_v2 V0) (broadcastInDim S1x576 ![] bcast_S_S1x576 (constantI S_ 32 1#32))) (res_main_call3_v2 V0)))) (broadcastInDim S64x576 ![] bcast_S_S64x576 (constantI S_ 32 0#32))))) (addf (mulf (Host.dotGeneral dot_S8x64x64x8x64_S8x64x576x8x64_S8x8x64x64x576_4_4_2_2_031_031 none (shapeCast _ (extf .f32 (V0 (Proc.devRef .tc main_arg0)) bitsLt_bf16_f32) shapeCasts_S8x4096x512_S8x64x64x8x64) (band (res_main_v5 V0))) (broadcastInDim S8x8x64x64x576 ![] bcast_S_S8x8x64x64x576 (constant S_ .f32 0x3E000000#32))) (broadcastInDim S8x8x64x64x576 ![0, 1, 2, 3, 4] bcast_S1x8x1x64x576_S8x8x64x64x576_0_1_2_3_4 (broadcastInDim S1x8x1x64x576 ![1, 3, 4] bcast_S8x64x576_S1x8x1x64x576_1_3_4 (biasTable V0)))) (broadcastInDim S8x8x64x64x576 ![] bcast_S_S8x8x64x64x576 (id (constant S_ .f32 0xFF800000#32))) := rfl

/-- The weighted values, over the band. -/
theorem out_eq : res_main_v79 (F := Ideal) V0 =
  shapeCast _ (transpose S8x64x64x8x64 [0, 1, 4, 2, 3] (Host.dotGeneral dot_S8x64x576x8x64_S8x8x64x64x576_S8x64x8x64x64_2_4_4_3_013_021 none (band (res_main_v17 V0)) (Host.divf (res_main_v72 V0) (broadcastInDim S8x8x64x64x576 ![0, 1, 2, 3, 4] bcast_S8x8x64x64x1_S8x8x64x64x576_0_1_2_3_4 (broadcastInDim S8x8x64x64x1 ![0, 1, 2, 3] bcast_S8x8x64x64_S8x8x64x64x1_0_1_2_3 (Host.reduceAdd (res_main_v72 V0) (constant S_ .f32 0x00000000#32) reducesTo_S8x8x64x64x576_S8x8x64x64_d4 h_S_))))) transposes_S8x64x8x64x64_S8x64x64x8x64_0_1_4_2_3) shapeCasts_S8x64x64x8x64_S8x4096x512 := rfl

/-- The greatest score of every row. -/
def rowMax (S : FVec Ideal S8x8x64x64x576 .f32) : FVec Ideal S8x8x64x64 .f32 :=
  Host.reduce FloatOps.maximumf S (constant S_ .f32 0xFF800000#32) reducesTo_S8x8x64x64x576_S8x8x64x64_d4 h_S_

/-- The greatest score, as a maximum over the keys. -/
theorem rowMax_at (S : FVec Ideal S8x8x64x64x576 .f32) (b : Fin 8) (n : Fin 64) (h : Fin 8) (i : Fin 64) :
    rowMax S (ix4 b h n i) = Finset.fold max Cert.Attn.ninf (fun x => S (ix5 b h n i x)) Finset.univ := by
  have e := Shape.ReducesTo.fold_fiber_r5_a4 reducesTo_S8x8x64x64x576_S8x8x64x64_d4 (ix4 b h n i) (FloatOps.maximumf : Ideal .f32 → Ideal .f32 → Ideal .f32) Cert.Attn.ninf S
  have e' := Host.reduce_eq_fold FloatOps.maximumf S (constant S_ .f32 0xFF800000#32) reducesTo_S8x8x64x64x576_S8x8x64x64_d4 h_S_ (ix4 b h n i)
  exact e'.trans e

/-- The exponentials of scores less a number for every row. -/
def exps (S : FVec Ideal S8x8x64x64x576 .f32) (M : FVec Ideal S8x8x64x64 .f32) : FVec Ideal S8x8x64x64x576 .f32 :=
  Host.exp (subf S (broadcastInDim S8x8x64x64x576 ![0, 1, 2, 3, 4] bcast_S8x8x64x64x1_S8x8x64x64x576_0_1_2_3_4 (broadcastInDim S8x8x64x64x1 ![0, 1, 2, 3] bcast_S8x8x64x64_S8x8x64x64x1_0_1_2_3 (maximumf (broadcastInDim S8x8x64x64 ![] bcast_S_S8x8x64x64 (constant S_ .f32 0xFF800000#32)) M))))

/-- The exponentials, over the scores. -/
theorem exps_eq : res_main_v72 (F := Ideal) V0 = exps (res_main_v65 (F := Ideal) V0) (rowMax (res_main_v65 (F := Ideal) V0)) := rfl

/-- The band at a key: row `x % 64` of padded chunk `n + x / 64`. -/
theorem band_at (P : FVec Ideal S8x72x64x8x64 .f32) (b : Fin 8) (n : Fin 64) (x : Fin 576) (h : Fin 8) (d : Fin 64) :
    band P (ix5 b n x h d) = P (ix5 b ⟨n + x / 64, by omega⟩ ⟨x % 64, by omega⟩ h d) := by
  have key : ∀ (w : Fin 9) (n' : Fin 72) (r : Fin 64), (x : ℕ) = 64 * w + r → (n' : ℕ) = w + n →
      P (ix5 b n' r h d) = P (ix5 b ⟨n + x / 64, by omega⟩ ⟨x % 64, by omega⟩ h d) := by
    intro w n' r hx hn
    have e : (⟨n + x / 64, by omega⟩ : Fin 72) = n' := Fin.ext (by simp only; omega)
    have e' : (⟨x % 64, by omega⟩ : Fin 64) = r := Fin.ext (by simp only; omega)
    rw [e, e']
  pointwise [band]
  split
  · exact key 0 _ _ (by simp) (by simp)
  split
  · exact key 1 _ _ (by simp; omega) (by simp)
  split
  · exact key 2 _ _ (by simp; omega) (by simp)
  split
  · exact key 3 _ _ (by simp; omega) (by simp)
  split
  · exact key 4 _ _ (by simp; omega) (by simp)
  split
  · exact key 5 _ _ (by simp; omega) (by simp)
  split
  · exact key 6 _ _ (by simp; omega) (by simp)
  split
  · exact key 7 _ _ (by simp; omega) (by simp)
  · exact key 8 _ _ (by simp; omega) (by simp)

/-- A padding word is zero. -/
theorem pad_word : (FloatOps.sitofp FTy.f32 0#32 : Ideal .f32) = (0 : EReal) := by
  simp [FloatOps.sitofp, Ideal.scalarOps]

/-- An array read through the band: the row of the key, zero where it is not there. -/
theorem read_band (A : (⟨3, ![8, 4096, 512]⟩ : Shape).Idx → EReal) (P : FVec Ideal S8x72x64x8x64 .f32)
    (hP : ∀ (b : Fin 8) (n : Fin 72) (r : Fin 64) (h : Fin 8) (d : Fin 64), P (ix5 b n r h d)
      = if hn : 8 ≤ (n : ℕ) ∧ (n : ℕ) - 8 < 64 then A (ix3 b ⟨((n : ℕ) - 8) * 64 + r, by omega⟩ ⟨h * 64 + d, by omega⟩) else 0)
    (b : Fin 8) (n : Fin 64) (x : Fin 576) (h : Fin 8) (d : Fin 64) :
    band P (ix5 b n x h d) = Cert.Attn.value A b n (Cert.Attn.laneOf h d) x := by
  rw [band_at, hP, Cert.Attn.value]
  have hl : (⟨h * 64 + d, by omega⟩ : Fin 512) = Cert.Attn.laneOf h d := Fin.ext (by simp only; omega)
  by_cases hx : Cert.Attn.there n x
  · have hx' : 512 ≤ 64 * (n : ℕ) + x := hx
    rw [dif_pos hx, dif_pos (by simp only; omega), hl]
    refine congrArg (fun r => A (ix3 b r _)) (Fin.ext ?_)
    simp only
    omega
  · have hx' : ¬ 512 ≤ 64 * (n : ℕ) + x := hx
    rw [dif_neg hx, dif_neg (by simp only; omega)]

/-- The band of the keys. -/
theorem keys_at (b : Fin 8) (n : Fin 64) (x : Fin 576) (h : Fin 8) (d : Fin 64) :
    band (res_main_v5 (F := Ideal) V0) (ix5 b n x h d)
      = Cert.Attn.value (V0 (Proc.devRef .tc main_arg1)) b n (Cert.Attn.laneOf h d) x := by
  refine read_band (V0 (Proc.devRef .tc main_arg1)) _ (fun b n r h d => ?_) b n x h d
  pointwise [res_main_v5]
  exact dite_congr rfl (fun _ => rfl) fun _ => pad_word

/-- The band of the values. -/
theorem values_at (b : Fin 8) (n : Fin 64) (x : Fin 576) (h : Fin 8) (d : Fin 64) :
    band (res_main_v17 (F := Ideal) V0) (ix5 b n x h d)
      = Cert.Attn.value (V0 (Proc.devRef .tc main_arg2)) b n (Cert.Attn.laneOf h d) x := by
  refine read_band (V0 (Proc.devRef .tc main_arg2)) _ (fun b n r h d => ?_) b n x h d
  pointwise [res_main_v17]
  exact dite_congr rfl (fun _ => rfl) fun _ => pad_word

/-- A selection on the bit of a proposition. -/
theorem select_if (p : Prop) [Decidable p] (a b : EReal) :
    Scalar.select (if p then 1#1 else 0#1) a b = if p then a else b := by
  by_cases h : p
  · rw [if_pos h, if_pos h]; rfl
  · rw [if_neg h, if_neg h]; rfl

/-- The reference's scores. -/
theorem scores_at (b : Fin 8) (n : Fin 64) (h : Fin 8) (i : Fin 64) (x : Fin 576) :
    res_main_v65 (F := Ideal) V0 (ix5 b h n i x)
      = Cert.Attn.score (V0 (Proc.devRef .tc main_arg0)) (V0 (Proc.devRef .tc main_arg1)) (biasTable V0) b n h i x := by
  rw [scores_eq]
  pointwise [res_main_v54, res_main_v32, res_main_call3_v0, res_main_call3_v2]
  have hr : (⟨(n : ℕ) * 64 + i, by omega⟩ : Fin 4096) = Cert.Attn.rowOf n i := Fin.ext (by simp only; omega)
  have hl : ∀ d : Fin 64, (⟨(h : ℕ) * 64 + d, by omega⟩ : Fin 512) = Cert.Attn.laneOf h d := fun d => Fin.ext (by simp only; omega)
  refine (congrArg (fun w => Scalar.select w _ _) (?_ : _ = if Cert.Attn.there n x then 1#1 else 0#1)).trans ?_
  · clear hr hl
    revert n x; decide +kernel
  rw [select_if, Cert.Attn.score]
  by_cases hx : Cert.Attn.there n x
  · rw [if_pos hx, dif_pos hx]
    refine congrArg (fun s : EReal => s * Ideal.ofBits .f32 0x3E000000#32 + _) (Finset.sum_congr rfl fun d _ => ?_)
    rw [hr, hl, keys_at, Cert.Attn.value, dif_pos hx]
  · rw [if_neg hx, dif_neg hx]
    rfl

/-- The floor of a maximum is below everything. -/
theorem max_ninf (y : EReal) : max (Ideal.ofBits FTy.f32 0xFF800000#32) y = y :=
  max_eq_right (le_of_eq_of_le Cert.Attn.ninf_eq bot_le)

/-- The exponentials at a query and a key. -/
theorem exps_ix (S : FVec Ideal S8x8x64x64x576 .f32) (M : FVec Ideal S8x8x64x64 .f32)
    (b : Fin 8) (n : Fin 64) (h : Fin 8) (i : Fin 64) (x : Fin 576) :
    exps S M (ix5 b h n i x) = Ideal.exp (S (ix5 b h n i x) - max (Ideal.ofBits FTy.f32 0xFF800000#32) (M (ix4 b h n i))) := by
  pointwise [exps]

/-- The exponentials at a query and a key, below the greatest score of the row. -/
theorem exps_at (S : FVec Ideal S8x8x64x64x576 .f32) (b : Fin 8) (n : Fin 64) (h : Fin 8) (i : Fin 64) (x : Fin 576) :
    exps S (rowMax S) (ix5 b h n i x) = Cert.Attn.ex (fun x => S (ix5 b h n i x)) x := by
  rw [exps_ix, max_ninf, rowMax_at, Cert.Attn.ex]

/-- The weighted values at a row and a lane. -/
theorem out_at (b : Fin 8) (r : Fin 4096) (l : Fin 512) :
    res_main_v79 (F := Ideal) V0 (ix3 b r l)
      = Cert.Attn.softAvg (Cert.Attn.score (V0 (Proc.devRef .tc main_arg0)) (V0 (Proc.devRef .tc main_arg1)) (biasTable V0) b
          ⟨r / 64, by omega⟩ (Cert.Attn.headOf l) ⟨r % 64, by omega⟩)
        (Cert.Attn.value (V0 (Proc.devRef .tc main_arg2)) b ⟨r / 64, by omega⟩ l) := by
  rw [out_eq]
  pointwise []
  have hl : Cert.Attn.laneOf ⟨(l : ℕ) / 64, by omega⟩ ⟨(l : ℕ) % 64, by omega⟩ = l := Fin.ext (by simp only; omega)
  simp only [exps_eq, exps_at, scores_at, values_at, hl]
  exact Finset.sum_congr (M := EReal) rfl fun x _ => mul_comm (G := EReal) _ _

end Cert.ReferenceIdeal.Attn
end
-- ==== Proof.AttnEq.lean ====
module

public import proofs.«01_k».proof.Proof.AttnArray
public import proofs.«01_k».proof.Proof.AttnRef

@[expose] public section

set_option maxRecDepth 16384

noncomputable section

namespace Cert.ReferenceIdeal.Attn

open Cert.ReferenceIdeal Cert.ReferenceIdeal.Gen Cert.ReferenceIdeal.Value Idealize.ShloMosaic Idealize.ShloMosaic.TcCoe Idealize.SL.Sem

variable (V0 : Valuation τ sig (Elt Ideal))

/-- The rows the reference stores, over the weighted values and the weights of the norm. -/
def normedRows (O : FVec Ideal S8x4096x512 .f32) (W : FVec Ideal S512 .f32) : FVec Ideal S8x4096x512 .f32 :=
  (mulf (mulf O (broadcastInDim S8x4096x512 ![0, 1, 2] bcast_S8x4096x1_S8x4096x512_0_1_2 (Host.rsqrt (addf (Host.divf (broadcastInDim S8x4096x1 ![0, 1] bcast_S8x4096_S8x4096x1_0_1 (Host.reduceAdd (mulf O O) (constant S_ .f32 0x00000000#32) reducesTo_S8x4096x512_S8x4096_d2 h_S_)) (broadcastInDim S8x4096x1 ![] bcast_S_S8x4096x1 (constant S_ .f32 0x44000000#32))) (broadcastInDim S8x4096x1 ![] bcast_S_S8x4096x1 (constant S_ .f32 0x358637BD#32)))))) (broadcastInDim S8x4096x512 ![0, 1, 2] bcast_S1x1x512_S8x4096x512_0_1_2 (broadcastInDim S1x1x512 ![2] bcast_S512_S1x1x512_2 W)))

/-- The normalised rows at a row and a lane. -/
theorem normedRows_at (O : FVec Ideal S8x4096x512 .f32) (W : FVec Ideal S512 .f32) (b : Fin 8) (r : Fin 4096) (l : Fin 512) :
    normedRows O W (ix3 b r l) = Cert.Attn.rms (fun l => O (ix3 b r l)) (fun l => W (ix1 l)) l := by
  pointwise [normedRows, Cert.Attn.rms]

/-- What the reference returns, at an index: the band attention. -/
theorem result_at (b : Fin 8) (r : Fin 4096) (l : Fin 512) :
    normedRows (res_main_v79 (F := Ideal) V0) (V0 (Proc.devRef .tc main_arg4)) (ix3 b r l)
      = Cert.Attn.attn (V0 (Proc.devRef .tc main_arg0)) (V0 (Proc.devRef .tc main_arg1)) (V0 (Proc.devRef .tc main_arg2)) (biasTable V0)
          (V0 (Proc.devRef .tc main_arg4)) b ⟨r / 64, by omega⟩ ⟨r % 64, by omega⟩ l := by
  rw [normedRows_at]
  unfold Cert.Attn.attn
  simp only [out_at]

end Cert.ReferenceIdeal.Attn
end

namespace Cert.KernelIdeal.Attn

open Cert.KernelIdeal Cert.KernelIdeal.Gen Idealize.ShloMosaic Idealize.ShloMosaic.TcCoe Idealize.SL.Sem

/-- Both programs look the bias up at the same indices. -/
theorem biasTable_eq (m : (ℓ : Loc nD τ sig) → Buf (Elt Ideal) ℓ) (c : Dev nD) (V0 : Valuation Cert.ReferenceIdeal.τ Cert.ReferenceIdeal.sig (Elt Ideal))
    (h : V0 (Proc.devRef .tc Cert.ReferenceIdeal.main_arg3) = m ((c : Thread nD τ).loc main_arg3)) :
    biasTable m c = Cert.ReferenceIdeal.Attn.biasTable V0 := by
  unfold biasTable Cert.ReferenceIdeal.Attn.biasTable
  rw [h]
  unfold V
  funext x
  after_reads_at
  rfl

/-- What the reference returns is what the kernel's array holds, when the arguments agree. -/
theorem equation (m : (ℓ : Loc nD τ sig) → Buf (Elt Ideal) ℓ) (c : Dev nD) (V0 : Valuation Cert.ReferenceIdeal.τ Cert.ReferenceIdeal.sig (Elt Ideal))
    (h0 : V0 (Proc.devRef .tc Cert.ReferenceIdeal.main_arg0) = m ((c : Thread nD τ).loc main_arg0))
    (h1 : V0 (Proc.devRef .tc Cert.ReferenceIdeal.main_arg1) = m ((c : Thread nD τ).loc main_arg1))
    (h2 : V0 (Proc.devRef .tc Cert.ReferenceIdeal.main_arg2) = m ((c : Thread nD τ).loc main_arg2))
    (h3 : V0 (Proc.devRef .tc Cert.ReferenceIdeal.main_arg3) = m ((c : Thread nD τ).loc main_arg3))
    (h4 : V0 (Proc.devRef .tc Cert.ReferenceIdeal.main_arg4) = m ((c : Thread nD τ).loc main_arg4)) :
    Cert.ReferenceIdeal.Attn.normedRows (Cert.ReferenceIdeal.Value.res_main_v79 (F := Ideal) V0)
        (V0 (Proc.devRef .tc Cert.ReferenceIdeal.main_arg4))
      = (dats m 0 c).arrAt 5 cfg0.N := by
  refine Eq.trans (funext fun j => ?_) (final m c).symm
  obtain ⟨b, r, l, rfl⟩ : ∃ (b : Fin 8) (r : Fin 4096) (l : Fin 512), j = ix3 b r l := ⟨j 0, j 1, j 2, by blk_ext⟩
  refine (Cert.ReferenceIdeal.Attn.result_at V0 b r l).trans ?_
  rw [← biasTable_eq m c V0 h3, h0, h1, h2, h4]
  rfl

end Cert.KernelIdeal.Attn
end
-- ==== Proof.ExpertsIdealFrame.lean ====
/- The launch of `ExpertsIdeal`: the experts' call under its two control tables. The frame: it runs to its end at any
   tables whose expert words name a block of the weight arrays, and what each grid point leaves in the output. -/
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Claim

@[expose] public section

set_option maxRecDepth 16384

noncomputable section

namespace Cert.ExpertsIdeal.Own

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the call -/

/-- Core `c`'s buffers when the call is entered: the weights cast and the biases reshaped. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main is the host operations and then the call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation writes an argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.reshape_writes, Finset.mem_singleton]
    repeat' apply And.intro
    all_goals exact StableHlo.devRef_ne_of_ne (by decide)))

/-! ## The control tables -/

/-- The tables' contents as the call finds them. -/
def tbl : pre0.Contents (Elt F) := fun j => V m (0 : Dev nD) (pre0.ref j)

theorem V_pre (c : Dev nD) (j : Fin 2) : V m c (pre0.ref j) = tbl m j := by
  obtain rfl : c = 0 := Subsingleton.elim _ _
  rfl

/-- The condition the call needs of its tables: every expert word names a block. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbE : Memref sig .tc .smem S544 .i32 := Memref.whole main_arg1
abbrev tbN : Memref sig .tc .smem S1 .i32 := Memref.whole main_arg2
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

theorem PhiT_eq (c : Dev nD) : (Pipeline.ΦT pre0 (tbl m) c : sProp 𝕄)
    = iprop(tbPt c tbE (tbl m 0) ∗ tbPt c tbN (tbl m 1)) := by
  unfold Pipeline.ΦT Pipeline.prefHeld
  rw [show (Finset.univ : Finset (Fin 2)) = insert (0 : Fin 2) {(1 : Fin 2)} from by decide, bigSep_insert (by decide), bigSep_singleton]
  rfl

/-- The word saying how many row blocks are in use. -/
def used : BitVec 32 := (tbl m).atD 1 ![0]

/-- Exactly one of the body's two branches runs. -/
theorem cond2_iff (i : grid0.Coords) (w : BitVec 32) : k0_cond2 i w = 1#1 ↔ ¬ k0_cond1 i w = 1#1 := by
  simp only [k0_cond1, k0_cond2, Scalar.cmpi, Scalar.extui, IntOp.cmpi]
  by_cases h : BitVec.slt (BitVec.ofNat 32 (i 0).val) w
  · have h' : BitVec.sle w (BitVec.ofNat 32 (i 0).val) = false := by
      rw [BitVec.sle_eq_decide]; rw [BitVec.slt_eq_decide] at h; simp at h ⊢; omega
    simp [h, h']
  · have h' : BitVec.sle w (BitVec.ofNat 32 (i 0).val) = true := by
      rw [BitVec.sle_eq_decide]; rw [BitVec.slt_eq_decide] at h; simp at h ⊢; omega
    simp [h, h']

/-! ## The body's run -/

/-- What the body leaves in the output: the experts' product in a row block in use, zero in any other. -/
def outVal (i : grid0.Coords) (w : BitVec 32) (x0 : Vec F S256x1024 .f32) (x1 : Vec F S1x1024x1024 .bf16) (x2 : Vec F S1x1x1024 .f32) (x3 : Vec F S1x1024x1024 .bf16) (x4 : Vec F S1x1x1024 .f32) (x5 : Vec F S1x1024x1024 .bf16) (x6 : Vec F S1x1x1024 .f32) : Vec F S256x1024 .f32 :=
  if k0_cond1 i w = 1#1 then k0_pay1 (k0_pay3 x0 x1 x2 x3 x4) x5 x6 else k0_pay2

set_option maxHeartbeats 1000000 in
/-- The body, at tables whose one count word is `w`. -/
theorem run_body (c : Dev nD) (i : grid0.Coords) (arg3 : Memref sig .tc .vmem S256x1024 .f32) (harg3 : arg3.IsWhole) (arg4 : Memref sig .tc .vmem S1x1024x1024 .bf16) (harg4 : arg4.IsWhole) (arg5 : Memref sig .tc .vmem S1x1x1024 .f32) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S1x1024x1024 .bf16) (harg8 : arg8.IsWhole) (arg9 : Memref sig .tc .vmem S1x1x1024 .f32) (harg9 : arg9.IsWhole) (arg10 : Memref sig .tc .vmem S256x1024 .f32) (harg10 : arg10.IsWhole)
    (fE : TbBuf (F := F) c tbE) (fN : TbBuf (F := F) c tbN) (w : BitVec 32)
    (hw : ∀ (r : LoadRect S1) (x : r.shape.Idx), (View.readAt (Elt F) tbN.view r fN x : BitVec 32) = w)
    (x0 : Vec F S256x1024 .f32) (x1 : Vec F S1x1024x1024 .bf16) (x2 : Vec F S1x1x1024 .f32) (x3 : Vec F S1x1024x1024 .bf16) (x4 : Vec F S1x1x1024 .f32) (x5 : Vec F S1x1024x1024 .bf16) (x6 : Vec F S1x1x1024 .f32)
    (E : Set ℕ) (K : PUnit → sProp 𝕄) :
    iprop(tbPt c tbE fE ∗ tbPt c tbN fN ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d)
        ∗ (iprop(tbPt c tbE fE ∗ tbPt c tbN fN ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (outVal i w x0 x1 x2 x3 x4 x5 x6)) -∗ K ⟨⟩))
      ⊢ wp frame (wpE (defs₀ (F := F)) Variants.none c none) E (cc0_experts i tbE (Memref.isWhole_whole _) tbN (Memref.isWhole_whole _) arg3 harg3 arg4 harg4 arg5 harg5 arg6 harg6 arg7 harg7 arg8 harg8 arg9 harg9 arg10 harg10) K := by
  simp only [cc0_experts_eq_skeleton]; unfold cc0_experts_skel
  simp only [k0_part1_eq_skeleton]
  unfold owns
  iintro ⟨HE, HN, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
  sl_exec
  sl_step
  iapply Hk
  isplitl [HE]; · iexact HE
  isplitl [HN]; · iexact HN
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  iexists _; isplitr
  swap; · iexact H7
  ipureintro
  have hr : run_body.sl.r c fN = w := hw _ _
  unfold outVal
  by_cases h1 : k0_cond1 i w = 1#1
  · have h2 : ¬ k0_cond2 i w = 1#1 := fun h => (cond2_iff i w).1 h h1
    rw [hr, dif_neg h2, dif_pos h1, if_pos h1]
    refine (View.read_writes_full _ _ _ _ _).trans ?_
    unfold run_body.sl.r_1
    have e0 := (View.readAt_full arg3.view (harg3.unread x0) inb_S256x1024_S256x1024_0_0).trans (harg3.read_unread x0)
    have e1 := (View.readAt_full arg4.view (harg4.unread x1) inb_S1x1024x1024_S1x1024x1024_0_0_0).trans (harg4.read_unread x1)
    have e2 := (View.readAt_full arg5.view (harg5.unread x2) inb_S1x1x1024_S1x1x1024_0_0_0).trans (harg5.read_unread x2)
    have e3 := (View.readAt_full arg6.view (harg6.unread x3) inb_S1x1024x1024_S1x1024x1024_0_0_0).trans (harg6.read_unread x3)
    have e4 := (View.readAt_full arg7.view (harg7.unread x4) inb_S1x1x1024_S1x1x1024_0_0_0).trans (harg7.read_unread x4)
    have e5 := (View.readAt_full arg8.view (harg8.unread x5) inb_S1x1024x1024_S1x1024x1024_0_0_0).trans (harg8.read_unread x5)
    have e6 := (View.readAt_full arg9.view (harg9.unread x6) inb_S1x1x1024_S1x1x1024_0_0_0).trans (harg9.read_unread x6)
    exact congr (congr (congrArg k0_pay1 (congr (congr (congr (congr (congrArg k0_pay3 e0) e1) e2) e3) e4)) e5) e6
  · rw [hr, dif_pos ((cond2_iff i w).2 h1), if_neg h1]
    exact View.read_writes_full _ _ _ _ _

/-! ## The grid points -/

/-- Window `w`'s block at grid point `t`. -/
def iblk (hO : Ok m) (c : Dev nD) (w : Fin (cfgM m hO).W) (t : Fin (cfgM m hO).N) :=
  (((cfgM m hO).win w).blk t).view.read (Elt F) (V m c (Pipeline.arrRef spec0 w))

abbrev ms0 (hO : Ok m) (t : Fin (cfgM m hO).N) : Memref sig .tc .vmem S256x1024 .f32 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x1024x1024 .bf16 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x1x1024 .f32 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S1x1024x1024 .bf16 := spec0_3.stage ((cfgM m hO).slots t 3)
abbrev hs3 (hO : Ok m) (t : Fin (cfgM m hO).N) : (ms3 m hO t).IsWhole := hstage0_3 (((cfgM m hO).slots t 3).cast nbuf0_3)
abbrev ms4 (hO : Ok m) (t : Fin (cfgM m hO).N) : Memref sig .tc .vmem S1x1x1024 .f32 := spec0_4.stage ((cfgM m hO).slots t 4)
abbrev hs4 (hO : Ok m) (t : Fin (cfgM m hO).N) : (ms4 m hO t).IsWhole := hstage0_4 (((cfgM m hO).slots t 4).cast nbuf0_4)
abbrev ms5 (hO : Ok m) (t : Fin (cfgM m hO).N) : Memref sig .tc .vmem S1x1024x1024 .bf16 := spec0_5.stage ((cfgM m hO).slots t 5)
abbrev hs5 (hO : Ok m) (t : Fin (cfgM m hO).N) : (ms5 m hO t).IsWhole := hstage0_5 (((cfgM m hO).slots t 5).cast nbuf0_5)
abbrev ms6 (hO : Ok m) (t : Fin (cfgM m hO).N) : Memref sig .tc .vmem S1x1x1024 .f32 := spec0_6.stage ((cfgM m hO).slots t 6)
abbrev hs6 (hO : Ok m) (t : Fin (cfgM m hO).N) : (ms6 m hO t).IsWhole := hstage0_6 (((cfgM m hO).slots t 6).cast nbuf0_6)
abbrev ms7 (hO : Ok m) (t : Fin (cfgM m hO).N) : Memref sig .tc .vmem S256x1024 .f32 := spec0_7.stage ((cfgM m hO).slots t 7)
abbrev hs7 (hO : Ok m) (t : Fin (cfgM m hO).N) : (ms7 m hO t).IsWhole := hstage0_7 (((cfgM m hO).slots t 7).cast nbuf0_7)

/-- What the output's staging buffer holds after point `t`. -/
@[irreducible] def outsAt (hO : Ok m) (c : Dev nD) (t : Fin (cfgM m hO).N) : Vec F S256x1024 .f32 :=
  outVal (grid0.coords t) (used m) (iblk m hO c 0 t) (iblk m hO c 1 t) (iblk m hO c 2 t) (iblk m hO c 3 t) (iblk m hO c 4 t) (iblk m hO c 5 t) (iblk m hO c 6 t)

/-- The proof data of the call on core `c`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => outsAt m hO c t
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0 (hO : Ok m) (c : Dev nD) (t : Fin (cfgM m hO).N) : (dats m hO 0 c).after 0 t = iblk m hO c 0 t := by unfold dats; rfl
theorem after1 (hO : Ok m) (c : Dev nD) (t : Fin (cfgM m hO).N) : (dats m hO 0 c).after 1 t = iblk m hO c 1 t := by unfold dats; rfl
theorem after2 (hO : Ok m) (c : Dev nD) (t : Fin (cfgM m hO).N) : (dats m hO 0 c).after 2 t = iblk m hO c 2 t := by unfold dats; rfl
theorem after3 (hO : Ok m) (c : Dev nD) (t : Fin (cfgM m hO).N) : (dats m hO 0 c).after 3 t = iblk m hO c 3 t := by unfold dats; rfl
theorem after4 (hO : Ok m) (c : Dev nD) (t : Fin (cfgM m hO).N) : (dats m hO 0 c).after 4 t = iblk m hO c 4 t := by unfold dats; rfl
theorem after5 (hO : Ok m) (c : Dev nD) (t : Fin (cfgM m hO).N) : (dats m hO 0 c).after 5 t = iblk m hO c 5 t := by unfold dats; rfl
theorem after6 (hO : Ok m) (c : Dev nD) (t : Fin (cfgM m hO).N) : (dats m hO 0 c).after 6 t = iblk m hO c 6 t := by unfold dats; rfl
theorem after7 (hO : Ok m) (c : Dev nD) (t : Fin (cfgM m hO).N) : (dats m hO 0 c).after 7 t = outsAt m hO c t := rfl

theorem before0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by
    rw [after0]; unfold Dat.blockOf iblk; rw [A_eq]; try rfl) t d).trans (by unfold Dat.fetched Dat.blockOf iblk; rw [A_eq]; try rfl)
theorem before1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by
    rw [after1]; unfold Dat.blockOf iblk; rw [A_eq]; try rfl) t d).trans (by unfold Dat.fetched Dat.blockOf iblk; rw [A_eq]; try rfl)
theorem before2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by
    rw [after2]; unfold Dat.blockOf iblk; rw [A_eq]; try rfl) t d).trans (by unfold Dat.fetched Dat.blockOf iblk; rw [A_eq]; try rfl)
theorem before3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl) (fun t => by
    rw [after3]; unfold Dat.blockOf iblk; rw [A_eq]; try rfl) t d).trans (by unfold Dat.fetched Dat.blockOf iblk; rw [A_eq]; try rfl)
theorem before4 (hO : Ok m) (c : Dev nD) (t : Fin (cfgM m hO).N) (d) : (dats m hO 0 c).before 4 t d = iblk m hO c 4 t :=
  ((dats m hO 0 c).before_in_eq_fetched 4 rfl (fun _ => rfl) (fun _ _ _ => rfl) (fun t => by
    rw [after4]; unfold Dat.blockOf iblk; rw [A_eq]; try rfl) t d).trans (by unfold Dat.fetched Dat.blockOf iblk; rw [A_eq]; try rfl)
theorem before5 (hO : Ok m) (c : Dev nD) (t : Fin (cfgM m hO).N) (d) : (dats m hO 0 c).before 5 t d = iblk m hO c 5 t :=
  ((dats m hO 0 c).before_in_eq_fetched 5 rfl (fun _ => rfl) (fun _ _ _ => rfl) (fun t => by
    rw [after5]; unfold Dat.blockOf iblk; rw [A_eq]; try rfl) t d).trans (by unfold Dat.fetched Dat.blockOf iblk; rw [A_eq]; try rfl)
theorem before6 (hO : Ok m) (c : Dev nD) (t : Fin (cfgM m hO).N) (d) : (dats m hO 0 c).before 6 t d = iblk m hO c 6 t :=
  ((dats m hO 0 c).before_in_eq_fetched 6 rfl (fun _ => rfl) (fun _ _ _ => rfl) (fun t => by
    rw [after6]; unfold Dat.blockOf iblk; rw [A_eq]; try rfl) t d).trans (by unfold Dat.fetched Dat.blockOf iblk; rw [A_eq]; try rfl)

/-- What the body is called with at point `t`, and what it returns. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d))
    ∗ (∃ d, owns (c : Thread nD τ) (ms5 m hO t) fullShare ((dats m hO 0 c).before 5 t d))
    ∗ (∃ d, owns (c : Thread nD τ) (ms6 m hO t) fullShare ((dats m hO 0 c).before 6 t d))
    ∗ (∃ d, owns (c : Thread nD τ) (ms7 m hO t) fullShare ((dats m hO 0 c).before 7 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ owns (c : Thread nD τ) (ms4 m hO t) fullShare ((dats m hO 0 c).after 4 t)
    ∗ owns (c : Thread nD τ) (ms5 m hO t) fullShare ((dats m hO 0 c).after 5 t)
    ∗ owns (c : Thread nD τ) (ms6 m hO t) fullShare ((dats m hO 0 c).after 6 t)
    ∗ owns (c : Thread nD τ) (ms7 m hO t) fullShare ((dats m hO 0 c).after 7 t))

abbrev bodyAt (hO : Ok m) (t : Fin (cfgM m hO).N) : Prog (TpuEff nD τ sig (Elt F) Λ₀ .tc) PUnit :=
  cc0_experts (grid0.coords t) tbE (Memref.isWhole_whole _) tbN (Memref.isWhole_whole _) (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) (ms7 m hO t) (hs7 m hO t)

/-- Every load from the count table reads its one word. -/
theorem used_read (c : Dev nD) (r : LoadRect S1) (x : r.shape.Idx) :
    (View.readAt (Elt F) tbN.view r (tbl m 1 : TbBuf (F := F) c tbN) x : BitVec 32) = used m := by
  unfold used Pipeline.Prefetch.Contents.atD
  rw [dif_pos (by decide)]
  show tbl m 1 _ = tbl m 1 _
  congr 1
  funext a
  apply Fin.ext
  have h : ∀ z : Fin (S1.size a), z.val = 0 := by
    revert a; decide
  exact (h _).trans (h _).symm

theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before0, before1, before2, before3, before4, before5, before6]
  rw [show (dats m hO 0 c).Φ t.succ = iprop(Pipeline.ΦA spec0 c ∗ Pipeline.ΦT pre0 (tbl m) c) from rfl,
    show (dats m hO 0 c).Φ t.castSucc = iprop(Pipeline.ΦA spec0 c ∗ Pipeline.ΦT pre0 (tbl m) c) from rfl,
    show (dats m hO 0 c).owesAt () t.succ = (dats m hO 0 c).owesAt () t.castSucc from rfl,
    after0, after1, after2, after3, after4, after5, after6, after7, PhiT_eq]
  unfold outsAt
  iintro ⟨⟨HΦ, HE, HN⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_body c (grid0.coords t) _ _ _ _ _ _ _ _ _ _ _ _ _ _ _ _ (tbl m 0) (tbl m 1) (used m) (used_read m c) (iblk m hO c 0 t) (iblk m hO c 1 t) (iblk m hO c 2 t) (iblk m hO c 3 t) (iblk m hO c 4 t) (iblk m hO c 5 t) (iblk m hO c 6 t) Set.univ _)
  isplitl [HE]; · iexact HE
  isplitl [HN]; · iexact HN
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨HE, HN, H0, H1, H2, H3, H4, H5, H6, H7⟩
  isplitl [HΦ HE HN]
  · isplitl [HΦ]; · iexact HΦ
    isplitl [HE]; · iexact HE
    iexact HN
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The output is stored at every point, by one branch or the other. -/
theorem idle_out (pf : pre0.Contents (Elt F)) (i : grid0.Coords) : idle0 pf 7 i = false := by
  generalize hw : (pf.atD 1 ![0] : BitVec 32) = w
  have e : idle0 pf 7 i = (!(k0_cond1 i w == 1#1) && !(k0_cond2 i w == 1#1)) := by subst hw; rfl
  rw [e]
  by_cases h : k0_cond1 i w = 1#1
  · simp [h]
  · have h2 := (cond2_iff i w).2 h
    simp [h2]

theorem idle_cfg (a : (pcfg0 (F := F)).Adm) (i : grid0.Coords) : (cfg0 a).idle 7 i = false := idle_out a.1 i

theorem idle7 (hO : Ok m) (t : Fin (cfgM m hO).N) : (cfgM m hO).idle (7 : Fin 8) ((cfgM m hO).grid.coords t) = false :=
  idle_cfg (adm m hO) (grid0.coords t)

theorem body_obligation (hO : Ok m) (c : Dev nD) : BodyObligation (dats (F := F) m hO 0 c) (defs₀ (F := F)) Variants.none () Set.univ := fun t => by
  rewrite [bigSep_W0, bigSep_W0, defs₀_row]
  refine triple_restated (sound_body m hO c t) rfl .rfl fun _ => ?_
  unfold bodyPost
  refine sep_mono .rfl (sep_mono .rfl (sep_mono .rfl (sep_mono .rfl (sep_mono .rfl (sep_mono .rfl (sep_mono .rfl (sep_mono .rfl (sep_mono .rfl ?_))))))))
  have h := idle7 m hO t
  revert h
  generalize (cfgM m hO).idle (7 : Fin 8) ((cfgM m hO).grid.coords t) = b
  intro h
  subst h
  exact .rfl

set_option backward.isDefEq.respectTransparency.types false in
/-- The launch. -/
theorem run_main_quiescent (hO : Ok m) : θ_run defs (onTc (τ := τ) (main (F := F))) (s₀ m ρ)
    (fun r => Pipeline.FramePost (Pipeline.pin pcfgs (fun _ => adm m hO)) (dats m hO) 0 (V m) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- The frame: the arguments end unchanged and every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => ⟨
    ((h.1 c).1 0).trans (((dats m hO 0 c).arrAt_in 0 rfl _).trans ((A_eq m hO c 0).trans (V_main_arg0 m c))),
    ((h.1 c).2 main_arg1 (show main_arg1 ∈ Pipeline.restRefs sig spec0 from Pipeline.mem_restRefs_of main_arg1 (by decide) (by decide))).trans (V_main_arg1 m c),
    ((h.1 c).2 main_arg2 (show main_arg2 ∈ Pipeline.restRefs sig spec0 from Pipeline.mem_restRefs_of main_arg2 (by decide) (by decide))).trans (V_main_arg2 m c),
    ((h.1 c).2 main_arg3 (show main_arg3 ∈ Pipeline.restRefs sig spec0 from Pipeline.mem_restRefs_of main_arg3 (by decide) (by decide))).trans (V_main_arg3 m c),
    ((h.1 c).2 main_arg4 (show main_arg4 ∈ Pipeline.restRefs sig spec0 from Pipeline.mem_restRefs_of main_arg4 (by decide) (by decide))).trans (V_main_arg4 m c),
    ((h.1 c).2 main_arg5 (show main_arg5 ∈ Pipeline.restRefs sig spec0 from Pipeline.mem_restRefs_of main_arg5 (by decide) (by decide))).trans (V_main_arg5 m c),
    ((h.1 c).2 main_arg6 (show main_arg6 ∈ Pipeline.restRefs sig spec0 from Pipeline.mem_restRefs_of main_arg6 (by decide) (by decide))).trans (V_main_arg6 m c),
    ((h.1 c).2 main_arg7 (show main_arg7 ∈ Pipeline.restRefs sig spec0 from Pipeline.mem_restRefs_of main_arg7 (by decide) (by decide))).trans (V_main_arg7 m c),
    ((h.1 c).2 main_arg8 (show main_arg8 ∈ Pipeline.restRefs sig spec0 from Pipeline.mem_restRefs_of main_arg8 (by decide) (by decide))).trans (V_main_arg8 m c)⟩, h.2⟩)
    (run_main_quiescent m ρ hO)

end Cert.ExpertsIdeal.Own

end
-- ==== Proof.ExpertsIdealOk.lean ====
/- The tables of `ExpertsIdeal`'s call: where every word of the first names one of the 32 experts, every block of weights
   that a grid point asks for is inside its array. -/
module

public import proofs.«01_k».proof.Proof.ExpertsIdealFrame
public import proofs.«01_k».proof.Proof.Gen.Pre_block_e_names_experts
public import Idealize.ShloMosaic.Lib.Pointwise

@[expose] public section

set_option maxRecDepth 16384

noncomputable section

namespace Cert.ExpertsIdeal.Own

open Cert.ExpertsIdeal Cert.ExpertsIdeal.Gen
open Idealize.ShloMosaic Idealize.ShloMosaic.TcCoe Idealize.SL.Sem

variable {F : FTy → Type} [FloatOps F]

/-- The expert of grid point `i`, from the first table. -/
def word (pf : pre0.Contents (Elt F)) (i : grid0.Coords) : BitVec 32 := pf 0 (ix1 (n0 := 544) (i 0))

theorem read_word (pf : pre0.Contents (Elt F)) (i : grid0.Coords) :
    (pf.at 0 (Rect.unit (s := S544) ![(Scalar.indexCast (BitVec.ofNat 32 (i 0).val) : Index).toNat] S1.size (k0_off1_inb i)) numel1_S1 : BitVec 32) = word pf i := by
  have hi : (i 0).val < 544 := (i 0).isLt
  unfold word
  refine congrArg (pf 0) (funext (α := Fin 1) fun (a : Fin 1) => Fin.ext ?_)
  obtain rfl : a = 0 := Subsingleton.elim _ _
  show BitVec.toNat (Scalar.indexCast (BitVec.ofNat 32 (i 0).val) : Index) + 1 * 0 = (i 0).val
  unfold Scalar.indexCast
  rw [BitVec.toNat_ofNat]
  omega

theorem ix1_eq (pf : pre0.Contents (Elt F)) (i : grid0.Coords) : cc0_transform_1 k0_off1_inb numel1_S1 pf i = ![(word pf i).toNat, 0, 0] :=
  congrArg (fun w : BitVec 32 => (![w.toNat, 0, 0] : Fin 3 → Nat)) (read_word pf i)
theorem ix2_eq (pf : pre0.Contents (Elt F)) (i : grid0.Coords) : cc0_transform_2 k0_off1_inb numel1_S1 pf i = ![(word pf i).toNat, 0, 0] := ix1_eq pf i
theorem ix3_eq (pf : pre0.Contents (Elt F)) (i : grid0.Coords) : cc0_transform_3 k0_off1_inb numel1_S1 pf i = ![(word pf i).toNat, 0, 0] := ix1_eq pf i
theorem ix4_eq (pf : pre0.Contents (Elt F)) (i : grid0.Coords) : cc0_transform_4 k0_off1_inb numel1_S1 pf i = ![(word pf i).toNat, 0, 0] := ix1_eq pf i
theorem ix5_eq (pf : pre0.Contents (Elt F)) (i : grid0.Coords) : cc0_transform_5 k0_off1_inb numel1_S1 pf i = ![(word pf i).toNat, 0, 0] := ix1_eq pf i
theorem ix6_eq (pf : pre0.Contents (Elt F)) (i : grid0.Coords) : cc0_transform_6 k0_off1_inb numel1_S1 pf i = ![(word pf i).toNat, 0, 0] := ix1_eq pf i

/-- A block of one expert's matrix is inside the array of matrices, and whole rows of it. -/
theorem matrix_ok (ix : Fin 3 → Nat) (w : Nat) (hw : w < 32) (e : ix = ![w, 0, 0]) :
    ∃ h : (∀ a, (ix a + 1) * S1x1024x1024.size a ≤ S32x1024x1024.size a),
      EltTy.bits .bf16 = 32 ∨ (Rect.block (s := S32x1024x1024) S1x1024x1024.size ix h).WholeWords (EltTy.packing .bf16) := by
  subst e
  refine ⟨fun a => ?_, .inr (.inr ⟨by decide, rfl, rfl, rfl⟩)⟩
  fin_cases a
  · show (w + 1) * 1 ≤ 32
    omega
  · exact Nat.le_of_eq rfl
  · exact Nat.le_of_eq rfl

/-- A block of one expert's bias likewise. -/
theorem bias_ok (ix : Fin 3 → Nat) (w : Nat) (hw : w < 32) (e : ix = ![w, 0, 0]) :
    ∃ h : (∀ a, (ix a + 1) * S1x1x1024.size a ≤ S32x1x1024.size a),
      EltTy.bits .f32 = 32 ∨ (Rect.block (s := S32x1x1024) S1x1x1024.size ix h).WholeWords (EltTy.packing .f32) := by
  subst e
  refine ⟨fun a => ?_, .inl rfl⟩
  fin_cases a
  · show (w + 1) * 1 ≤ 32
    omega
  · exact Nat.le_of_eq rfl
  · exact Nat.le_of_eq rfl

theorem ok_of_lt (pf : pre0.Contents (Elt F)) (h : ∀ i, (word pf i).toNat < 32) : ok0 pf :=
  ⟨fun i => matrix_ok _ _ (h i) (ix1_eq pf i), fun i => bias_ok _ _ (h i) (ix2_eq pf i), fun i => matrix_ok _ _ (h i) (ix3_eq pf i),
    fun i => bias_ok _ _ (h i) (ix4_eq pf i), fun i => matrix_ok _ _ (h i) (ix5_eq pf i), fun i => bias_ok _ _ (h i) (ix6_eq pf i)⟩

/-- A word that is not negative and is below 32, read without its sign. -/
theorem lt_of_cmp (w : BitVec 32) (h : IntOp.andi (IntOp.cmpi .sge w 0#32) (IntOp.cmpi .slt w 32#32) = 1#1) : w.toNat < 32 := by
  simp only [IntOp.cmpi, WordCmp.andi_ofBool, WordCmp.ofBool_eq_one_iff, Bool.and_eq_true] at h
  obtain ⟨h0, h1⟩ := h
  rw [BitVec.sle_eq_decide, decide_eq_true_iff] at h0
  rw [BitVec.slt_eq_decide, decide_eq_true_iff] at h1
  have e0 : (0#32 : BitVec 32).toInt = 0 := by decide
  have e1 : (32#32 : BitVec 32).toInt = 32 := by decide
  rw [e0] at h0; rw [e1] at h1
  rw [BitVec.toInt_eq_toNat_cond] at h0 h1
  split at h0 <;> omega

variable (m : (ℓ : Loc nD τ sig) → Buf (Elt F) ℓ)

/-- The word of a grid point is the argument's. -/
theorem word_tbl (i : grid0.Coords) : word (tbl m) i = m ((0 : Dev nD).tc.loc main_arg1) (ix1 (n0 := 544) (i 0)) :=
  congrFun (V_main_arg1 m 0) _

/-- From the precondition: every word names an expert. -/
theorem word_lt (h : ∀ c : Dev nD, Cert.Pre_block_e_names_experts.fn (F := F) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) = fun _ => 1#1)
    (i : grid0.Coords) : (word (tbl m) i).toNat < 32 := by
  rw [word_tbl]
  exact lt_of_cmp _ (congrFun (h 0) (ix1 (n0 := 544) (i 0)))

theorem ok_of_pre (h : ∀ c : Dev nD, Cert.Pre_block_e_names_experts.fn (F := F) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) = fun _ => 1#1) :
    Ok m := ok_of_lt _ (word_lt m h)

end Cert.ExpertsIdeal.Own
end
-- ==== Proof.ExpertsSpec.lean ====
/- The routed experts on numbers: what one row leaves when one expert is applied to it, and the whole result. -/
module

public import Idealize.ShloMosaic.Lib.Pointwise
public import Idealize.ShloMosaic.Lib.Pipeline.ValueKit

@[expose] public section

set_option maxRecDepth 16384

noncomputable section

namespace Cert.Mlp

open Idealize.ShloMosaic

/-- A row times a matrix, and a bias. -/
def lin (x : Fin 1024 → EReal) (W : Fin 1024 → Fin 1024 → EReal) (b : Fin 1024 → EReal) (f : Fin 1024) : EReal :=
  (∑ k, x k * W k f) + b f

/-- The clipped gated unit. -/
def act (g u : EReal) : EReal :=
  (min (Ideal.ofBits .f32 0x40E00000#32) (max (Ideal.ofBits .f32 0xC0E00000#32) u) + 1)
    * (min g (Ideal.ofBits .f32 0x40E00000#32)
      * Ideal.div (1)
          (1 + Ideal.exp (-(min g (Ideal.ofBits .f32 0x40E00000#32) * Ideal.ofBits .f32 0x3FD9DB23#32))))

/-- One expert applied to one row. -/
def expert (x : Fin 1024 → EReal) (Wg : Fin 1024 → Fin 1024 → EReal) (bg : Fin 1024 → EReal) (Wu : Fin 1024 → Fin 1024 → EReal)
    (bu : Fin 1024 → EReal) (Wd : Fin 1024 → Fin 1024 → EReal) (bd : Fin 1024 → EReal) (d : Fin 1024) : EReal :=
  lin (fun f => act (lin x Wg bg f) (lin x Wu bu f)) Wd bd d

/-- The result at a row of a block: the block's expert applied to it where the block is in use, zero where it is not. -/
def moe (xs : (⟨2, ![139264, 1024]⟩ : Shape).Idx → EReal) (be : (⟨1, ![544]⟩ : Shape).Idx → BitVec 32) (nu : BitVec 32)
    (wg : (⟨3, ![32, 1024, 1024]⟩ : Shape).Idx → EReal) (bg : (⟨2, ![32, 1024]⟩ : Shape).Idx → EReal)
    (wu : (⟨3, ![32, 1024, 1024]⟩ : Shape).Idx → EReal) (bu : (⟨2, ![32, 1024]⟩ : Shape).Idx → EReal)
    (wd : (⟨3, ![32, 1024, 1024]⟩ : Shape).Idx → EReal) (bd : (⟨2, ![32, 1024]⟩ : Shape).Idx → EReal)
    (n : Fin 544) (r : Fin 256) (d : Fin 1024) : EReal :=
  let e : Fin 32 := ⟨(be (ix1 n)).toNat % 32, Nat.mod_lt _ (by omega)⟩
  if (BitVec.ofNat 32 n).slt nu then
    expert (fun k => xs (ix2 ⟨n * 256 + r, by omega⟩ k)) (fun k f => wg (ix3 e k f)) (fun f => bg (ix2 e f))
      (fun k f => wu (ix3 e k f)) (fun f => bu (ix2 e f)) (fun k f => wd (ix3 e k f)) (fun f => bd (ix2 e f)) d
  else 0

end Cert.Mlp
end
-- ==== Proof.ExpertsBlock.lean ====
/- What one grid point of the experts' call stores, at a row and a lane. -/
module

public import proofs.«01_k».proof.Proof.ExpertsIdealFrame
public import proofs.«01_k».proof.Proof.ExpertsSpec

@[expose] public section

set_option maxRecDepth 16384

noncomputable section

namespace Cert.ExpertsIdeal.Own

open Cert.ExpertsIdeal Cert.ExpertsIdeal.Gen Idealize.ShloMosaic Idealize.ShloMosaic.TcCoe Idealize.SL.Sem

/-- The gated unit of a row, at a lane. -/
theorem mid_at (x0 : FVec Ideal S256x1024 .f32) (x1 : FVec Ideal S1x1024x1024 .bf16) (x2 : FVec Ideal S1x1x1024 .f32)
    (x3 : FVec Ideal S1x1024x1024 .bf16) (x4 : FVec Ideal S1x1x1024 .f32) (r : Fin 256) (f : Fin 1024) :
    k0_pay3 (F := Ideal) x0 x1 x2 x3 x4 (ix2 r f)
      = Cert.Mlp.act (Cert.Mlp.lin (fun k => x0 (ix2 r k)) (fun k f => x1 (ix3 0 k f)) (fun f => x2 (ix3 0 0 f)) f)
          (Cert.Mlp.lin (fun k => x0 (ix2 r k)) (fun k f => x3 (ix3 0 k f)) (fun f => x4 (ix3 0 0 f)) f) := by
  pointwise [k0_pay3]
  unfold Cert.Mlp.act Cert.Mlp.lin
  rw [zero_sub]

/-- The product with the last matrix, and its bias. -/
theorem last_at (y : FVec Ideal S256x1024 .bf16) (x5 : FVec Ideal S1x1024x1024 .bf16) (x6 : FVec Ideal S1x1x1024 .f32)
    (r : Fin 256) (d : Fin 1024) :
    k0_pay1 (F := Ideal) y x5 x6 (ix2 r d)
      = Cert.Mlp.lin (fun k => y (ix2 r k)) (fun k f => x5 (ix3 0 k f)) (fun f => x6 (ix3 0 0 f)) d := by
  pointwise [k0_pay1]
  rfl

/-- What a grid point stores: the expert of its blocks where the row block is in use, zero where it is not. -/
theorem outVal_at (i : grid0.Coords) (w : BitVec 32) (x0 : FVec Ideal S256x1024 .f32) (x1 : FVec Ideal S1x1024x1024 .bf16)
    (x2 : FVec Ideal S1x1x1024 .f32) (x3 : FVec Ideal S1x1024x1024 .bf16) (x4 : FVec Ideal S1x1x1024 .f32)
    (x5 : FVec Ideal S1x1024x1024 .bf16) (x6 : FVec Ideal S1x1x1024 .f32) (r : Fin 256) (d : Fin 1024) :
    outVal (F := Ideal) i w x0 x1 x2 x3 x4 x5 x6 (ix2 r d)
      = if (BitVec.ofNat 32 (i 0).val).slt w then
          Cert.Mlp.expert (fun k => x0 (ix2 r k)) (fun k f => x1 (ix3 0 k f)) (fun f => x2 (ix3 0 0 f))
            (fun k f => x3 (ix3 0 k f)) (fun f => x4 (ix3 0 0 f)) (fun k f => x5 (ix3 0 k f)) (fun f => x6 (ix3 0 0 f)) d
        else 0 := by
  have hc : k0_cond1 i w = 1#1 ↔ (BitVec.ofNat 32 (i 0).val).slt w = true := by
    simp only [k0_cond1, Scalar.cmpi, Scalar.extui, IntOp.cmpi]
    cases (BitVec.ofNat 32 (i 0).val).slt w <;> decide
  unfold outVal
  by_cases h : (BitVec.ofNat 32 (i 0).val).slt w = true
  · rw [if_pos (hc.2 h), if_pos h, last_at]
    unfold Cert.Mlp.expert
    simp only [mid_at]
  · rw [if_neg fun h' => h (hc.1 h'), if_neg h]
    pointwise [k0_pay2]

end Cert.ExpertsIdeal.Own
end
-- ==== Proof.ExpertsArray.lean ====
/- The array the experts' call leaves. -/
module

public import proofs.«01_k».proof.Proof.ExpertsIdealOk
public import proofs.«01_k».proof.Proof.ExpertsBlock
public import Idealize.ShloMosaic.Lib.StableHlo.ReadAt

@[expose] public section

set_option maxRecDepth 16384

noncomputable section

namespace Cert.ExpertsIdeal.Own

open Cert.ExpertsIdeal Cert.ExpertsIdeal.Gen Idealize.ShloMosaic Idealize.ShloMosaic.TcCoe Idealize.SL.Sem
open Idealize.ShloMosaic.Pipeline (Dat Cfg Window)

/-- The grid has one axis: the point's coordinate is its number. -/
theorem coord_eq : ∀ t : Fin grid0.N, (grid0.coords t 0).val = t.val := by decide +kernel

/-- The rows' block, and the result's, at a point. -/
theorem rows_at : ∀ t : Fin grid0.N, cc0_transform_7 (grid0.coords t) 0 = t.val ∧ cc0_transform_7 (grid0.coords t) 1 = 0
    ∧ cc0_transform_0 (grid0.coords t) 0 = t.val ∧ cc0_transform_0 (grid0.coords t) 1 = 0 := by decide +kernel

/-- Every point writes its block of the result back. -/
theorem flush_at : ∀ t : Fin grid0.N, Pipeline.Window.flushOf grid0 true cc0_transform_7 t = true := by decide +kernel

theorem count : grid0.N = 544 := by decide +kernel

/-- The blocks written back fill the result. -/
theorem covers (a : (pcfg0 (F := Ideal)).Adm) : ((cfg0 a).win (7 : Fin 8)).Covers := by
  refine ⟨fun k => ?_, fun β => ?_⟩
  · exact (by decide : ∀ k : Fin 2, 0 < S256x1024.size k) k
  · have h0 : (β (0 : Fin 2)).val < (139264 + 256 - 1) / 256 := (β (0 : Fin 2)).isLt
    have h1 : (β (1 : Fin 2)).val < (1024 + 1024 - 1) / 1024 := (β (1 : Fin 2)).isLt
    norm_num at h0
    have h1' : (β (1 : Fin 2)).val = 0 := by omega
    refine ⟨⟨(β (0 : Fin 2)).val, Nat.lt_of_lt_of_eq h0 count.symm⟩, flush_at _, fun (k : Fin 2) => ⟨?_, .inl rfl⟩⟩
    refine Fin.cases ?_ (fun k => Fin.cases ?_ (fun k => k.elim0) k) k
    · exact (rows_at ⟨(β (0 : Fin 2)).val, Nat.lt_of_lt_of_eq h0 count.symm⟩).1
    · exact ((rows_at ⟨(β (0 : Fin 2)).val, Nat.lt_of_lt_of_eq h0 count.symm⟩).2.1).trans h1'.symm

/-! Where a window's block places an element, on each axis. -/

theorem emb0 (a : (pcfg0 (F := Ideal)).Adm) (t : Fin grid0.N) (x : S256x1024.Idx) (k : Fin 2) :
    ((((cfg0 a).win (0 : Fin 8)).blk t).view.emb x k).val = cc0_transform_0 (grid0.coords t) k * S256x1024.size k + 1 * (x k).val := rfl
theorem emb1 (a : (pcfg0 (F := Ideal)).Adm) (t : Fin grid0.N) (x : S1x1024x1024.Idx) (k : Fin 3) :
    ((((cfg0 a).win (1 : Fin 8)).blk t).view.emb x k).val = cc0_transform_1 k0_off1_inb numel1_S1 a.1 (grid0.coords t) k * S1x1024x1024.size k + 1 * (x k).val := rfl
theorem emb2 (a : (pcfg0 (F := Ideal)).Adm) (t : Fin grid0.N) (x : S1x1x1024.Idx) (k : Fin 3) :
    ((((cfg0 a).win (2 : Fin 8)).blk t).view.emb x k).val = cc0_transform_2 k0_off1_inb numel1_S1 a.1 (grid0.coords t) k * S1x1x1024.size k + 1 * (x k).val := rfl
theorem emb3 (a : (pcfg0 (F := Ideal)).Adm) (t : Fin grid0.N) (x : S1x1024x1024.Idx) (k : Fin 3) :
    ((((cfg0 a).win (3 : Fin 8)).blk t).view.emb x k).val = cc0_transform_3 k0_off1_inb numel1_S1 a.1 (grid0.coords t) k * S1x1024x1024.size k + 1 * (x k).val := rfl
theorem emb4 (a : (pcfg0 (F := Ideal)).Adm) (t : Fin grid0.N) (x : S1x1x1024.Idx) (k : Fin 3) :
    ((((cfg0 a).win (4 : Fin 8)).blk t).view.emb x k).val = cc0_transform_4 k0_off1_inb numel1_S1 a.1 (grid0.coords t) k * S1x1x1024.size k + 1 * (x k).val := rfl
theorem emb5 (a : (pcfg0 (F := Ideal)).Adm) (t : Fin grid0.N) (x : S1x1024x1024.Idx) (k : Fin 3) :
    ((((cfg0 a).win (5 : Fin 8)).blk t).view.emb x k).val = cc0_transform_5 k0_off1_inb numel1_S1 a.1 (grid0.coords t) k * S1x1024x1024.size k + 1 * (x k).val := rfl
theorem emb6 (a : (pcfg0 (F := Ideal)).Adm) (t : Fin grid0.N) (x : S1x1x1024.Idx) (k : Fin 3) :
    ((((cfg0 a).win (6 : Fin 8)).blk t).view.emb x k).val = cc0_transform_6 k0_off1_inb numel1_S1 a.1 (grid0.coords t) k * S1x1x1024.size k + 1 * (x k).val := rfl
theorem emb7 (a : (pcfg0 (F := Ideal)).Adm) (t : Fin grid0.N) (x : S256x1024.Idx) (k : Fin 2) :
    ((((cfg0 a).win (7 : Fin 8)).blk t).view.emb x k).val = cc0_transform_7 (grid0.coords t) k * S256x1024.size k + 1 * (x k).val := rfl

theorem place0 (a : (pcfg0 (F := Ideal)).Adm) (t : Fin grid0.N) (r : Fin 256) (k : Fin 1024) :
    (((cfg0 a).win (0 : Fin 8)).blk t).view.emb (ix2 (n0 := 256) (n1 := 1024) r k)
      = ix2 (n0 := 139264) (n1 := 1024) ⟨t.val * 256 + r.val, by have h : t.val < 544 := Nat.lt_of_lt_of_eq t.isLt count; omega⟩ k := by
  refine funext fun (d : Fin 2) => Fin.ext ((emb0 a t _ d).trans ?_)
  refine Fin.cases ?_ (fun d => Fin.cases ?_ (fun d => d.elim0) d) d
  · show cc0_transform_0 (grid0.coords t) 0 * 256 + 1 * r.val = t.val * 256 + r.val
    rw [(rows_at t).2.2.1]; omega
  · show cc0_transform_0 (grid0.coords t) 1 * 1024 + 1 * k.val = k.val
    rw [(rows_at t).2.2.2]; omega

theorem place7 (a : (pcfg0 (F := Ideal)).Adm) (t : Fin grid0.N) (r : Fin 256) (k : Fin 1024) :
    (((cfg0 a).win (7 : Fin 8)).blk t).view.emb (ix2 (n0 := 256) (n1 := 1024) r k)
      = ix2 (n0 := 139264) (n1 := 1024) ⟨t.val * 256 + r.val, by have h : t.val < 544 := Nat.lt_of_lt_of_eq t.isLt count; omega⟩ k := by
  refine funext fun (d : Fin 2) => Fin.ext ((emb7 a t _ d).trans ?_)
  refine Fin.cases ?_ (fun d => Fin.cases ?_ (fun d => d.elim0) d) d
  · show cc0_transform_7 (grid0.coords t) 0 * 256 + 1 * r.val = t.val * 256 + r.val
    rw [(rows_at t).1]; omega
  · show cc0_transform_7 (grid0.coords t) 1 * 1024 + 1 * k.val = k.val
    rw [(rows_at t).2.1]; omega

/-- A place whose block is expert `e`'s is the same place in the array of all experts. -/
theorem place_of (n : Nat) (ix : Fin 3 → Nat) (e : Fin 32) (he : ix = ![e.val, 0, 0]) (k : Fin n) (f : Fin 1024)
    (y : (⟨3, ![32, n, 1024]⟩ : Shape).Idx)
    (h : ∀ d : Fin 3, (y d).val = ix d * (⟨3, ![1, n, 1024]⟩ : Shape).size d + 1 * (ix3 (n0 := 1) (n1 := n) (n2 := 1024) 0 k f d).val) :
    y = ix3 e k f := by
  subst he
  refine funext fun (d : Fin 3) => Fin.ext ((h d).trans ?_)
  refine Fin.cases ?_ (fun d => Fin.cases ?_ (fun d => Fin.cases ?_ (fun d => d.elim0) d) d) d
  · show e.val * 1 + 1 * 0 = e.val
    omega
  · show 0 * n + 1 * k.val = k.val
    omega
  · show 0 * 1024 + 1 * f.val = f.val
    omega

theorem place1 (a : (pcfg0 (F := Ideal)).Adm) (t : Fin grid0.N) (e : Fin 32) (he : (word a.1 (grid0.coords t)).toNat = e.val) (k : Fin 1024) (f : Fin 1024) :
    (((cfg0 a).win (1 : Fin 8)).blk t).view.emb (ix3 (n0 := 1) (n1 := 1024) (n2 := 1024) 0 k f)
      = ix3 (n0 := 32) (n1 := 1024) (n2 := 1024) e k f :=
  place_of 1024 _ e (by rw [ix1_eq, he]) k f _ (emb1 a t _)

theorem place2 (a : (pcfg0 (F := Ideal)).Adm) (t : Fin grid0.N) (e : Fin 32) (he : (word a.1 (grid0.coords t)).toNat = e.val) (k : Fin 1) (f : Fin 1024) :
    (((cfg0 a).win (2 : Fin 8)).blk t).view.emb (ix3 (n0 := 1) (n1 := 1) (n2 := 1024) 0 k f)
      = ix3 (n0 := 32) (n1 := 1) (n2 := 1024) e k f :=
  place_of 1 _ e (by rw [ix2_eq, he]) k f _ (emb2 a t _)

theorem place3 (a : (pcfg0 (F := Ideal)).Adm) (t : Fin grid0.N) (e : Fin 32) (he : (word a.1 (grid0.coords t)).toNat = e.val) (k : Fin 1024) (f : Fin 1024) :
    (((cfg0 a).win (3 : Fin 8)).blk t).view.emb (ix3 (n0 := 1) (n1 := 1024) (n2 := 1024) 0 k f)
      = ix3 (n0 := 32) (n1 := 1024) (n2 := 1024) e k f :=
  place_of 1024 _ e (by rw [ix3_eq, he]) k f _ (emb3 a t _)

theorem place4 (a : (pcfg0 (F := Ideal)).Adm) (t : Fin grid0.N) (e : Fin 32) (he : (word a.1 (grid0.coords t)).toNat = e.val) (k : Fin 1) (f : Fin 1024) :
    (((cfg0 a).win (4 : Fin 8)).blk t).view.emb (ix3 (n0 := 1) (n1 := 1) (n2 := 1024) 0 k f)
      = ix3 (n0 := 32) (n1 := 1) (n2 := 1024) e k f :=
  place_of 1 _ e (by rw [ix4_eq, he]) k f _ (emb4 a t _)

theorem place5 (a : (pcfg0 (F := Ideal)).Adm) (t : Fin grid0.N) (e : Fin 32) (he : (word a.1 (grid0.coords t)).toNat = e.val) (k : Fin 1024) (f : Fin 1024) :
    (((cfg0 a).win (5 : Fin 8)).blk t).view.emb (ix3 (n0 := 1) (n1 := 1024) (n2 := 1024) 0 k f)
      = ix3 (n0 := 32) (n1 := 1024) (n2 := 1024) e k f :=
  place_of 1024 _ e (by rw [ix5_eq, he]) k f _ (emb5 a t _)

theorem place6 (a : (pcfg0 (F := Ideal)).Adm) (t : Fin grid0.N) (e : Fin 32) (he : (word a.1 (grid0.coords t)).toNat = e.val) (k : Fin 1) (f : Fin 1024) :
    (((cfg0 a).win (6 : Fin 8)).blk t).view.emb (ix3 (n0 := 1) (n1 := 1) (n2 := 1024) 0 k f)
      = ix3 (n0 := 32) (n1 := 1) (n2 := 1024) e k f :=
  place_of 1 _ e (by rw [ix6_eq, he]) k f _ (emb6 a t _)

variable (m : (ℓ : Loc nD τ sig) → Buf (Elt Ideal) ℓ)

/-! The operands the host code prepares: the matrices narrowed, the biases with one more axis. -/

theorem V_v0 (c : Dev nD) (e : Fin 32) (k f : Fin 1024) :
    V m c main_v0 (ix3 e k f) = (m ((c.tc : Thread nD τ).loc main_arg3) (ix3 e k f) : EReal) := by
  unfold V
  after_reads_at

theorem V_v1 (c : Dev nD) (e : Fin 32) (f : Fin 1024) :
    V m c main_v1 (ix3 e (0 : Fin 1) f) = (m ((c.tc : Thread nD τ).loc main_arg4) (ix2 e f) : EReal) := by
  unfold V
  after_reads_at

theorem V_v2 (c : Dev nD) (e : Fin 32) (k f : Fin 1024) :
    V m c main_v2 (ix3 e k f) = (m ((c.tc : Thread nD τ).loc main_arg5) (ix3 e k f) : EReal) := by
  unfold V
  after_reads_at

theorem V_v3 (c : Dev nD) (e : Fin 32) (f : Fin 1024) :
    V m c main_v3 (ix3 e (0 : Fin 1) f) = (m ((c.tc : Thread nD τ).loc main_arg6) (ix2 e f) : EReal) := by
  unfold V
  after_reads_at

theorem V_v4 (c : Dev nD) (e : Fin 32) (k f : Fin 1024) :
    V m c main_v4 (ix3 e k f) = (m ((c.tc : Thread nD τ).loc main_arg7) (ix3 e k f) : EReal) := by
  unfold V
  after_reads_at

theorem V_v5 (c : Dev nD) (e : Fin 32) (f : Fin 1024) :
    V m c main_v5 (ix3 e (0 : Fin 1) f) = (m ((c.tc : Thread nD τ).loc main_arg8) (ix2 e f) : EReal) := by
  unfold V
  after_reads_at

/-- How many blocks hold rows. -/
theorem used_eq : used (F := Ideal) m = m ((0 : Dev nD).tc.loc main_arg2) (ix1 (n0 := 1) 0) := by
  refine Eq.trans ?_ (congrFun (V_main_arg2 m 0) (ix1 (n0 := 1) 0))
  unfold used Pipeline.Prefetch.Contents.atD
  rw [dif_pos (by decide)]
  refine congrArg (V m 0 main_arg2) (funext (α := Fin 1) fun (k : Fin 1) => ?_)
  obtain rfl : k = 0 := Subsingleton.elim _ _
  rfl

/-! The blocks a point is handed, in the arguments' own words. -/

theorem iblk0_at (hO : Ok m) (c : Dev nD) (t : Fin grid0.N) (n : Fin 544) (hn : t.val = n.val) (r : Fin 256) (k : Fin 1024) :
    iblk m hO c 0 t (ix2 (n0 := 256) (n1 := 1024) r k) = (m ((c.tc : Thread nD τ).loc main_arg0) (ix2 ⟨n.val * 256 + r.val, by omega⟩ k) : EReal) := by
  obtain ⟨n, h⟩ := n
  obtain rfl : t.val = n := hn
  exact (congrArg (V m c main_arg0) (place0 (adm m hO) t r k)).trans (congrFun (V_main_arg0 m c) _)

theorem iblk1_at (hO : Ok m) (c : Dev nD) (t : Fin grid0.N) (e : Fin 32) (he : (word (tbl m) (grid0.coords t)).toNat = e.val) (k f : Fin 1024) :
    iblk m hO c 1 t (ix3 (n0 := 1) (n1 := 1024) (n2 := 1024) 0 k f) = (m ((c.tc : Thread nD τ).loc main_arg3) (ix3 e k f) : EReal) :=
  (congrArg (V m c main_v0) (place1 (adm m hO) t e he k f)).trans (V_v0 m c e k f)

theorem iblk2_at (hO : Ok m) (c : Dev nD) (t : Fin grid0.N) (e : Fin 32) (he : (word (tbl m) (grid0.coords t)).toNat = e.val) (f : Fin 1024) :
    iblk m hO c 2 t (ix3 (n0 := 1) (n1 := 1) (n2 := 1024) 0 0 f) = (m ((c.tc : Thread nD τ).loc main_arg4) (ix2 e f) : EReal) :=
  (congrArg (V m c main_v1) (place2 (adm m hO) t e he 0 f)).trans (V_v1 m c e f)

theorem iblk3_at (hO : Ok m) (c : Dev nD) (t : Fin grid0.N) (e : Fin 32) (he : (word (tbl m) (grid0.coords t)).toNat = e.val) (k f : Fin 1024) :
    iblk m hO c 3 t (ix3 (n0 := 1) (n1 := 1024) (n2 := 1024) 0 k f) = (m ((c.tc : Thread nD τ).loc main_arg5) (ix3 e k f) : EReal) :=
  (congrArg (V m c main_v2) (place3 (adm m hO) t e he k f)).trans (V_v2 m c e k f)

theorem iblk4_at (hO : Ok m) (c : Dev nD) (t : Fin grid0.N) (e : Fin 32) (he : (word (tbl m) (grid0.coords t)).toNat = e.val) (f : Fin 1024) :
    iblk m hO c 4 t (ix3 (n0 := 1) (n1 := 1) (n2 := 1024) 0 0 f) = (m ((c.tc : Thread nD τ).loc main_arg6) (ix2 e f) : EReal) :=
  (congrArg (V m c main_v3) (place4 (adm m hO) t e he 0 f)).trans (V_v3 m c e f)

theorem iblk5_at (hO : Ok m) (c : Dev nD) (t : Fin grid0.N) (e : Fin 32) (he : (word (tbl m) (grid0.coords t)).toNat = e.val) (k f : Fin 1024) :
    iblk m hO c 5 t (ix3 (n0 := 1) (n1 := 1024) (n2 := 1024) 0 k f) = (m ((c.tc : Thread nD τ).loc main_arg7) (ix3 e k f) : EReal) :=
  (congrArg (V m c main_v4) (place5 (adm m hO) t e he k f)).trans (V_v4 m c e k f)

theorem iblk6_at (hO : Ok m) (c : Dev nD) (t : Fin grid0.N) (e : Fin 32) (he : (word (tbl m) (grid0.coords t)).toNat = e.val) (f : Fin 1024) :
    iblk m hO c 6 t (ix3 (n0 := 1) (n1 := 1) (n2 := 1024) 0 0 f) = (m ((c.tc : Thread nD τ).loc main_arg8) (ix2 e f) : EReal) :=
  (congrArg (V m c main_v5) (place6 (adm m hO) t e he 0 f)).trans (V_v5 m c e f)

/-- A block of the result, in the arguments' own words. -/
theorem outsAt_at (hO : Ok m) (hw : ∀ i, (word (tbl m) i).toNat < 32) (t : Fin grid0.N) (n : Fin 544) (hn : t.val = n.val) (r : Fin 256) (d : Fin 1024) :
    outsAt m hO 0 t (ix2 (n0 := 256) (n1 := 1024) r d)
      = Cert.Mlp.moe (m ((0 : Dev nD).tc.loc main_arg0)) (m ((0 : Dev nD).tc.loc main_arg1)) (m ((0 : Dev nD).tc.loc main_arg2) (ix1 (n0 := 1) 0))
          (m ((0 : Dev nD).tc.loc main_arg3)) (m ((0 : Dev nD).tc.loc main_arg4)) (m ((0 : Dev nD).tc.loc main_arg5))
          (m ((0 : Dev nD).tc.loc main_arg6)) (m ((0 : Dev nD).tc.loc main_arg7)) (m ((0 : Dev nD).tc.loc main_arg8)) n r d := by
  have hc : grid0.coords t 0 = n := Fin.ext ((coord_eq t).trans hn)
  have hb : word (tbl m) (grid0.coords t) = m ((0 : Dev nD).tc.loc main_arg1) (ix1 (n0 := 544) n) := (word_tbl m _).trans (by rw [hc])
  have hl := hw (grid0.coords t)
  have he : (word (tbl m) (grid0.coords t)).toNat = (m ((0 : Dev nD).tc.loc main_arg1) (ix1 (n0 := 544) n) : BitVec 32).toNat % 32 := by
    rw [hb] at hl ⊢
    exact (Nat.mod_eq_of_lt hl).symm
  unfold outsAt
  refine (outVal_at ..).trans ?_
  unfold Cert.Mlp.moe
  rw [used_eq, hc]
  simp only [iblk0_at m hO 0 t n hn, iblk1_at m hO 0 t ⟨_, Nat.mod_lt _ (by omega)⟩ he, iblk2_at m hO 0 t ⟨_, Nat.mod_lt _ (by omega)⟩ he,
    iblk3_at m hO 0 t ⟨_, Nat.mod_lt _ (by omega)⟩ he, iblk4_at m hO 0 t ⟨_, Nat.mod_lt _ (by omega)⟩ he,
    iblk5_at m hO 0 t ⟨_, Nat.mod_lt _ (by omega)⟩ he, iblk6_at m hO 0 t ⟨_, Nat.mod_lt _ (by omega)⟩ he]

/-- The whole result. -/
def result (c : Dev nD) : Buf (Elt Ideal) ((c.tc : Thread nD τ).loc main_v6) := fun (j : (⟨2, ![139264, 1024]⟩ : Shape).Idx) =>
  (Cert.Mlp.moe (m (c.tc.loc main_arg0)) (m (c.tc.loc main_arg1)) (m (c.tc.loc main_arg2) (ix1 (n0 := 1) 0))
    (m (c.tc.loc main_arg3)) (m (c.tc.loc main_arg4)) (m (c.tc.loc main_arg5))
    (m (c.tc.loc main_arg6)) (m (c.tc.loc main_arg7)) (m (c.tc.loc main_arg8))
    ⟨(j (0 : Fin 2)).val / 256, by have h : (j (0 : Fin 2)).val < 139264 := (j (0 : Fin 2)).isLt; omega⟩
    ⟨(j (0 : Fin 2)).val % 256, by omega⟩ (j (1 : Fin 2)) : EReal)

/-- The whole result at a block's row and lane. -/
theorem result_at (c : Dev nD) (n : Fin 544) (r : Fin 256) (d : Fin 1024) :
    result m c (ix2 (n0 := 139264) (n1 := 1024) ⟨n.val * 256 + r.val, by omega⟩ d)
      = (Cert.Mlp.moe (m (c.tc.loc main_arg0)) (m (c.tc.loc main_arg1)) (m (c.tc.loc main_arg2) (ix1 (n0 := 1) 0))
    (m (c.tc.loc main_arg3)) (m (c.tc.loc main_arg4)) (m (c.tc.loc main_arg5))
    (m (c.tc.loc main_arg6)) (m (c.tc.loc main_arg7)) (m (c.tc.loc main_arg8)) n r d : EReal) := by
  have hn : (⟨(n.val * 256 + r.val) / 256, by omega⟩ : Fin 544) = n := Fin.ext (by show (n.val * 256 + r.val) / 256 = n.val; omega)
  have hr : (⟨(n.val * 256 + r.val) % 256, by omega⟩ : Fin 256) = r := Fin.ext (by show (n.val * 256 + r.val) % 256 = r.val; omega)
  show Cert.Mlp.moe _ _ _ _ _ _ _ _ _ ⟨(n.val * 256 + r.val) / 256, _⟩ ⟨(n.val * 256 + r.val) % 256, _⟩ d = _
  rw [hn, hr]

/-- The array the call leaves. -/
theorem final (hO : Ok m) (hw : ∀ i, (word (tbl m) i).toNat < 32) :
    (dats m hO 0 0).arrAt (7 : Fin 8) (cfgM m hO).N = result m 0 := by
  refine (dats m hO 0 0).arrAt_eq_of_covers (7 : Fin 8) (result m 0) (covers (adm m hO)) (fun t _ y => ?_)
  have ht : t.val < 544 := Nat.lt_of_lt_of_eq t.isLt count
  have hy : y = ix2 (n0 := 256) (n1 := 1024) (y (0 : Fin 2)) (y (1 : Fin 2)) := by
    refine funext fun (k : Fin 2) => ?_
    exact Fin.cases rfl (fun k => Fin.cases rfl (fun k => k.elim0) k) k
  rw [hy]
  refine Eq.trans (b := outsAt m hO 0 t (ix2 (n0 := 256) (n1 := 1024) (y (0 : Fin 2)) (y (1 : Fin 2)))) rfl ?_
  refine (outsAt_at m hO hw t ⟨t.val, ht⟩ rfl (y (0 : Fin 2)) (y (1 : Fin 2))).trans ?_
  exact ((congrArg (result m 0) (place7 (adm m hO) t (y (0 : Fin 2)) (y (1 : Fin 2)))).trans (result_at m 0 ⟨t.val, ht⟩ _ _)).symm

end Cert.ExpertsIdeal.Own
end
-- ==== Proof.ExpertsRef.lean ====
/- What the experts' reference returns, at an index. -/
module

public import proofs.«01_k».proof.Proof.Gen.ExpertsRefIdeal.Run
public import proofs.«01_k».proof.Proof.ExpertsSpec

@[expose] public section

set_option maxRecDepth 16384

noncomputable section

namespace Cert.ExpertsRefIdeal.Mlp

open Cert.ExpertsRefIdeal Cert.ExpertsRefIdeal.Gen Cert.ExpertsRefIdeal.Value Idealize.ShloMosaic Idealize.ShloMosaic.TcCoe Idealize.SL.Sem

/-- One matrix for every block of rows. -/
theorem matrices_at (X : FVec Ideal S32x1024x1024 .f32) (idx : IVec S544x1 32) (n : Fin 544) (k f : Fin 1024) (e : Fin 32)
    (h : (idx (ix2 n 0)).toInt = (e : ℕ)) :
    Host.gather gather_S32x1024x1024_S544x1_S544x1024x1024_12_0_n_n_0_1_110241024 X idx (ix3 n k f) = X (ix3 e k f) := by
  unfold Host.gather
  refine congrArg X (funext fun a => Fin.ext ?_)
  fin_cases a
  · show min ((idx _).toInt).toNat 31 + 0 + 0 = (e : ℕ)
    have hi : ∀ j : S544x1.Idx, (j 0).val = n.val → (idx j).toInt = (e : ℕ) := fun j hj => by
      have : j = ix2 n 0 := by
        funext b; fin_cases b
        · exact Fin.ext hj
        · exact Subsingleton.elim (α := Fin 1) _ _
      rw [this, h]
    rw [hi _ rfl]
    omega
  · show 0 + 0 + k.val = k.val
    omega
  · show 0 + 0 + f.val = f.val
    omega

/-- One bias for every block of rows. -/
theorem biases_at (X : FVec Ideal S32x1024 .f32) (idx : IVec S544x1 32) (n : Fin 544) (f : Fin 1024) (e : Fin 32)
    (h : (idx (ix2 n 0)).toInt = (e : ℕ)) :
    Host.gather gather_S32x1024_S544x1_S544x1024_1_0_n_n_0_1_11024 X idx (ix2 n f) = X (ix2 e f) := by
  unfold Host.gather
  refine congrArg X (funext fun a => Fin.ext ?_)
  fin_cases a
  · show min ((idx _).toInt).toNat 31 + 0 + 0 = (e : ℕ)
    have hi : ∀ j : S544x1.Idx, (j 0).val = n.val → (idx j).toInt = (e : ℕ) := fun j hj => by
      have : j = ix2 n 0 := by
        funext b; fin_cases b
        · exact Fin.ext hj
        · exact Subsingleton.elim (α := Fin 1) _ _
      rw [this, h]
    rw [hi _ rfl]
    omega
  · show 0 + 0 + f.val = f.val
    omega

/-- The block's expert, as the reference looks it up: a negative word counts from the end. -/
def looked (be : IVec S544 32) : IVec S544x1 32 :=
  broadcastInDim S544x1 ![0] bcast_S544_S544x1_0 (select (cmpi .slt be (broadcastInDim S544 ![] bcast_S_S544 (constantI S_ 32 0#32))) (addi be (broadcastInDim S544 ![] bcast_S_S544 (constantI S_ 32 32#32))) be)

/-- Every block's rows times its matrix, and its bias. -/
def lins (X : FVec Ideal S544x256x1024 .f32) (W : FVec Ideal S544x1024x1024 .f32) (b : FVec Ideal S544x1024 .f32) : FVec Ideal S544x256x1024 .f32 :=
  addf (Host.dotGeneral dot_S544x256x1024_S544x1024x1024_S544x256x1024_2_1_1_2_0_0 none X W) (broadcastInDim S544x256x1024 ![0, 1, 2] bcast_S544x1x1024_S544x256x1024_0_1_2 (broadcastInDim S544x1x1024 ![0, 2] bcast_S544x1024_S544x1x1024_0_2 b))

/-- The clipped gated unit of every entry. -/
def acts (G U : FVec Ideal S544x256x1024 .f32) : FVec Ideal S544x256x1024 .f32 :=
  mulf (addf (minimumf (broadcastInDim S544x256x1024 ![] bcast_S_S544x256x1024 (id (constant S_ .f32 0x40E00000#32))) (maximumf (broadcastInDim S544x256x1024 ![] bcast_S_S544x256x1024 (id (constant S_ .f32 0xC0E00000#32))) U)) (broadcastInDim S544x256x1024 ![] bcast_S_S544x256x1024 (constant S_ .f32 0x3F800000#32)))
    (mulf (minimumf G (broadcastInDim S544x256x1024 ![] bcast_S_S544x256x1024 (constant S_ .f32 0x40E00000#32))) (Host.divf (broadcastInDim S544x256x1024 ![] bcast_S_S544x256x1024 (constant S_ .f32 0x3F800000#32)) (addf (broadcastInDim S544x256x1024 ![] bcast_S_S544x256x1024 (constant S_ .f32 0x3F800000#32)) (Host.exp (Host.negf (mulf (minimumf G (broadcastInDim S544x256x1024 ![] bcast_S_S544x256x1024 (constant S_ .f32 0x40E00000#32))) (broadcastInDim S544x256x1024 ![] bcast_S_S544x256x1024 (constant S_ .f32 0x3FD9DB23#32))))))))

/-- The blocks in use. -/
def kept (nu : IVec S1 32) (Y : FVec Ideal S544x256x1024 .f32) : FVec Ideal S139264x1024 .f32 :=
  shapeCast _ (select (broadcastInDim S544x256x1024 ![0, 1, 2] bcast_S544x1x1_S544x256x1024_0_1_2 (broadcastInDim S544x1x1 ![0] bcast_S544_S544x1x1_0 (cmpi .slt (iotaInDim S544 32 0) (broadcastInDim S544 ![] bcast_S_S544 (shapeCast _ nu shapeCasts_S1_S_))))) Y (broadcastInDim S544x256x1024 ![] bcast_S_S544x256x1024 (id (constant S_ .f32 0x00000000#32)))) shapeCasts_S544x256x1024_S139264x1024

/-- The rows, block by block. -/
def blocks (xs : FVec Ideal S139264x1024 .f32) : FVec Ideal S544x256x1024 .f32 := shapeCast _ xs shapeCasts_S139264x1024_S544x256x1024

/-- The matrices the blocks look up. -/
def mats (be : IVec S544 32) (W : FVec Ideal S32x1024x1024 .f32) : FVec Ideal S544x1024x1024 .f32 :=
  Host.gather gather_S32x1024x1024_S544x1_S544x1024x1024_12_0_n_n_0_1_110241024 W (looked be)

/-- The biases the blocks look up. -/
def vecs (be : IVec S544 32) (b : FVec Ideal S32x1024 .f32) : FVec Ideal S544x1024 .f32 :=
  Host.gather gather_S32x1024_S544x1_S544x1024_1_0_n_n_0_1_11024 b (looked be)

/-- The reference's result, from its arguments. -/
def value (xs : FVec Ideal S139264x1024 .f32) (be : IVec S544 32) (nu : IVec S1 32) (wg : FVec Ideal S32x1024x1024 .f32) (bg : FVec Ideal S32x1024 .f32)
    (wu : FVec Ideal S32x1024x1024 .f32) (bu : FVec Ideal S32x1024 .f32) (wd : FVec Ideal S32x1024x1024 .f32) (bd : FVec Ideal S32x1024 .f32) :
    FVec Ideal S139264x1024 .f32 :=
  kept nu (lins (acts (lins (blocks xs) (mats be wg) (vecs be bg)) (lins (blocks xs) (mats be wu) (vecs be bu))) (mats be wd) (vecs be bd))

theorem res_eq (m : (ℓ : Loc nD τ sig) → Buf (Elt Ideal) ℓ) (c : Dev nD) :
    res_main_v76 (F := Ideal) m c = value (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) := rfl

/-- A word that names an expert is looked up as itself. -/
theorem looked_at (be : IVec S544 32) (n : Fin 544) (h : (be (ix1 n)).toNat < 32) :
    (looked be (ix2 n 0)).toInt = (((⟨(be (ix1 n)).toNat % 32, Nat.mod_lt _ (by omega)⟩ : Fin 32) : ℕ) : ℤ) := by
  have hw : ∀ w : BitVec 32, w.toNat < 32 → w.slt 0#32 = false ∧ w.toInt = (w.toNat : ℤ) := fun w hw => by
    have e : w.toInt = (w.toNat : ℤ) := by rw [BitVec.toInt_eq_toNat_cond]; split <;> omega
    refine ⟨?_, e⟩
    rw [BitVec.slt_eq_decide, decide_eq_false_iff_not, e]
    have e0 : (0#32 : BitVec 32).toInt = 0 := by decide
    rw [e0]
    omega
  pointwise [looked]
  obtain ⟨h0, h1⟩ := hw _ h
  unfold IntOp.cmpi
  simp only [h0]
  show (be (ix1 n)).toInt = _
  rw [h1, Nat.mod_eq_of_lt h]

theorem lins_at (X : FVec Ideal S544x256x1024 .f32) (W : FVec Ideal S544x1024x1024 .f32) (b : FVec Ideal S544x1024 .f32)
    (n : Fin 544) (r : Fin 256) (f : Fin 1024) :
    lins X W b (ix3 n r f) = Cert.Mlp.lin (fun k => X (ix3 n r k)) (fun k f => W (ix3 n k f)) (fun f => b (ix2 n f)) f := by
  pointwise [lins]
  rfl

theorem acts_at (G U : FVec Ideal S544x256x1024 .f32) (n : Fin 544) (r : Fin 256) (f : Fin 1024) :
    acts G U (ix3 n r f) = Cert.Mlp.act (G (ix3 n r f)) (U (ix3 n r f)) := by
  pointwise [acts]
  rfl

theorem blocks_at (xs : FVec Ideal S139264x1024 .f32) (n : Fin 544) (r : Fin 256) (k : Fin 1024) :
    blocks xs (ix3 n r k) = xs (ix2 ⟨n * 256 + r, by omega⟩ k) := by
  pointwise [blocks]

theorem kept_at (nu : IVec S1 32) (Y : FVec Ideal S544x256x1024 .f32) (n : Fin 544) (r : Fin 256) (d : Fin 1024) :
    kept nu Y (ix2 ⟨n * 256 + r, by omega⟩ d) = if (BitVec.ofNat 32 n).slt (nu (ix1 0)) then Y (ix3 n r d) else 0 := by
  pointwise [kept]
  unfold IntOp.cmpi
  cases (BitVec.ofNat 32 (n : ℕ)).slt (nu (ix1 0))
  · exact Ideal.ofBits_zero .f32
  · rfl

/-- The reference's result at a row of a block. -/
theorem value_at (xs : FVec Ideal S139264x1024 .f32) (be : IVec S544 32) (nu : IVec S1 32) (wg : FVec Ideal S32x1024x1024 .f32) (bg : FVec Ideal S32x1024 .f32)
    (wu : FVec Ideal S32x1024x1024 .f32) (bu : FVec Ideal S32x1024 .f32) (wd : FVec Ideal S32x1024x1024 .f32) (bd : FVec Ideal S32x1024 .f32)
    (n : Fin 544) (r : Fin 256) (d : Fin 1024) (h : (be (ix1 n)).toNat < 32) :
    value xs be nu wg bg wu bu wd bd (ix2 ⟨n * 256 + r, by omega⟩ d)
      = Cert.Mlp.moe xs be (nu (ix1 0)) wg bg wu bu wd bd n r d := by
  have hm : ∀ W k f, mats be W (ix3 n k f) = W (ix3 ⟨(be (ix1 n)).toNat % 32, Nat.mod_lt _ (by omega)⟩ k f) :=
    fun W k f => matrices_at W (looked be) n k f _ (looked_at be n h)
  have hv : ∀ b f, vecs be b (ix2 n f) = b (ix2 ⟨(be (ix1 n)).toNat % 32, Nat.mod_lt _ (by omega)⟩ f) :=
    fun b f => biases_at b (looked be) n f _ (looked_at be n h)
  unfold value
  rw [kept_at]
  unfold Cert.Mlp.moe Cert.Mlp.expert
  simp only [lins_at, acts_at, blocks_at, hm, hv]

end Cert.ExpertsRefIdeal.Mlp
end
-- ==== Proof.ExpertsEq.lean ====
/- The experts' call and its reference leave the same array. -/
module

public import proofs.«01_k».proof.Proof.ExpertsArray
public import proofs.«01_k».proof.Proof.ExpertsRef

@[expose] public section

set_option maxRecDepth 16384

noncomputable section

namespace Cert.ExpertsIdeal.Own

open Cert.ExpertsIdeal Cert.ExpertsIdeal.Gen Idealize.ShloMosaic Idealize.ShloMosaic.TcCoe Idealize.SL.Sem

variable (m : (ℓ : Loc nD τ sig) → Buf (Elt Ideal) ℓ)

/-- The reference's value of the same arguments is the array the call leaves. -/
theorem value_eq (hw : ∀ i, (word (tbl m) i).toNat < 32) :
    Cert.ExpertsRefIdeal.Mlp.value (m ((0 : Dev nD).tc.loc main_arg0)) (m ((0 : Dev nD).tc.loc main_arg1)) (m ((0 : Dev nD).tc.loc main_arg2))
      (m ((0 : Dev nD).tc.loc main_arg3)) (m ((0 : Dev nD).tc.loc main_arg4)) (m ((0 : Dev nD).tc.loc main_arg5))
      (m ((0 : Dev nD).tc.loc main_arg6)) (m ((0 : Dev nD).tc.loc main_arg7)) (m ((0 : Dev nD).tc.loc main_arg8)) = result m 0 := by
  refine funext fun (j : (⟨2, ![139264, 1024]⟩ : Shape).Idx) => ?_
  have h0 : (j (0 : Fin 2)).val < 139264 := (j (0 : Fin 2)).isLt
  have hj : j = ix2 (n0 := 139264) (n1 := 1024) ⟨(j (0 : Fin 2)).val / 256 * 256 + (j (0 : Fin 2)).val % 256, by omega⟩ (j (1 : Fin 2)) := by
    refine funext fun (k : Fin 2) => ?_
    refine Fin.cases ?_ (fun k => Fin.cases rfl (fun k => k.elim0) k) k
    exact Fin.ext (by show (j (0 : Fin 2)).val = _ / 256 * 256 + _ % 256; omega)
  have hb : (m ((0 : Dev nD).tc.loc main_arg1) (ix1 (n0 := 544) ⟨(j (0 : Fin 2)).val / 256, by omega⟩) : BitVec 32).toNat < 32 := by
    have hl := hw (grid0.coords ⟨(j (0 : Fin 2)).val / 256, Nat.lt_of_lt_of_eq (by omega) count.symm⟩)
    rw [word_tbl] at hl
    rwa [show grid0.coords ⟨(j (0 : Fin 2)).val / 256, Nat.lt_of_lt_of_eq (by omega) count.symm⟩ 0 = (⟨(j (0 : Fin 2)).val / 256, by omega⟩ : Fin 544)
      from Fin.ext (coord_eq _)] at hl
  rw [hj]
  exact (Cert.ExpertsRefIdeal.Mlp.value_at _ _ _ _ _ _ _ _ _ ⟨(j (0 : Fin 2)).val / 256, by omega⟩ ⟨(j (0 : Fin 2)).val % 256, by omega⟩ (j (1 : Fin 2)) hb).trans
    (result_at m 0 ⟨(j (0 : Fin 2)).val / 256, by omega⟩ ⟨(j (0 : Fin 2)).val % 256, by omega⟩ (j (1 : Fin 2))).symm

/-- The reference's value of equal arguments. -/
theorem value_of_eq
    (xs : FVec Ideal Cert.ExpertsRefIdeal.S139264x1024 .f32) (h0 : xs = m ((0 : Dev nD).tc.loc main_arg0))
    (be : IVec Cert.ExpertsRefIdeal.S544 32) (h1 : be = m ((0 : Dev nD).tc.loc main_arg1))
    (nu : IVec Cert.ExpertsRefIdeal.S1 32) (h2 : nu = m ((0 : Dev nD).tc.loc main_arg2))
    (wg : FVec Ideal Cert.ExpertsRefIdeal.S32x1024x1024 .f32) (h3 : wg = m ((0 : Dev nD).tc.loc main_arg3))
    (bg : FVec Ideal Cert.ExpertsRefIdeal.S32x1024 .f32) (h4 : bg = m ((0 : Dev nD).tc.loc main_arg4))
    (wu : FVec Ideal Cert.ExpertsRefIdeal.S32x1024x1024 .f32) (h5 : wu = m ((0 : Dev nD).tc.loc main_arg5))
    (bu : FVec Ideal Cert.ExpertsRefIdeal.S32x1024 .f32) (h6 : bu = m ((0 : Dev nD).tc.loc main_arg6))
    (wd : FVec Ideal Cert.ExpertsRefIdeal.S32x1024x1024 .f32) (h7 : wd = m ((0 : Dev nD).tc.loc main_arg7))
    (bd : FVec Ideal Cert.ExpertsRefIdeal.S32x1024 .f32) (h8 : bd = m ((0 : Dev nD).tc.loc main_arg8))
    (hw : ∀ i, (word (tbl m) i).toNat < 32) :
    Cert.ExpertsRefIdeal.Mlp.value xs be nu wg bg wu bu wd bd = result m 0 := by
  subst h0 h1 h2 h3 h4 h5 h6 h7 h8
  exact value_eq m hw

/-- The call runs, leaves that array, and its arguments and counters as they were. -/
theorem run (ρ : Dev nD → PrngReg) (hO : Ok m) (hw : ∀ i, (word (tbl m) i).toNat < 32) :
    θ_run defs (onTc (τ := τ) (main (F := Ideal))) ⟨m, fun _ => 0, ρ⟩ (fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨
    (by obtain rfl : c = 0 := Subsingleton.elim _ _
        exact ((h.1 0).1 (7 : Fin 8)).trans (final m hO hw)),
    ((h.1 c).1 0).trans (((dats m hO 0 c).arrAt_in 0 rfl _).trans ((A_eq m hO c 0).trans (V_main_arg0 m c))),
    ((h.1 c).2 main_arg1 (show main_arg1 ∈ Pipeline.restRefs sig spec0 from Pipeline.mem_restRefs_of main_arg1 (by decide) (by decide))).trans (V_main_arg1 m c),
    ((h.1 c).2 main_arg2 (show main_arg2 ∈ Pipeline.restRefs sig spec0 from Pipeline.mem_restRefs_of main_arg2 (by decide) (by decide))).trans (V_main_arg2 m c),
    ((h.1 c).2 main_arg3 (show main_arg3 ∈ Pipeline.restRefs sig spec0 from Pipeline.mem_restRefs_of main_arg3 (by decide) (by decide))).trans (V_main_arg3 m c),
    ((h.1 c).2 main_arg4 (show main_arg4 ∈ Pipeline.restRefs sig spec0 from Pipeline.mem_restRefs_of main_arg4 (by decide) (by decide))).trans (V_main_arg4 m c),
    ((h.1 c).2 main_arg5 (show main_arg5 ∈ Pipeline.restRefs sig spec0 from Pipeline.mem_restRefs_of main_arg5 (by decide) (by decide))).trans (V_main_arg5 m c),
    ((h.1 c).2 main_arg6 (show main_arg6 ∈ Pipeline.restRefs sig spec0 from Pipeline.mem_restRefs_of main_arg6 (by decide) (by decide))).trans (V_main_arg6 m c),
    ((h.1 c).2 main_arg7 (show main_arg7 ∈ Pipeline.restRefs sig spec0 from Pipeline.mem_restRefs_of main_arg7 (by decide) (by decide))).trans (V_main_arg7 m c),
    ((h.1 c).2 main_arg8 (show main_arg8 ∈ Pipeline.restRefs sig spec0 from Pipeline.mem_restRefs_of main_arg8 (by decide) (by decide))).trans (V_main_arg8 m c)⟩)
    (run_main_quiescent m ρ hO)

end Cert.ExpertsIdeal.Own
end
-- ==== Proof.InProjSpec.lean ====
/- The first projection at a row and a column, plainly. -/
module

public import Idealize.ShloMosaic.Lib.Pointwise

@[expose] public section

set_option maxRecDepth 16384

noncomputable section

namespace Cert.InProj1

open Idealize.ShloMosaic

/-- A row over the root of its mean square, times the weight. -/
def nrm (x n : Fin 1024 → EReal) (k : Fin 1024) : EReal :=
  x k * Ideal.rsqrt (Ideal.div (∑ j, x j * x j) (Ideal.ofBits .f32 0x44800000#32) + Ideal.ofBits .f32 0x358637BD#32) * n k

/-- The normalised row times one column of a matrix. -/
def proj (x n w : Fin 1024 → EReal) : EReal := ∑ k, nrm x n k * w k

/-- The projection's matrix with its columns in the launch's order: the first 2048, then those behind the eight
    gates, then the gates, then zeros. -/
def cols (w : (⟨2, ![1024, 3592]⟩ : Shape).Idx → EReal) (k : Fin 1024) (c : ℕ) : EReal :=
  if h : c < 2048 then w (ix2 k ⟨c, by omega⟩)
  else if h' : c < 3584 then w (ix2 k ⟨c + 8, by omega⟩)
  else if h'' : c < 3592 then w (ix2 k ⟨c - 1536, by omega⟩)
  else 0

/-- Row `r` of the 32768 rows of the activations. -/
def row (x : (⟨3, ![8, 4096, 1024]⟩ : Shape).Idx → EReal) (r : Fin 32768) (k : Fin 1024) : EReal :=
  x (ix3 ⟨r.val / 4096, by omega⟩ ⟨r.val % 4096, by omega⟩ k)

/-- The projection of row `r` at column `c` of the launch's order. -/
def out (x : (⟨3, ![8, 4096, 1024]⟩ : Shape).Idx → EReal) (n : (⟨1, ![1024]⟩ : Shape).Idx → EReal)
    (w : (⟨2, ![1024, 3592]⟩ : Shape).Idx → EReal) (r : Fin 32768) (c : ℕ) : EReal :=
  proj (row x r) (fun k => n (ix1 k)) (fun k => cols w k c)

/-- The word zero is the number zero. -/
theorem word_zero : (FloatOps.sitofp (F := Ideal) FTy.f32 (0#32) : EReal) = 0 := by
  show (((0#32 : BitVec 32).toInt : ℝ) : EReal) = 0
  simp

/-! Which column of the matrix a column of the launch's order is. -/

theorem cols_first (w : (⟨2, ![1024, 3592]⟩ : Shape).Idx → EReal) (k : Fin 1024) (c : ℕ) (h : c < 2048) (l : Fin 3592)
    (hl : l.val = c) : cols w k c = w (ix2 k l) := by
  unfold cols
  rw [dif_pos h]
  exact congrArg (fun i => w (ix2 k i)) (Fin.ext hl.symm)

theorem cols_later (w : (⟨2, ![1024, 3592]⟩ : Shape).Idx → EReal) (k : Fin 1024) (c : ℕ) (h : ¬ c < 2048) (h' : c < 3584)
    (l : Fin 3592) (hl : l.val = c + 8) : cols w k c = w (ix2 k l) := by
  unfold cols
  rw [dif_neg h, dif_pos h']
  exact congrArg (fun i => w (ix2 k i)) (Fin.ext hl.symm)

theorem cols_gates (w : (⟨2, ![1024, 3592]⟩ : Shape).Idx → EReal) (k : Fin 1024) (c : ℕ) (h : ¬ c < 3584) (h' : c < 3592)
    (l : Fin 3592) (hl : l.val = c - 1536) : cols w k c = w (ix2 k l) := by
  unfold cols
  rw [dif_neg (by omega), dif_neg h, dif_pos h']
  exact congrArg (fun i => w (ix2 k i)) (Fin.ext hl.symm)

theorem cols_behind (w : (⟨2, ![1024, 3592]⟩ : Shape).Idx → EReal) (k : Fin 1024) (c : ℕ) (h : ¬ c < 3592) : cols w k c = 0 := by
  unfold cols
  rw [dif_neg (by omega), dif_neg (by omega), dif_neg h]

theorem proj_zero (x n : Fin 1024 → EReal) : proj x n (fun _ => 0) = 0 := by
  simp [proj]

end Cert.InProj1
end
-- ==== Proof.InProjBlock.lean ====
/- What one grid point of the first projection stores, at a row and a column. -/
module

public import proofs.«01_k».proof.Proof.Gen.InProjIdeal.Value
public import Idealize.ShloMosaic.Lib.Pipeline.ValueKit
public import proofs.«01_k».proof.Proof.InProjSpec

@[expose] public section

set_option maxRecDepth 16384

noncomputable section

namespace Cert.InProjIdeal.Own

open Cert.InProjIdeal Cert.InProjIdeal.Gen Idealize.ShloMosaic Idealize.ShloMosaic.TcCoe Idealize.SL.Sem
open Cert.InProj1

/-- The normalised row of a block. -/
theorem nrm_at (x : FVec Ideal S512x1024 .f32) (n : FVec Ideal S1x1024 .f32) (r : Fin 512) (k : Fin 1024) :
    k0_pay4 (F := Ideal) x n (ix2 r k) = nrm (fun k => x (ix2 r k)) (fun k => n (ix2 0 k)) k := by
  pointwise [k0_pay4]
  rfl

/-! The products of the normalised rows with a group of columns. -/

theorem mm512 (y : FVec Ideal S512x1024 .bf16) (w : FVec Ideal S1024x512 .bf16) (r l : Fin 512) :
    k0_pay1 (F := Ideal) y w (ix2 r l) = ∑ k, (y (ix2 r k) : EReal) * w (ix2 k l) := by
  pointwise [k0_pay1]

theorem mm512' (y : FVec Ideal S512x1024 .bf16) (w : FVec Ideal S1024x512 .bf16) (r l : Fin 512) :
    k0_pay2 (F := Ideal) y w (ix2 r l) = ∑ k, (y (ix2 r k) : EReal) * w (ix2 k l) := by
  pointwise [k0_pay2]

theorem mm128 (y : FVec Ideal S512x1024 .bf16) (w : FVec Ideal S1024x128 .bf16) (r : Fin 512) (l : Fin 128) :
    k0_pay3 (F := Ideal) y w (ix2 r l) = ∑ k, (y (ix2 r k) : EReal) * w (ix2 k l) := by
  pointwise [k0_pay3]

theorem mm1536 (x : FVec Ideal S512x1024 .f32) (n : FVec Ideal S1x1024 .f32) (w : FVec Ideal S1024x1536 .bf16) (r : Fin 512)
    (l : Fin 1536) :
    k0_pay5 (F := Ideal) x n w (ix2 r l) = ∑ k, (k0_pay4 (F := Ideal) x n (ix2 r k) : EReal) * w (ix2 k l) := by
  pointwise [k0_pay5]

theorem mmz (x : FVec Ideal S512x1024 .f32) (n : FVec Ideal S1x1024 .f32) (w : FVec Ideal S1024x512 .bf16) (r l : Fin 512) :
    k0_pay6 (F := Ideal) x n w (ix2 r l) = ∑ k, (k0_pay4 (F := Ideal) x n (ix2 r k) : EReal) * w (ix2 k l) := by
  pointwise [k0_pay6]

theorem mmq (x : FVec Ideal S512x1024 .f32) (n : FVec Ideal S1x1024 .f32) (w : FVec Ideal S1024x512 .bf16) (r l : Fin 512) :
    k0_pay7 (F := Ideal) x n w (ix2 r l) = ∑ k, (k0_pay4 (F := Ideal) x n (ix2 r k) : EReal) * w (ix2 k l) := by
  pointwise [k0_pay7]

variable (x : FVec Ideal S512x1024 .f32) (n : FVec Ideal S1x1024 .f32) (w : FVec Ideal S1024x3712 .bf16)

/-- One row of a block's projection, at column `c` of the matrix. -/
abbrev blockOut (r : Fin 512) (c : Fin 3712) : EReal :=
  proj (fun k => x (ix2 r k)) (fun k => n (ix2 0 k)) (fun k => w (ix2 k c))

/-- The columns of the matrix from `o` on. -/
theorem ld_at (o d : ℕ) (inb) (k : Fin 1024) (l : Fin d) (h : o + l.val < 3712) :
    (View.ld (Val := Elt Ideal) (e' := .bf16) w (Rect.unit (s := S1024x3712) ![0, o] ![1024, d] inb) (ix2 k l) : EReal)
      = w (ix2 k ⟨o + l.val, h⟩) := by
  refine congrArg w (funext fun a => Fin.ext ?_)
  fin_cases a
  · show 0 + 1 * k.val = k.val
    omega
  · show o + 1 * l.val = o + l.val
    omega

/-- A product of the normalised rows with columns from `o` on is the projection at those columns. -/
theorem at_of (o d : ℕ) (inb) (r : Fin 512) (l : Fin d) (h : o + l.val < 3712) :
    (∑ k : Fin 1024, nrm (fun k => x (ix2 r k)) (fun k => n (ix2 0 k)) k
        * (View.ld (Val := Elt Ideal) (e' := .bf16) w (Rect.unit (s := S1024x3712) ![0, o] ![1024, d] inb) (ix2 k l) : EReal))
      = blockOut x n w r ⟨o + l.val, h⟩ :=
  Finset.sum_congr (M := EReal) rfl fun k _ => congrArg _ (ld_at w o d inb k l h)

/-- The operands the later stores share. -/
theorem pay9_at (r : Fin 512) (k : Fin 1024) :
    k0_pay9 (F := Ideal) x n w (ix2 r k) = nrm (fun k => x (ix2 r k)) (fun k => n (ix2 0 k)) k := by
  have h0 : View.ld (Val := Elt Ideal) (e' := .f32) x r0_0 = x := View.ld_unit_lit (Val := Elt Ideal) (e := .f32) (S := S512x1024) (off := ![0, 0]) _ x (by decide)
  have h1 : View.ld (Val := Elt Ideal) (e' := .f32) n r0_1 = n := View.ld_unit_lit (Val := Elt Ideal) (e := .f32) (S := S1x1024) (off := ![0, 0]) _ n (by decide)
  unfold k0_pay9
  rw [h0, h1, nrm_at]

theorem pay8_eq (v : FVec Ideal S1024x512 .bf16) : k0_pay8 (F := Ideal) v = v := by
  funext j
  pointwise [k0_pay8]

/-! What the six stores hold. -/

theorem out3_at (r : Fin 512) (l : Fin 1536) : out0_3 (F := Ideal) x n w (ix2 r l) = blockOut x n w r ⟨0 + l.val, by omega⟩ := by
  frame_out
  rw [mm1536]
  simp only [nrm_at]
  exact at_of x n w 0 1536 _ r l _

theorem out4_at (r l : Fin 512) : out0_4 (F := Ideal) x n w (ix2 r l) = blockOut x n w r ⟨1536 + l.val, by omega⟩ := by
  frame_out
  rw [mmz]
  simp only [nrm_at]
  exact at_of x n w 1536 512 _ r l _

theorem out5_at (r : Fin 512) (l : Fin 128) : out0_5 (F := Ideal) x n w (ix2 r l) = blockOut x n w r ⟨3584 + l.val, by omega⟩ := by
  frame_out
  rw [mm128]
  simp only [pay9_at]
  exact at_of x n w 3584 128 _ r l _

theorem out6_at (r l : Fin 512) : out0_6 (F := Ideal) x n w (ix2 r l) = blockOut x n w r ⟨2048 + l.val, by omega⟩ := by
  frame_out
  rw [mmq]
  simp only [nrm_at]
  exact at_of x n w 2048 512 _ r l _

theorem out7_at (r l : Fin 512) : out0_7 (F := Ideal) x n w (ix2 r l) = blockOut x n w r ⟨2560 + l.val, by omega⟩ := by
  frame_out
  rw [mm512, pay8_eq]
  simp only [pay9_at]
  exact at_of x n w 2560 512 _ r l _

theorem out8_at (r l : Fin 512) : out0_8 (F := Ideal) x n w (ix2 r l) = blockOut x n w r ⟨3072 + l.val, by omega⟩ := by
  frame_out
  rw [mm512']
  simp only [pay9_at]
  exact at_of x n w 3072 512 _ r l _

end Cert.InProjIdeal.Own
end
-- ==== Proof.InProjArray.lean ====
/- The first projection's results after the run. -/
module

public import Idealize.ShloMosaic.Lib.StableHlo.ReadAt
public import proofs.«01_k».proof.Proof.InProjBlock

@[expose] public section

set_option maxRecDepth 16384

noncomputable section

namespace Cert.InProjIdeal.Own

open Cert.InProjIdeal Cert.InProjIdeal.Gen Idealize.ShloMosaic Idealize.ShloMosaic.TcCoe Idealize.SL.Sem
open Idealize.ShloMosaic.Pipeline (Dat)
open Cert.InProj1

variable (m : (ℓ : Loc nD τ sig) → Buf (Elt Ideal) ℓ)

/-- The activations, the weight of the norm, and the matrix. -/
abbrev X (c : Dev nD) : (⟨3, ![8, 4096, 1024]⟩ : Shape).Idx → EReal := m ((c.tc : Thread nD τ).loc main_arg0)
abbrev N (c : Dev nD) : (⟨1, ![1024]⟩ : Shape).Idx → EReal := m ((c.tc : Thread nD τ).loc main_arg1)
abbrev W (c : Dev nD) : (⟨2, ![1024, 3592]⟩ : Shape).Idx → EReal := m ((c.tc : Thread nD τ).loc main_arg2)

theorem V_x (c : Dev nD) (r : Fin 32768) (k : Fin 1024) : V m c main_v0 (ix2 r k) = row (X m c) r k := by
  unfold V row X
  after_reads_at

theorem V_n (c : Dev nD) (k : Fin 1024) : V m c main_v7 (ix2 (0 : Fin 1) k) = N m c (ix1 k) := by
  unfold V N
  after_reads_at

/-- A column's number may be written another way. -/
theorem col_congr (c : Dev nD) (k : Fin 1024) {i j : Fin 3592} (h : i.val = j.val) : W m c (ix2 k i) = W m c (ix2 k j) := by
  rw [Fin.ext h]

theorem V_w (c : Dev nD) (k : Fin 1024) (l : Fin 3712) : V m c main_v6 (ix2 k l) = cols (W m c) k l.val := by
  unfold V cols
  after_reads_at
  by_cases h : l.val < 2048
  · rw [dif_pos h, dif_pos h]
    after_reads_at
  · rw [dif_neg h, dif_neg h]
    by_cases h' : l.val < 3584
    · rw [dif_pos (by omega), dif_pos h']
      after_reads_at
      exact col_congr m c k (show 2056 + (l.val - 2048) = l.val + 8 by omega)
    · rw [dif_neg (by omega), dif_neg h']
      after_reads_at
      by_cases h'' : l.val < 3592
      · have h3 : l.val - 2048 - 1536 < 8 := by omega
        simp only [h3, h'', dif_pos]
        exact col_congr m c k (show 2048 + (l.val - 2048 - 1536) = l.val - 1536 by omega)
      · have h3 : ¬ l.val - 2048 - 1536 < 8 := by omega
        simp only [h3, h'', dif_neg, not_false_eq_true]
        exact word_zero

theorem idx : ∀ t : Fin cfg0.N, win0_0.index t = ![t.val, 0] ∧ win0_1.index t = ![0, 0] ∧ win0_2.index t = ![0, 0]
   ∧ win0_3.index t = ![t.val, 0] ∧ win0_4.index t = ![t.val, 0] ∧ win0_5.index t = ![t.val, 0]
   ∧ win0_6.index t = ![t.val, 0] ∧ win0_7.index t = ![t.val, 0] ∧ win0_8.index t = ![t.val, 0] :=
  (by decide +kernel : ∀ t : Fin grid0.N, _)

/-- A point's blocks of the operands. -/
theorem blk_x (c : Dev nD) (t : Fin cfg0.N) (r : Fin 512) (k : Fin 1024) (h : t.val * 512 + r.val < 32768) :
    iblk m c 0 t (ix2 r k) = row (X m c) ⟨t.val * 512 + r.val, h⟩ k := by
  rw [← V_x]
  blk_ext [iblk, idx t]

theorem blk_n (c : Dev nD) (t : Fin cfg0.N) (k : Fin 1024) : iblk m c 1 t (ix2 (0 : Fin 1) k) = N m c (ix1 k) := by
  rw [← V_n]
  blk_ext [iblk, idx t]

theorem blk_w (c : Dev nD) (t : Fin cfg0.N) (k : Fin 1024) (l : Fin 3712) : iblk m c 2 t (ix2 k l) = cols (W m c) k l.val := by
  rw [← V_w]
  blk_ext [iblk, idx t]

/-- A row of a point's projection is the projection of that row of the array. -/
theorem block_row (c : Dev nD) (t : Fin cfg0.N) (r : Fin 512) (l : Fin 3712) (h : t.val * 512 + r.val < 32768) :
    blockOut (iblk m c 0 t) (iblk m c 1 t) (iblk m c 2 t) r l = out (X m c) (N m c) (W m c) ⟨t.val * 512 + r.val, h⟩ l.val := by
  have hx : (fun k => (iblk m c 0 t (ix2 r k) : EReal)) = row (X m c) ⟨t.val * 512 + r.val, h⟩ := funext fun k => blk_x m c t r k h
  have hn : (fun k => (iblk m c 1 t (ix2 (0 : Fin 1) k) : EReal)) = fun k => N m c (ix1 k) := funext fun k => blk_n m c t k
  have hw : (fun k => (iblk m c 2 t (ix2 k l) : EReal)) = fun k => cols (W m c) k l.val := funext fun k => blk_w m c t k l
  unfold blockOut out
  rw [hx, hn, hw]

/-- A result of `d` columns of the projection, from column `o` of the launch's order on. -/
def result (o d : ℕ) (c : Dev nD) : (⟨2, ![32768, d]⟩ : Shape).Idx → EReal := fun j => out (X m c) (N m c) (W m c) (j 0) (o + (j 1).val)

/-- A point's rows of a result, at the columns the result has. -/
theorem result_at (o d : ℕ) (ho : o + d ≤ 3712) (c : Dev nD) (t : Fin cfg0.N) (r : Fin 512) (l : Fin d)
    (j : (⟨2, ![32768, d]⟩ : Shape).Idx) (h0 : (j 0).val = t.val * 512 + r.val) (h1 : (j 1).val = l.val) :
    blockOut (iblk m c 0 t) (iblk m c 1 t) (iblk m c 2 t) r ⟨o + l.val, by omega⟩ = result m o d c j := by
  have h : t.val * 512 + r.val < 32768 := h0 ▸ (j 0).isLt
  refine (block_row m c t r _ h).trans ?_
  unfold result
  rw [h1]
  exact congrArg (fun i => out (X m c) (N m c) (W m c) i (o + l.val)) (Fin.ext h0.symm)

/-! The six results after the run: each point's block covers its rows. -/

theorem final3 (c : Dev nD) : (dats m 0 c).arrAt 3 (cfgs 0).N = result m 0 1536 c := by
  refine (dats m 0 c).arrAt_eq_of_covers 3 _ (by decide +kernel) fun t _ y => ?_
  blk_simp
  rw [after0_3]
  refine (congrArg _ (eq_ix2 y)).trans ((out3_at _ _ _ (y 0) (y 1)).trans
    (result_at m 0 1536 (by decide) c t (y 0) (y 1) _ ?_ ?_))
  · blk_simp [idx t]
  · blk_simp [idx t]

theorem final4 (c : Dev nD) : (dats m 0 c).arrAt 4 (cfgs 0).N = result m 1536 512 c := by
  refine (dats m 0 c).arrAt_eq_of_covers 4 _ (by decide +kernel) fun t _ y => ?_
  blk_simp
  rw [after0_4]
  refine (congrArg _ (eq_ix2 y)).trans ((out4_at _ _ _ (y 0) (y 1)).trans
    (result_at m 1536 512 (by decide) c t (y 0) (y 1) _ ?_ ?_))
  · blk_simp [idx t]
  · blk_simp [idx t]

theorem final5 (c : Dev nD) : (dats m 0 c).arrAt 5 (cfgs 0).N = result m 3584 128 c := by
  refine (dats m 0 c).arrAt_eq_of_covers 5 _ (by decide +kernel) fun t _ y => ?_
  blk_simp
  rw [after0_5]
  refine (congrArg _ (eq_ix2 y)).trans ((out5_at _ _ _ (y 0) (y 1)).trans
    (result_at m 3584 128 (by decide) c t (y 0) (y 1) _ ?_ ?_))
  · blk_simp [idx t]
  · blk_simp [idx t]

theorem final6 (c : Dev nD) : (dats m 0 c).arrAt 6 (cfgs 0).N = result m 2048 512 c := by
  refine (dats m 0 c).arrAt_eq_of_covers 6 _ (by decide +kernel) fun t _ y => ?_
  blk_simp
  rw [after0_6]
  refine (congrArg _ (eq_ix2 y)).trans ((out6_at _ _ _ (y 0) (y 1)).trans
    (result_at m 2048 512 (by decide) c t (y 0) (y 1) _ ?_ ?_))
  · blk_simp [idx t]
  · blk_simp [idx t]

theorem final7 (c : Dev nD) : (dats m 0 c).arrAt 7 (cfgs 0).N = result m 2560 512 c := by
  refine (dats m 0 c).arrAt_eq_of_covers 7 _ (by decide +kernel) fun t _ y => ?_
  blk_simp
  rw [after0_7]
  refine (congrArg _ (eq_ix2 y)).trans ((out7_at _ _ _ (y 0) (y 1)).trans
    (result_at m 2560 512 (by decide) c t (y 0) (y 1) _ ?_ ?_))
  · blk_simp [idx t]
  · blk_simp [idx t]

theorem final8 (c : Dev nD) : (dats m 0 c).arrAt 8 (cfgs 0).N = result m 3072 512 c := by
  refine (dats m 0 c).arrAt_eq_of_covers 8 _ (by decide +kernel) fun t _ y => ?_
  blk_simp
  rw [after0_8]
  refine (congrArg _ (eq_ix2 y)).trans ((out8_at _ _ _ (y 0) (y 1)).trans
    (result_at m 3072 512 (by decide) c t (y 0) (y 1) _ ?_ ?_))
  · blk_simp [idx t]
  · blk_simp [idx t]

end Cert.InProjIdeal.Own
end
-- ==== Proof.InProjRef.lean ====
/- What the first projection's reference returns, at a row and a column. -/
module

public import proofs.«01_k».proof.Proof.Gen.InProjRefIdeal.Run
public import proofs.«01_k».proof.Proof.InProjSpec

@[expose] public section

set_option maxRecDepth 16384

noncomputable section

namespace Cert.InProjRefIdeal.Own

open Cert.InProjRefIdeal Cert.InProjRefIdeal.Gen Cert.InProjRefIdeal.Value Idealize.ShloMosaic Idealize.ShloMosaic.TcCoe Idealize.SL.Sem
open Cert.InProj1

/-- The normalised activations. -/
def normed (x : FVec Ideal S8x4096x1024 .f32) (n : FVec Ideal S1024 .f32) : FVec Ideal S8x4096x1024 .f32 :=
  mulf (mulf x (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 n))

/-- Their product with the matrix. -/
def prod (x : FVec Ideal S8x4096x1024 .f32) (n : FVec Ideal S1024 .f32) (w : FVec Ideal S1024x3592 .f32) : FVec Ideal S8x4096x3592 .f32 :=
  Host.dotGeneral dot_S8x4096x1024_S1024x3592_S8x4096x3592_2_0_01_1_n_n none (normed x n) w

/-! The six results, cut from the product. -/

def qkv (h : FVec Ideal S8x4096x3592 .f32) : FVec Ideal S32768x1536 .f32 :=
  shapeCast _ (concatenate S8x4096x1536 2 [⟨S8x4096x512, extractStridedSlice S8x4096x512 ![0, 0, 0] h slices_S8x4096x3592_S8x4096x512_0_0_0⟩,
    ⟨S8x4096x512, extractStridedSlice S8x4096x512 ![0, 0, 512] h slices_S8x4096x3592_S8x4096x512_0_0_512⟩,
    ⟨S8x4096x512, extractStridedSlice S8x4096x512 ![0, 0, 1024] h slices_S8x4096x3592_S8x4096x512_0_0_1024⟩]
    concatenates_S8x4096x512_S8x4096x512_S8x4096x512_S8x4096x1536_d2) shapeCasts_S8x4096x1536_S32768x1536

def gate (h : FVec Ideal S8x4096x3592 .f32) : FVec Ideal S32768x512 .f32 :=
  shapeCast _ (extractStridedSlice S8x4096x512 ![0, 0, 1536] h slices_S8x4096x3592_S8x4096x512_0_0_1536) shapeCasts_S8x4096x512_S32768x512

def ba (h : FVec Ideal S8x4096x3592 .f32) : FVec Ideal S32768x128 .f32 :=
  shapeCast _ (pad S8x4096x128 ![0, 0, 0] ![0, 0, 120] ![0, 0, 0] (concatenate S8x4096x8 2 [⟨S8x4096x4, extractStridedSlice S8x4096x4 ![0, 0, 2048] h slices_S8x4096x3592_S8x4096x4_0_0_2048⟩,
    ⟨S8x4096x4, extractStridedSlice S8x4096x4 ![0, 0, 2052] h slices_S8x4096x3592_S8x4096x4_0_0_2052⟩] concatenates_S8x4096x4_S8x4096x4_S8x4096x8_d2)
    (sitofp .f32 (constantI S_ 32 0#32)) pads_S8x4096x8_S8x4096x128_000_000_01200 h_S_) shapeCasts_S8x4096x128_S32768x128

def q (h : FVec Ideal S8x4096x3592 .f32) : FVec Ideal S32768x512 .bf16 :=
  truncf .bf16 (shapeCast _ (extractStridedSlice S8x4096x512 ![0, 0, 2056] h slices_S8x4096x3592_S8x4096x512_0_0_2056) shapeCasts_S8x4096x512_S32768x512) bitsLt_bf16_f32

def k (h : FVec Ideal S8x4096x3592 .f32) : FVec Ideal S32768x512 .bf16 :=
  truncf .bf16 (shapeCast _ (extractStridedSlice S8x4096x512 ![0, 0, 2568] h slices_S8x4096x3592_S8x4096x512_0_0_2568) shapeCasts_S8x4096x512_S32768x512) bitsLt_bf16_f32

def v (h : FVec Ideal S8x4096x3592 .f32) : FVec Ideal S32768x512 .bf16 :=
  truncf .bf16 (shapeCast _ (extractStridedSlice S8x4096x512 ![0, 0, 3080] h slices_S8x4096x3592_S8x4096x512_0_0_3080) shapeCasts_S8x4096x512_S32768x512) bitsLt_bf16_f32

theorem normed_at (x : FVec Ideal S8x4096x1024 .f32) (n : FVec Ideal S1024 .f32) (b : Fin 8) (s : Fin 4096) (k : Fin 1024) :
    normed x n (ix3 b s k) = nrm (fun k => x (ix3 b s k)) (fun k => n (ix1 k)) k := by
  pointwise [normed]
  rfl

theorem prod_at (x : FVec Ideal S8x4096x1024 .f32) (n : FVec Ideal S1024 .f32) (w : FVec Ideal S1024x3592 .f32) (b : Fin 8)
    (s : Fin 4096) (l : Fin 3592) :
    prod x n w (ix3 b s l) = proj (fun k => x (ix3 b s k)) (fun k => n (ix1 k)) (fun k => w (ix2 k l)) := by
  have h : prod x n w (ix3 b s l) = ∑ k, (normed x n (ix3 b s k) : EReal) * w (ix2 k l) := by
    unfold prod
    generalize normed x n = y
    pointwise
  rw [h]
  simp only [normed_at]
  rfl

variable (h : FVec Ideal S8x4096x3592 .f32)

/-- Where row `r` and column `c` of a result lie in the product. -/
abbrev cell (r : Fin 32768) (c : Fin 3592) : EReal := h (ix3 ⟨r.val / 4096, by omega⟩ ⟨r.val % 4096, by omega⟩ c)

theorem gate_at (r : Fin 32768) (l : Fin 512) : gate h (ix2 r l) = cell h r ⟨1536 + l.val, by omega⟩ := by
  pointwise [gate]

theorem q_at (r : Fin 32768) (l : Fin 512) : q h (ix2 r l) = cell h r ⟨2056 + l.val, by omega⟩ := by
  pointwise [q]

theorem k_at (r : Fin 32768) (l : Fin 512) : k h (ix2 r l) = cell h r ⟨2568 + l.val, by omega⟩ := by
  pointwise [k]

theorem v_at (r : Fin 32768) (l : Fin 512) : v h (ix2 r l) = cell h r ⟨3080 + l.val, by omega⟩ := by
  pointwise [v]

/-- A column's number may be written another way. -/
theorem cell_congr (r : Fin 32768) {i j : Fin 3592} (g : i.val = j.val) : cell h r i = cell h r j := by
  rw [Fin.ext g]

theorem qkv_at (r : Fin 32768) (l : Fin 1536) : qkv h (ix2 r l) = cell h r ⟨l.val, by omega⟩ := by
  pointwise [qkv]
  split
  · rfl
  · split
    · exact cell_congr h r (show 512 + (l.val - 512) = l.val by omega)
    · exact cell_congr h r (show 1024 + (l.val - 512 - 512) = l.val by omega)

theorem ba_at (r : Fin 32768) (l : Fin 128) (g : l.val < 8) : ba h (ix2 r l) = cell h r ⟨2048 + l.val, by omega⟩ := by
  pointwise [ba]
  rw [dif_pos (by omega)]
  split
  · rfl
  · exact cell_congr h r (show 2052 + (l.val - 4) = 2048 + l.val by omega)

theorem ba_behind (r : Fin 32768) (l : Fin 128) (g : ¬ l.val < 8) : ba h (ix2 r l) = 0 := by
  pointwise [ba]
  rw [dif_neg (by omega)]
  exact word_zero

/-! The product is the projection, and so are the six results. -/

variable (x : FVec Ideal S8x4096x1024 .f32) (n : FVec Ideal S1024 .f32) (w : FVec Ideal S1024x3592 .f32)

theorem cell_out (r : Fin 32768) (c : ℕ) (l : Fin 3592) (g : ∀ k, cols w k c = w (ix2 k l)) :
    cell (prod x n w) r l = out x n w r c := by
  refine (prod_at ..).trans ?_
  unfold out
  rw [funext g]
  rfl

/-- A result of `d` columns of the projection, from column `o` of the launch's order on. -/
abbrev part (o d : ℕ) : (⟨2, ![32768, d]⟩ : Shape).Idx → EReal := fun j => out x n w (j 0) (o + (j 1).val)

theorem qkv_eq : qkv (prod x n w) = part x n w 0 1536 := by
  funext j
  refine (congrArg _ (eq_ix2 j)).trans ((qkv_at _ (j 0) (j 1)).trans (cell_out x n w _ _ _ fun k => ?_))
  have := (j 1).isLt
  exact cols_first w k _ (by simp at this; omega) _ (by simp)

theorem gate_eq : gate (prod x n w) = part x n w 1536 512 := by
  funext j
  refine (congrArg _ (eq_ix2 j)).trans ((gate_at _ (j 0) (j 1)).trans (cell_out x n w _ _ _ fun k => ?_))
  have := (j 1).isLt
  exact cols_first w k _ (by simp at this; omega) _ (by simp)

theorem q_eq : q (prod x n w) = part x n w 2048 512 := by
  funext j
  refine (congrArg _ (eq_ix2 j)).trans ((q_at _ (j 0) (j 1)).trans (cell_out x n w _ _ _ fun k => ?_))
  have := (j 1).isLt
  exact cols_later w k _ (by omega) (by simp at this; omega) _ (by simp; omega)

theorem k_eq : k (prod x n w) = part x n w 2560 512 := by
  funext j
  refine (congrArg _ (eq_ix2 j)).trans ((k_at _ (j 0) (j 1)).trans (cell_out x n w _ _ _ fun k => ?_))
  have := (j 1).isLt
  exact cols_later w k _ (by omega) (by simp at this; omega) _ (by simp; omega)

theorem v_eq : v (prod x n w) = part x n w 3072 512 := by
  funext j
  refine (congrArg _ (eq_ix2 j)).trans ((v_at _ (j 0) (j 1)).trans (cell_out x n w _ _ _ fun k => ?_))
  have := (j 1).isLt
  exact cols_later w k _ (by omega) (by simp at this; omega) _ (by simp; omega)

theorem ba_eq : ba (prod x n w) = part x n w 3584 128 := by
  funext j
  have b := (j 1).isLt
  simp at b
  refine (congrArg _ (eq_ix2 j)).trans ?_
  by_cases g : (j 1).val < 8
  · exact (ba_at _ (j 0) (j 1) g).trans (cell_out x n w _ _ _ fun k => cols_gates w k _ (by omega) (by omega) _ (by simp; omega))
  · refine (ba_behind _ (j 0) (j 1) g).trans ?_
    show _ = out x n w (j 0) (3584 + (j 1).val)
    unfold out
    rw [funext fun k => cols_behind w k (3584 + (j 1).val) (by omega)]
    exact (proj_zero _ _).symm

/-! The printed results are these, of the argument arrays. -/

variable (m : (ℓ : Loc nD τ sig) → Buf (Elt Ideal) ℓ)

/-- The reference's run, each result at the projection's part. -/
theorem run_parts (g : Dev nD → PrngReg) :
    θ_run (defs (F := Ideal)) (onTc (τ := τ) (main (F := Ideal))) ⟨m, fun _ => 0, g⟩ fun r => ∀ c : Dev nD,
      (r.2.mem ((c.tc : Thread nD τ).loc main_v26) = part (m ((c.tc : Thread nD τ).loc main_arg0)) (m ((c.tc : Thread nD τ).loc main_arg1)) (m ((c.tc : Thread nD τ).loc main_arg2)) 0 1536
      ∧ r.2.mem ((c.tc : Thread nD τ).loc main_v27) = part (m ((c.tc : Thread nD τ).loc main_arg0)) (m ((c.tc : Thread nD τ).loc main_arg1)) (m ((c.tc : Thread nD τ).loc main_arg2)) 1536 512
      ∧ r.2.mem ((c.tc : Thread nD τ).loc main_v28) = part (m ((c.tc : Thread nD τ).loc main_arg0)) (m ((c.tc : Thread nD τ).loc main_arg1)) (m ((c.tc : Thread nD τ).loc main_arg2)) 3584 128
      ∧ r.2.mem ((c.tc : Thread nD τ).loc main_v30) = part (m ((c.tc : Thread nD τ).loc main_arg0)) (m ((c.tc : Thread nD τ).loc main_arg1)) (m ((c.tc : Thread nD τ).loc main_arg2)) 2048 512
      ∧ r.2.mem ((c.tc : Thread nD τ).loc main_v32) = part (m ((c.tc : Thread nD τ).loc main_arg0)) (m ((c.tc : Thread nD τ).loc main_arg1)) (m ((c.tc : Thread nD τ).loc main_arg2)) 2560 512
      ∧ r.2.mem ((c.tc : Thread nD τ).loc main_v34) = part (m ((c.tc : Thread nD τ).loc main_arg0)) (m ((c.tc : Thread nD τ).loc main_arg1)) (m ((c.tc : Thread nD τ).loc main_arg2)) 3072 512)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run _ _ _).mono (fun r h c => ?_) (Cert.InProjRefIdeal.Value.run m g)
  obtain ⟨h0, h1, h2, h3, h4, h5, h6⟩ := h c
  exact ⟨⟨h0.trans (qkv_eq _ _ _), h1.trans (gate_eq _ _ _), h2.trans (ba_eq _ _ _), h3.trans (q_eq _ _ _), h4.trans (k_eq _ _ _),
    h5.trans (v_eq _ _ _)⟩, h6⟩

end Cert.InProjRefIdeal.Own
end
-- ==== Proof.OutProjSpec.lean ====
/- The output projection with the residual, and the norm of the result, at a row and a lane, plainly. -/
module

public import proofs.«01_k».proof.Proof.InProjSpec

@[expose] public section

set_option maxRecDepth 16384

noncomputable section

namespace Cert.OutProj1

open Idealize.ShloMosaic Cert.InProj1

/-- The residual `x` with two rows times the two halves of a column added. -/
def mix (a b : Fin 512 → EReal) (x : EReal) (w : Fin 1024 → EReal) : EReal :=
  x + ∑ k : Fin 512, a k * w ⟨k.val, by omega⟩ + ∑ k : Fin 512, b k * w ⟨512 + k.val, by omega⟩

/-- Row `r` of 32768 rows. -/
def rowOf (d : ℕ) (x : (⟨3, ![8, 4096, d]⟩ : Shape).Idx → EReal) (r : Fin 32768) (k : Fin d) : EReal :=
  x (ix3 ⟨r.val / 4096, by omega⟩ ⟨r.val % 4096, by omega⟩ k)

variable (a b : (⟨3, ![8, 4096, 512]⟩ : Shape).Idx → EReal) (x : (⟨3, ![8, 4096, 1024]⟩ : Shape).Idx → EReal)
  (w : (⟨2, ![1024, 1024]⟩ : Shape).Idx → EReal) (n : (⟨1, ![1024]⟩ : Shape).Idx → EReal)

/-- The stream after the two mixers. -/
def stream (r : Fin 32768) (l : Fin 1024) : EReal :=
  mix (rowOf 512 a r) (rowOf 512 b r) (rowOf 1024 x r l) fun k => w (ix2 k l)

/-- The stream normalised. -/
def normal (r : Fin 32768) (l : Fin 1024) : EReal := nrm (stream a b x w r) (fun k => n (ix1 k)) l

/-- The router's logits of a row. -/
def logits (u : (⟨2, ![1024, 32]⟩ : Shape).Idx → EReal) (v : (⟨1, ![32]⟩ : Shape).Idx → EReal) (r : Fin 32768) (e : Fin 32) : EReal :=
  ∑ k : Fin 1024, normal a b x w n r k * u (ix2 k e) + v (ix1 e)

end Cert.OutProj1
end
-- ==== Proof.OutProjBlock.lean ====
/- What one grid point of the output projection stores, at a row and a lane. -/
module

public import proofs.«01_k».proof.Proof.Gen.OutProjIdeal.Value
public import Idealize.ShloMosaic.Lib.Pipeline.ValueKit
public import Idealize.ShloMosaic.Lib.StableHlo.ReadAt
public import proofs.«01_k».proof.Proof.OutProjSpec

@[expose] public section

set_option maxRecDepth 16384

noncomputable section

namespace Cert.OutProjIdeal.Own

open Cert.OutProjIdeal Cert.OutProjIdeal.Gen Idealize.ShloMosaic Idealize.ShloMosaic.TcCoe Idealize.SL.Sem
open Cert.InProj1 Cert.OutProj1

/-- The residual with the two products. -/
theorem mix_at (x : FVec Ideal S512x1024 .f32) (a b : FVec Ideal S512x512 .f32) (w w' : FVec Ideal S512x1024 .bf16) (r : Fin 512)
    (l : Fin 1024) :
    k0_pay3 (F := Ideal) x a w b w' (ix2 r l)
      = (x (ix2 r l) : EReal) + ∑ k, (a (ix2 r k) : EReal) * w (ix2 k l) + ∑ k, (b (ix2 r k) : EReal) * w' (ix2 k l) := by
  pointwise [k0_pay3]

/-- Its norm. -/
theorem norm_at (x : FVec Ideal S512x1024 .f32) (a b : FVec Ideal S512x512 .f32) (w w' : FVec Ideal S512x1024 .bf16)
    (n : FVec Ideal S1x1024 .f32) (r : Fin 512) (l : Fin 1024) :
    k0_pay4 (F := Ideal) x a w b w' n (ix2 r l)
      = nrm (fun k => k0_pay3 (F := Ideal) x a w b w' (ix2 r k)) (fun k => n (ix2 0 k)) l := by
  unfold k0_pay4
  generalize k0_pay3 (F := Ideal) x a w b w' = y
  pointwise
  rfl

variable (m : (ℓ : Loc nD τ sig) → Buf (Elt Ideal) ℓ)

/-- The arguments. -/
abbrev A (c : Dev nD) : (⟨3, ![8, 4096, 512]⟩ : Shape).Idx → EReal := m ((c.tc : Thread nD τ).loc main_arg0)
abbrev B (c : Dev nD) : (⟨3, ![8, 4096, 512]⟩ : Shape).Idx → EReal := m ((c.tc : Thread nD τ).loc main_arg1)
abbrev X (c : Dev nD) : (⟨3, ![8, 4096, 1024]⟩ : Shape).Idx → EReal := m ((c.tc : Thread nD τ).loc main_arg2)
abbrev W (c : Dev nD) : (⟨2, ![1024, 1024]⟩ : Shape).Idx → EReal := m ((c.tc : Thread nD τ).loc main_arg3)
abbrev N (c : Dev nD) : (⟨1, ![1024]⟩ : Shape).Idx → EReal := m ((c.tc : Thread nD τ).loc main_arg4)

/-! The operands as the host code prepares them. -/

theorem V_a (c : Dev nD) (r : Fin 32768) (k : Fin 512) : V m c main_v4 (ix2 r k) = rowOf 512 (A m c) r k := by
  unfold V rowOf A
  after_reads_at

theorem V_b (c : Dev nD) (r : Fin 32768) (k : Fin 512) : V m c main_v5 (ix2 r k) = rowOf 512 (B m c) r k := by
  unfold V rowOf B
  after_reads_at

theorem V_x (c : Dev nD) (r : Fin 32768) (k : Fin 1024) : V m c main_v0 (ix2 r k) = rowOf 1024 (X m c) r k := by
  unfold V rowOf X
  after_reads_at

theorem V_w (c : Dev nD) (k l : Fin 1024) : V m c main_v6 (ix2 k l) = W m c (ix2 k l) := by
  unfold V W
  after_reads_at

theorem V_n (c : Dev nD) (k : Fin 1024) : V m c main_v7 (ix2 (0 : Fin 1) k) = N m c (ix1 k) := by
  unfold V N
  after_reads_at

theorem idx : ∀ t : Fin cfg0.N, win0_0.index t = ![t.val, 0] ∧ win0_1.index t = ![t.val, 0] ∧ win0_2.index t = ![t.val, 0]
   ∧ win0_3.index t = ![0, 0] ∧ win0_4.index t = ![0, 0] ∧ win0_7.index t = ![t.val, 0] ∧ win0_8.index t = ![t.val, 0] :=
  (by decide +kernel : ∀ t : Fin grid0.N, _)

/-! A point's blocks of the operands. -/

theorem blk_a (c : Dev nD) (t : Fin cfg0.N) (r k : Fin 512) (h : t.val * 512 + r.val < 32768) :
    iblk m c 0 t (ix2 r k) = rowOf 512 (A m c) ⟨t.val * 512 + r.val, h⟩ k := by
  rw [← V_a]
  blk_ext [iblk, idx t]

theorem blk_b (c : Dev nD) (t : Fin cfg0.N) (r k : Fin 512) (h : t.val * 512 + r.val < 32768) :
    iblk m c 1 t (ix2 r k) = rowOf 512 (B m c) ⟨t.val * 512 + r.val, h⟩ k := by
  rw [← V_b]
  blk_ext [iblk, idx t]

theorem blk_x (c : Dev nD) (t : Fin cfg0.N) (r : Fin 512) (k : Fin 1024) (h : t.val * 512 + r.val < 32768) :
    iblk m c 2 t (ix2 r k) = rowOf 1024 (X m c) ⟨t.val * 512 + r.val, h⟩ k := by
  rw [← V_x]
  blk_ext [iblk, idx t]

theorem blk_w (c : Dev nD) (t : Fin cfg0.N) (k l : Fin 1024) : iblk m c 3 t (ix2 k l) = W m c (ix2 k l) := by
  rw [← V_w]
  blk_ext [iblk, idx t]

theorem blk_n (c : Dev nD) (t : Fin cfg0.N) (k : Fin 1024) : iblk m c 4 t (ix2 (0 : Fin 1) k) = N m c (ix1 k) := by
  rw [← V_n]
  blk_ext [iblk, idx t]

theorem half_at (w : FVec Ideal S1024x1024 .bf16) (o : ℕ) (inb) (k : Fin 512) (l : Fin 1024) (h : o + k.val < 1024) :
    (View.ld (Val := Elt Ideal) (e' := .bf16) w (Rect.unit (s := S1024x1024) ![o, 0] ![512, 1024] inb) (ix2 k l) : EReal)
      = w (ix2 ⟨o + k.val, h⟩ l) := by
  refine congrArg w (funext fun a => Fin.ext ?_)
  fin_cases a
  · show o + 1 * k.val = o + k.val
    omega
  · show 0 + 1 * l.val = l.val
    omega

/-- A point's rows of the stream. -/
theorem stream_at (c : Dev nD) (t : Fin cfg0.N) (r : Fin 512) (l : Fin 1024) (h : t.val * 512 + r.val < 32768) :
    k0_pay3 (F := Ideal) (iblk m c 2 t) (iblk m c 0 t)
        (View.ld (iblk m c 3 t) (Rect.unit ![0, 0] ![512, 1024] inb_S1024x1024_S512x1024_0_0)) (iblk m c 1 t)
        (View.ld (iblk m c 3 t) (Rect.unit ![512, 0] ![512, 1024] inb_S1024x1024_S512x1024_512_0)) (ix2 r l)
      = stream (A m c) (B m c) (X m c) (W m c) ⟨t.val * 512 + r.val, h⟩ l := by
  refine (mix_at _ _ _ _ _ r l).trans (congrArg₂ (· + ·) (congrArg₂ (· + ·) (blk_x m c t r l h) ?_) ?_)
  · refine Finset.sum_congr (M := EReal) rfl fun k _ => congrArg₂ (· * ·) (blk_a m c t r k h) ?_
    refine (half_at _ 0 _ k l (by omega)).trans ((blk_w m c t _ l).trans ?_)
    exact congrArg (fun k' => W m c (ix2 k' l)) (Fin.ext (Nat.zero_add _))
  · refine Finset.sum_congr (M := EReal) rfl fun k _ => congrArg₂ (· * ·) (blk_b m c t r k h) ?_
    exact (half_at _ 512 _ k l (by omega)).trans (blk_w m c t _ l)

/-- A point's rows of the stream normalised. -/
theorem normal_at (c : Dev nD) (t : Fin cfg0.N) (r : Fin 512) (l : Fin 1024) (h : t.val * 512 + r.val < 32768) :
    k0_pay4 (F := Ideal) (iblk m c 2 t) (iblk m c 0 t)
        (View.ld (iblk m c 3 t) (Rect.unit ![0, 0] ![512, 1024] inb_S1024x1024_S512x1024_0_0)) (iblk m c 1 t)
        (View.ld (iblk m c 3 t) (Rect.unit ![512, 0] ![512, 1024] inb_S1024x1024_S512x1024_512_0)) (iblk m c 4 t) (ix2 r l)
      = normal (A m c) (B m c) (X m c) (W m c) (N m c) ⟨t.val * 512 + r.val, h⟩ l := by
  refine (norm_at _ _ _ _ _ _ r l).trans ?_
  exact congrArg₂ (fun y n => nrm y n l) (funext fun k => stream_at m c t r k h) (funext fun k => blk_n m c t k)

/-- A function of a row and a lane at an index of that row and lane. -/
theorem at_row {d : ℕ} (f : Fin 32768 → Fin d → EReal) (t : Fin cfg0.N) (r : Fin 512) (l : Fin d) (j : (⟨2, ![32768, d]⟩ : Shape).Idx)
    (h : t.val * 512 + r.val < 32768) (h0 : (j 0).val = t.val * 512 + r.val) (h1 : (j 1).val = l.val) :
    f ⟨t.val * 512 + r.val, h⟩ l = f (j 0) (j 1) :=
  congrArg₂ f (Fin.ext h0.symm) (Fin.ext h1.symm)

theorem in_rows (t : Fin cfg0.N) (r : Fin 512) : t.val * 512 + r.val < 32768 := by
  have h : t.val < 64 := t.isLt
  omega

/-- The stream, as the call leaves it. -/
theorem final7 (c : Dev nD) :
    (dats m 0 c).arrAt 7 (cfgs 0).N = fun j => stream (A m c) (B m c) (X m c) (W m c) (j 0) (j 1) := by
  refine (dats m 0 c).arrAt_eq_of_covers 7 _ (by decide +kernel) fun t _ y => ?_
  blk_simp
  rw [after0_7]
  by_cases h0 : t.val % 64 = 0
  · rw [outsAt0_A m c t h0]
    frame_out
    refine (congrArg _ (eq_ix2 y)).trans ((stream_at m c t (y 0) (y 1) (in_rows t (y 0))).trans
      (at_row _ t (y 0) (y 1) _ _ ?_ ?_))
    · blk_simp [idx t]
    · blk_simp [idx t]
  · rw [outsAt0_B m c t h0]
    frame_out
    refine (congrArg _ (eq_ix2 y)).trans ((stream_at m c t (y 0) (y 1) (in_rows t (y 0))).trans
      (at_row _ t (y 0) (y 1) _ _ ?_ ?_))
    · blk_simp [idx t]
    · blk_simp [idx t]

/-- The stream normalised, as the call leaves it. -/
theorem final8 (c : Dev nD) :
    (dats m 0 c).arrAt 8 (cfgs 0).N = fun j => normal (A m c) (B m c) (X m c) (W m c) (N m c) (j 0) (j 1) := by
  refine (dats m 0 c).arrAt_eq_of_covers 8 _ (by decide +kernel) fun t _ y => ?_
  blk_simp
  rw [after0_8]
  by_cases h0 : t.val % 64 = 0
  · rw [outsAt0_A m c t h0]
    frame_out
    refine (congrArg _ (eq_ix2 y)).trans ((normal_at m c t (y 0) (y 1) (in_rows t (y 0))).trans
      (at_row _ t (y 0) (y 1) _ _ ?_ ?_))
    · blk_simp [idx t]
    · blk_simp [idx t]
  · rw [outsAt0_B m c t h0]
    frame_out
    refine (congrArg _ (eq_ix2 y)).trans ((normal_at m c t (y 0) (y 1) (in_rows t (y 0))).trans
      (at_row _ t (y 0) (y 1) _ _ ?_ ?_))
    · blk_simp [idx t]
    · blk_simp [idx t]

end Cert.OutProjIdeal.Own
end
-- ==== Proof.TopFour.lean ====
/- The four greatest of 32 numbers, in turn, as the greatest of 128 lanes with the ones already taken set to minus infinity. -/
module

public import proofs.«01_k».proof.Proof.InProjSpec
public import Idealize.ShloMosaic.Lib.SortFacts

@[expose] public section

set_option maxRecDepth 16384

noncomputable section

namespace Cert.TopFour

open Idealize.ShloMosaic

/-- The values of a row, with their multiplicities. -/
def bag {n : ℕ} (f : Fin n → EReal) : Multiset EReal := Finset.univ.val.map f

theorem mem_bag {n : ℕ} (f : Fin n → EReal) (v : EReal) : v ∈ bag f ↔ ∃ l, f l = v := by
  simp [bag]

/-- A value no other exceeds is the greatest. -/
theorem greatest {n : ℕ} (f : Fin n → EReal) (v : EReal) (R : Multiset EReal) (h : bag f = v ::ₘ R) (le : ∀ x ∈ R, x ≤ v) :
    Finset.univ.sup f = v := by
  refine le_antisymm (Finset.sup_le fun l _ => ?_) ?_
  · have : f l ∈ bag f := (mem_bag f _).2 ⟨l, rfl⟩
    rw [h, Multiset.mem_cons] at this
    exact this.elim le_of_eq (le _)
  · have : v ∈ bag f := by
      rw [h]
      exact Multiset.mem_cons_self ..
    obtain ⟨l, e⟩ := (mem_bag f _).1 this
    exact e ▸ Finset.le_sup (Finset.mem_univ l)

/-- A lane set to minus infinity. -/
def drop {n : ℕ} (f : Fin n → EReal) (i : Fin n) : Fin n → EReal := fun l => if l = i then ⊥ else f l

theorem bag_drop {n : ℕ} (f : Fin n → EReal) (i : Fin n) (R : Multiset EReal) (h : bag f = f i ::ₘ R) : bag (drop f i) = ⊥ ::ₘ R := by
  have cut : ∀ g : Fin n → EReal, bag g = g i ::ₘ (Finset.univ.erase i).val.map g := fun g => by
    unfold bag
    rw [← Multiset.map_cons, ← Finset.insert_val_of_notMem (Finset.notMem_erase i _), Finset.insert_erase (Finset.mem_univ i)]
  have e : R = (Finset.univ.erase i).val.map f := (Multiset.cons_inj_right (f i)).1 (h.symm.trans (cut f))
  rw [cut (drop f i), e]
  congr 1
  · simp [drop]
  · refine Multiset.map_congr rfl fun l hl => ?_
    have : l ≠ i := (Finset.mem_erase.1 (show l ∈ Finset.univ.erase i from hl)).1
    simp [drop, this]

/-- Taking the greatest and setting its lane to minus infinity leaves the others and minus infinities. -/
theorem take {n : ℕ} (f : Fin n → EReal) (v : EReal) (R : Multiset EReal) (h : bag f = v ::ₘ R) (le : ∀ x ∈ R, x ≤ v) (i : Fin n)
    (hi : f i = Finset.univ.sup f) : Finset.univ.sup f = v ∧ bag (drop f i) = ⊥ ::ₘ R := by
  have e := greatest f v R h le
  exact ⟨e, bag_drop f i R (by rw [hi, e, h])⟩

/-- 32 numbers in the first lanes of 128, minus infinity in the others. -/
def wide (f : Fin 32 → EReal) (l : Fin 128) : EReal := if h : l.val < 32 then f ⟨l.val, h⟩ else ⊥

theorem bag_wide (f : Fin 32 → EReal) : bag (wide f) = bag f + Multiset.replicate 96 ⊥ := by
  have h : bag (wide f) = (List.ofFn (wide f) : List EReal) := by simp [bag, List.ofFn_eq_map, Fin.univ_val_map]
  have h' : bag f = (List.ofFn f : List EReal) := by simp [bag, List.ofFn_eq_map, Fin.univ_val_map]
  rw [h, h', ← Multiset.coe_replicate, Multiset.coe_add]
  refine congrArg _ (List.ext_getElem (by simp) fun k h1 h2 => ?_)
  simp only [List.getElem_ofFn, List.getElem_append, List.length_ofFn, List.getElem_replicate, wide]

/-- The numbers of a row in falling order. -/
structure Falling (f g : Fin 32 → EReal) : Prop where
  same : bag g = bag f
  falls : ∀ i j, i ≤ j → g j ≤ g i

/-- The greatest, four times in turn, are the first four in falling order. -/
theorem four (f g : Fin 32 → EReal) (h : Falling f g) (f1 f2 f3 : Fin 128 → EReal) (i0 i1 i2 : Fin 128)
    (h0 : wide f i0 = Finset.univ.sup (wide f)) (e1 : f1 = drop (wide f) i0)
    (h1 : f1 i1 = Finset.univ.sup f1) (e2 : f2 = drop f1 i1)
    (h2 : f2 i2 = Finset.univ.sup f2) (e3 : f3 = drop f2 i2) :
    Finset.univ.sup (wide f) = g 0 ∧ Finset.univ.sup f1 = g 1 ∧ Finset.univ.sup f2 = g 2 ∧ Finset.univ.sup f3 = g 3 := by
  subst e1 e2 e3
  obtain ⟨T, hT, le⟩ : ∃ T : Multiset EReal, bag g = g 0 ::ₘ g 1 ::ₘ g 2 ::ₘ g 3 ::ₘ T ∧ ∀ x ∈ T, x ≤ g 3 := by
    refine ⟨Finset.univ.val.map fun k : Fin 28 => g ⟨4 + k.val, by omega⟩, ?_, ?_⟩
    · have e : ∀ {n : ℕ} (f : Fin n → EReal), Finset.univ.val.map f = (List.ofFn f : List EReal) := fun f => by
        simp [List.ofFn_eq_map, Fin.univ_val_map]
      unfold bag
      rw [e, e]
      simp only [Multiset.cons_coe]
      refine congrArg _ ?_
      refine List.ext_getElem (by simp) fun k h1 h2 => ?_
      match k with
      | 0 => simp
      | 1 => simp
      | 2 => simp
      | 3 => simp
      | k + 4 => simp [Nat.add_comm]
    · intro x hx
      obtain ⟨k, -, rfl⟩ := Multiset.mem_map.1 hx
      exact h.falls _ _ (Nat.le_trans (show 3 ≤ 4 by decide) (Nat.le_add_right 4 k.val))
  have b0 : bag (wide f) = g 0 ::ₘ g 1 ::ₘ g 2 ::ₘ g 3 ::ₘ (T + Multiset.replicate 96 ⊥) := by
    rw [bag_wide, ← h.same, hT]
    simp only [Multiset.cons_add]
  have bot : ∀ x ∈ T + Multiset.replicate 96 ⊥, x ≤ g 3 := fun x hx => by
    rcases Multiset.mem_add.1 hx with hx | hx
    · exact le x hx
    · rw [Multiset.eq_of_mem_replicate hx]
      exact bot_le
  have g1 := h.falls 0 1 (by decide)
  have g2 := h.falls 1 2 (by decide)
  have g3 := h.falls 2 3 (by decide)
  obtain ⟨r0, b1⟩ := take _ _ _ b0 (by
    simp only [Multiset.mem_cons]
    rintro x (rfl | rfl | rfl | hx)
    exacts [g1, g2.trans g1, (g3.trans g2).trans g1, (((bot x hx).trans g3).trans g2).trans g1]) i0 h0
  rw [Multiset.cons_swap] at b1
  obtain ⟨r1, b2⟩ := take _ _ _ b1 (by
    simp only [Multiset.mem_cons]
    rintro x (rfl | rfl | rfl | hx)
    exacts [bot_le, g2, g3.trans g2, ((bot x hx).trans g3).trans g2]) i1 h1
  rw [Multiset.cons_swap ⊥ (g 2), Multiset.cons_swap ⊥ (g 2)] at b2
  obtain ⟨r2, b3⟩ := take _ _ _ b2 (by
    simp only [Multiset.mem_cons]
    rintro x (rfl | rfl | rfl | hx)
    exacts [bot_le, bot_le, g3, (bot x hx).trans g3]) i2 h2
  rw [Multiset.cons_swap ⊥ (g 3), Multiset.cons_swap ⊥ (g 3), Multiset.cons_swap ⊥ (g 3)] at b3
  have r3 := greatest _ _ _ b3 (by
    simp only [Multiset.mem_cons]
    rintro x (rfl | rfl | rfl | hx)
    exacts [bot_le, bot_le, bot_le, bot x hx])
  exact ⟨r0, r1, r2, r3⟩

/-- A gate: the share of the `k`th of four numbers in the sum of their exponentials, the first taken off. -/
def gate (v : Fin 4 → EReal) (k : Fin 4) : EReal :=
  Ideal.div (Ideal.exp (v k - v 0))
    (Ideal.exp (v 0 - v 0) + Ideal.exp (v 1 - v 0) + Ideal.exp (v 2 - v 0) + Ideal.exp (v 3 - v 0))

/-- The numbers of a row as the host sorts them, the greatest first. -/
def sorted (f : Fin 32 → EReal) (j : Fin 32) : EReal := f (sortedFrom (fun a b => Ideal.cmp .ogt (f a) (f b) == 1#1) j)

theorem before_eq (f : Fin 32 → EReal) :
    (fun a b => Ideal.cmp .ogt (f a) (f b) == 1#1) = fun a b => decide (f b < f a) := by
  funext a b
  by_cases h : f b < f a <;> simp [Ideal.cmp, h]

theorem bag_perm {n : ℕ} (f : Fin n → EReal) (σ : Fin n → Fin n) (h : Function.Bijective σ) : bag (fun j => f (σ j)) = bag f := by
  have e : Finset.univ.val.map (Equiv.ofBijective σ h) = (Finset.univ : Finset (Fin n)).val := Multiset.map_univ_val_equiv _
  unfold bag
  conv_rhs => rw [← e, Multiset.map_map]
  rfl

theorem falling_sorted (f : Fin 32 → EReal) : Falling f (sorted f) := by
  refine ⟨?_, fun i j h => ?_⟩
  · exact bag_perm f _ ⟨sortedFrom_injective _, sortedFrom_surjective _⟩
  · rcases h.eq_or_lt with rfl | h
    · exact le_refl _
    · unfold sorted
      rw [before_eq]
      have := sortedFrom_noInversion (fun a b => decide (f b < f a)) (fun a b => decide (f b < f a))
        (fun a b h => decide_eq_false (not_lt_of_gt (of_decide_eq_true h))) (fun _ _ h => h)
        (fun a b c h h' => decide_eq_false (not_lt.2 ((not_lt.1 (of_decide_eq_false h)).trans (not_lt.1 (of_decide_eq_false h'))))) i j h
      exact not_lt.1 (of_decide_eq_false this)

/-- The gates of a row of logits, in the first four of 128 lanes. -/
def gates (f : Fin 32 → EReal) (l : Fin 128) : EReal :=
  if h : l.val < 4 then gate (fun k => sorted f ⟨k.val, by omega⟩) ⟨l.val, h⟩ else 0

/-! The least of words, as a fold. -/

theorem fold_is {n : ℕ} (b : BitVec 32) (f : Fin n → BitVec 32) (s : Finset (Fin n)) :
    s.fold IntOp.minsi b f = b ∨ ∃ k ∈ s, s.fold IntOp.minsi b f = f k := by
  induction s using Finset.induction_on with
  | empty => exact Or.inl rfl
  | insert a s ha ih =>
    rw [Finset.fold_insert ha]
    unfold IntOp.minsi
    split
    · exact Or.inr ⟨a, Finset.mem_insert_self .., rfl⟩
    · exact ih.imp id fun ⟨k, hk, e⟩ => ⟨k, Finset.mem_insert_of_mem hk, e⟩

theorem fold_le {n : ℕ} (b : BitVec 32) (f : Fin n → BitVec 32) (s : Finset (Fin n)) (k : Fin n) (hk : k ∈ s) :
    (s.fold IntOp.minsi b f).toInt ≤ (f k).toInt := by
  induction s using Finset.induction_on with
  | empty => exact absurd hk (Finset.notMem_empty k)
  | insert a s ha ih =>
    rw [Finset.fold_insert ha]
    unfold IntOp.minsi at ih ⊢
    simp only [BitVec.slt]
    rcases Finset.mem_insert.1 hk with rfl | hk
    · split
      · exact le_refl _
      · rename_i h
        simpa using h
    · have := ih hk
      split
      · rename_i h
        exact (le_of_lt (of_decide_eq_true h)).trans this
      · exact this

/-- The least of the lanes at which something holds, if it holds at one. -/
theorem fold_lane (P : Fin 128 → Prop) [DecidablePred P] (hP : ∃ i, P i) :
    ∃ i, P i ∧ Finset.univ.fold IntOp.minsi 2147483647#32 (fun k : Fin 128 => if P k then BitVec.ofNat 32 k.val else 128#32)
      = BitVec.ofNat 32 i.val := by
  obtain ⟨i, hi⟩ := hP
  have le := fold_le 2147483647#32 (fun k : Fin 128 => if P k then BitVec.ofNat 32 k.val else 128#32) Finset.univ i (Finset.mem_univ i)
  have small : (BitVec.ofNat 32 i.val).toInt < 128 := by
    have := i.isLt
    rw [BitVec.toInt_eq_toNat_of_lt (by simp; omega)]
    simp
    omega
  simp only [hi, if_true] at le
  rcases fold_is 2147483647#32 (fun k : Fin 128 => if P k then BitVec.ofNat 32 k.val else 128#32) Finset.univ with e | ⟨k, -, e⟩
  · rw [e] at le
    exact absurd (le.trans_lt small) (by decide)
  · by_cases hk : P k
    · exact ⟨k, hk, e.trans (if_pos hk)⟩
    · rw [e, if_neg hk] at le
      exact absurd (le.trans_lt small) (by decide)

end Cert.TopFour
end
-- ==== Proof.OutProjGates.lean ====
/- The router of the output projection's call: the four greatest of a row's logits, and the gates. -/
module

public import proofs.«01_k».proof.Proof.OutProjBlock
public import proofs.«01_k».proof.Proof.TopFour

@[expose] public section

set_option maxRecDepth 16384

noncomputable section

namespace Cert.OutProjIdeal.Own

open Cert.OutProjIdeal Cert.OutProjIdeal.Gen Idealize.ShloMosaic Idealize.ShloMosaic.TcCoe Idealize.SL.Sem
open Cert.InProj1 Cert.OutProj1 Cert.TopFour

/-- The lanes' numbers. -/
def lanes : IVec S512x128 32 := iota .tc S512x128 32 [1] iota_S512x128_d1_w32

/-- The greatest of each row. -/
def best (y : FVec Ideal S512x128 .f32) : FVec Ideal S512x1 .f32 :=
  shapeCast S512x1 (multiReduction .maximumf [1] S512 y 0xFF800000#32 reduces_S512x128_S512 (.inl rfl) rfl) shapeCasts_S512_S512x1

/-- The first lane that holds it. -/
def first (y : FVec Ideal S512x128 .f32) : IVec S512x1 32 :=
  shapeCast S512x1 (multiReductionI .minsi [1] S512 (select (cmpf .oeq y (broadcastTo S512x128 (best y) broadcasts_S512x1_S512x128))
    lanes (broadcast S512x128 128#32)) 2147483647#32 reduces_S512x128_S512 rfl) shapeCasts_S512_S512x1

/-- The row with that lane set to minus infinity. -/
def next (y : FVec Ideal S512x128 .f32) : FVec Ideal S512x128 .f32 :=
  select (cmpi .eq lanes (broadcastTo S512x128 (first y) broadcasts_S512x1_S512x128))
    (broadcast S512x128 (Scalar.ofBits .f32 0xFF800000#32 : Ideal .f32)) y

theorem least_word : Ideal.ofBits .f32 0xFF800000#32 = ⊥ := by simp [Ideal.ofBits, Ideal.ieee]

theorem best_at (y : FVec Ideal S512x128 .f32) (r : Fin 512) : best y (ix2 r 0) = Finset.univ.sup fun k => (y (ix2 r k) : EReal) := by
  pointwise [best]
  rw [least_word]
  rfl

theorem first_at (y : FVec Ideal S512x128 .f32) (r : Fin 512) :
    first y (ix2 r 0) = Finset.univ.fold IntOp.minsi 2147483647#32 fun k : Fin 128 =>
      if (y (ix2 r k) : EReal) = Finset.univ.sup (fun k => (y (ix2 r k) : EReal)) then BitVec.ofNat 32 k.val else 128#32 := by
  simp only [← best_at]
  unfold first
  generalize best y = b
  pointwise [lanes]

/-- A choice at the lane of a number. -/
theorem select_lane (i j : ℕ) (hi : i < 128) (hj : j < 128) (a b : EReal) :
    Scalar.select (IntOp.cmpi .eq (BitVec.ofNat 32 i) (BitVec.ofNat 32 j)) a b = if i = j then a else b := by
  have e : BitVec.ofNat 32 i = BitVec.ofNat 32 j ↔ i = j := by
    refine ⟨fun h => ?_, congrArg _⟩
    have := congrArg BitVec.toNat h
    simp at this
    omega
  unfold Scalar.select IntOp.cmpi
  by_cases h : i = j
  · simp [h]
  · have c : (BitVec.ofNat 32 i == BitVec.ofNat 32 j) = false := beq_eq_false_iff_ne.2 fun g => h (e.1 g)
    simp [h, c]

/-- The lane taken holds the greatest, and is set to minus infinity. -/
theorem next_at (y : FVec Ideal S512x128 .f32) (r : Fin 512) :
    ∃ i : Fin 128, (y (ix2 r i) : EReal) = Finset.univ.sup (fun k => (y (ix2 r k) : EReal))
      ∧ (fun l => (next y (ix2 r l) : EReal)) = drop (fun l => (y (ix2 r l) : EReal)) i := by
  obtain ⟨i, hi, e⟩ := fold_lane (fun k => (y (ix2 r k) : EReal) = Finset.univ.sup (fun k => (y (ix2 r k) : EReal))) (by
    obtain ⟨i, -, h⟩ := Finset.exists_mem_eq_sup (Finset.univ : Finset (Fin 128)) ⟨0, Finset.mem_univ 0⟩ fun k => (y (ix2 r k) : EReal)
    exact ⟨i, h.symm⟩)
  refine ⟨i, hi, funext fun l => ?_⟩
  have f := (first_at y r).trans e
  have h : next y (ix2 r l) = Scalar.select (IntOp.cmpi .eq (BitVec.ofNat 32 l.val) (first y (ix2 r 0)))
      (Ideal.ofBits .f32 0xFF800000#32) (y (ix2 r l)) := by
    unfold next
    generalize first y = b
    pointwise [lanes]
  rw [h, f, least_word, select_lane _ _ l.isLt i.isLt]
  unfold drop
  simp only [Fin.ext_iff]

theorem logits_at (h : FVec Ideal S512x1024 .f32) (w : FVec Ideal S1024x128 .f32) (b : FVec Ideal S1x128 .f32) (r : Fin 512)
    (f : Fin 32 → EReal)
    (hf : ∀ l : Fin 32, ∑ k, (h (ix2 r k) : EReal) * w (ix2 k ⟨l.val, by omega⟩) + (b (ix2 0 ⟨l.val, by omega⟩) : EReal) = f l) :
    (fun l => (k0_pay5 (F := Ideal) h w b (ix2 r l) : EReal)) = wide f := by
  funext l
  have e : k0_pay5 (F := Ideal) h w b (ix2 r l) = Scalar.select (IntOp.cmpi .slt (BitVec.ofNat 32 l.val) 32#32)
      (∑ k, (h (ix2 r k) : EReal) * w (ix2 k l) + (b (ix2 0 l) : EReal)) (Ideal.ofBits .f32 0xFF800000#32) := by
    pointwise [k0_pay5]
  have c : (BitVec.ofNat 32 l.val).slt 32#32 = decide (l.val < 32) := by
    have := l.isLt
    simp only [BitVec.slt]
    rw [BitVec.toInt_eq_toNat_of_lt (by simp; omega)]
    congr 1
    simp
    omega
  rw [e, least_word]
  unfold wide Scalar.select IntOp.cmpi
  simp only [c]
  by_cases g : l.val < 32
  · simp only [g, decide_true, dif_pos]
    exact hf ⟨l.val, g⟩
  · simp [g]

/-- The four greatest of a row of logits. -/
theorem best_four (y : FVec Ideal S512x128 .f32) (r : Fin 512) (f : Fin 32 → EReal) (h : (fun l => (y (ix2 r l) : EReal)) = wide f) :
    best y (ix2 r 0) = sorted f 0 ∧ best (next y) (ix2 r 0) = sorted f 1 ∧ best (next (next y)) (ix2 r 0) = sorted f 2
      ∧ best (next (next (next y))) (ix2 r 0) = sorted f 3 := by
  obtain ⟨i0, h0, e1⟩ := next_at y r
  obtain ⟨i1, h1, e2⟩ := next_at (next y) r
  obtain ⟨i2, h2, e3⟩ := next_at (next (next y)) r
  rw [h] at e1
  have h0' : wide f i0 = Finset.univ.sup (wide f) := by rw [← h]; exact h0
  obtain ⟨r0, r1, r2, r3⟩ := four f (sorted f) (falling_sorted f) _ _ _ i0 i1 i2 h0' e1 h1 e2 h2 e3
  refine ⟨(best_at _ r).trans ?_, (best_at _ r).trans r1, (best_at _ r).trans r2, (best_at _ r).trans r3⟩
  rw [h]
  exact r0

/-- The gates as the call computes them, from a row's logits. -/
def gated (y : FVec Ideal S512x128 .f32) : FVec Ideal S512x128 .f32 :=
  k0_pay31 (F := Ideal)
    (k0_pay28 lanes (best y) (best (next y)) (next (next y)) (best (next (next y)))
      (cmpf .oeq (next (next y)) (broadcastTo S512x128 (best (next (next y))) broadcasts_S512x1_S512x128)) (broadcast S512x128 128#32))
    (k0_pay29 lanes)
    (k0_pay30 lanes (best y) (best (next y)) (next (next y)) (best (next (next y)))
      (cmpf .oeq (next (next y)) (broadcastTo S512x128 (best (next (next y))) broadcasts_S512x1_S512x128)) (broadcast S512x128 128#32))

/-- The stored gates are these. -/
theorem stored_eq (h : FVec Ideal S512x1024 .f32) (w : FVec Ideal S1024x128 .f32) (b : FVec Ideal S1x128 .f32) :
    k0_pay31 (F := Ideal)
      (k0_pay28 (iota .tc S512x128 32 [1] iota_S512x128_d1_w32) (k0_pay6 h w b) (k0_pay10 h w b) (k0_pay13 h w b) (k0_pay14 h w b)
        (k0_pay15 h w b) k0_pay16)
      (k0_pay29 (iota .tc S512x128 32 [1] iota_S512x128_d1_w32))
      (k0_pay30 (iota .tc S512x128 32 [1] iota_S512x128_d1_w32) (k0_pay6 h w b) (k0_pay10 h w b) (k0_pay13 h w b) (k0_pay14 h w b)
        (k0_pay15 h w b) k0_pay16)
      = gated (k0_pay5 h w b) := rfl

theorem fourth (z : FVec Ideal S512x128 .f32) :
    k0_pay20 (F := Ideal) lanes z (cmpf .oeq z (broadcastTo S512x128 (best z) broadcasts_S512x1_S512x128)) (broadcast S512x128 128#32)
      = best (next z) := rfl

/-- The gates, lane by lane. -/
theorem gates_lane (f : Fin 32 → EReal) (l : Fin 128) :
    gates f l = if l.val = 3 then gate (fun k => sorted f ⟨k.val, by omega⟩) 3
      else if l.val = 2 then gate (fun k => sorted f ⟨k.val, by omega⟩) 2
      else if l.val = 1 then gate (fun k => sorted f ⟨k.val, by omega⟩) 1
      else if l.val = 0 then gate (fun k => sorted f ⟨k.val, by omega⟩) 0 else 0 := by
  unfold gates
  obtain ⟨l, h⟩ := l
  match l with
  | 0 => rfl
  | 1 => rfl
  | 2 => rfl
  | 3 => rfl
  | l + 4 => simp

theorem gated_at (y : FVec Ideal S512x128 .f32) (r : Fin 512) (l : Fin 128) (f : Fin 32 → EReal)
    (h : (fun l => (y (ix2 r l) : EReal)) = wide f) : gated y (ix2 r l) = gates f l := by
  obtain ⟨r0, r1, r2, r3⟩ := best_four y r f h
  unfold gated k0_pay31 k0_pay30 k0_pay29 k0_pay28 k0_pay27 k0_pay26
  simp only [fourth]
  revert r0 r1 r2 r3
  generalize best y = a
  generalize best (next y) = b
  generalize best (next (next y)) = c
  generalize best (next (next (next y))) = d
  intro r0 r1 r2 r3
  pointwise [k0_pay23, k0_pay24, k0_pay25, lanes]
  rw [r0, r1, r2, r3]
  rw [select_lane _ 3 l.isLt (by decide), select_lane _ 2 l.isLt (by decide), select_lane _ 1 l.isLt (by decide),
    select_lane _ 0 l.isLt (by decide)]
  exact (gates_lane f l).symm

variable (m : (ℓ : Loc nD τ sig) → Buf (Elt Ideal) ℓ)

abbrev Rt (c : Dev nD) : (⟨2, ![1024, 32]⟩ : Shape).Idx → EReal := m ((c.tc : Thread nD τ).loc main_arg5)
abbrev Rb (c : Dev nD) : (⟨1, ![32]⟩ : Shape).Idx → EReal := m ((c.tc : Thread nD τ).loc main_arg6)

theorem V_r (c : Dev nD) (k : Fin 1024) (l : Fin 32) : V m c main_v1 (ix2 k (⟨l.val, by omega⟩ : Fin 128)) = Rt m c (ix2 k l) := by
  unfold V Rt
  after_reads_at

theorem V_rb (c : Dev nD) (l : Fin 32) : V m c main_v3 (ix2 (0 : Fin 1) (⟨l.val, by omega⟩ : Fin 128)) = Rb m c (ix1 l) := by
  unfold V Rb
  after_reads_at

theorem idx' : ∀ t : Fin cfg0.N, win0_5.index t = ![0, 0] ∧ win0_6.index t = ![0, 0] ∧ win0_10.index t = ![t.val, 0] :=
  (by decide +kernel : ∀ t : Fin grid0.N, _)

theorem blk_r (c : Dev nD) (t : Fin cfg0.N) (k : Fin 1024) (l : Fin 32) :
    iblk m c 5 t (ix2 k (⟨l.val, by omega⟩ : Fin 128)) = Rt m c (ix2 k l) := by
  rw [← V_r]
  blk_ext [iblk, idx' t]

theorem blk_rb (c : Dev nD) (t : Fin cfg0.N) (l : Fin 32) :
    iblk m c 6 t (ix2 (0 : Fin 1) (⟨l.val, by omega⟩ : Fin 128)) = Rb m c (ix1 l) := by
  rw [← V_rb]
  blk_ext [iblk, idx' t]

/-- A point's rows of the gates. -/
theorem gates_at (c : Dev nD) (t : Fin cfg0.N) (h : FVec Ideal S512x1024 .f32) (r : Fin 512) (l : Fin 128) (n : Fin 1024 → EReal)
    (e : ∀ k, h (ix2 r k) = n k) :
    gated (k0_pay5 (F := Ideal) h (iblk m c 5 t) (iblk m c 6 t)) (ix2 r l)
      = gates (fun e => ∑ k, n k * Rt m c (ix2 k e) + Rb m c (ix1 e)) l := by
  refine gated_at _ r l _ (logits_at _ _ _ r _ fun i => ?_)
  refine congrArg₂ (· + ·) (Finset.sum_congr (M := EReal) rfl fun k _ => congrArg₂ (· * ·) (e k) (blk_r m c t k i)) (blk_rb m c t i)

/-- A point's rows of the gates, of the arguments. -/
theorem block_gates (c : Dev nD) (t : Fin cfg0.N) (r : Fin 512) (l : Fin 128) (h : t.val * 512 + r.val < 32768) :
    gated (k0_pay5 (F := Ideal) (k0_pay4 (F := Ideal) (iblk m c 2 t) (iblk m c 0 t)
        (View.ld (iblk m c 3 t) (Rect.unit ![0, 0] ![512, 1024] inb_S1024x1024_S512x1024_0_0)) (iblk m c 1 t)
        (View.ld (iblk m c 3 t) (Rect.unit ![512, 0] ![512, 1024] inb_S1024x1024_S512x1024_512_0)) (iblk m c 4 t))
        (iblk m c 5 t) (iblk m c 6 t)) (ix2 r l)
      = gates (logits (A m c) (B m c) (X m c) (W m c) (N m c) (Rt m c) (Rb m c) ⟨t.val * 512 + r.val, h⟩) l :=
  gates_at m c t _ r l _ fun k => normal_at m c t r k h

/-- The gates, as the call leaves them. -/
theorem final10 (c : Dev nD) :
    (dats m 0 c).arrAt 10 (cfgs 0).N = fun j => gates (logits (A m c) (B m c) (X m c) (W m c) (N m c) (Rt m c) (Rb m c) (j 0)) (j 1) := by
  refine (dats m 0 c).arrAt_eq_of_covers 10 _ (by decide +kernel) fun t _ y => ?_
  blk_simp
  rw [after0_10]
  by_cases h0 : t.val % 64 = 0
  · rw [outsAt0_A m c t h0]
    frame_out
    rw [stored_eq]
    refine (congrArg _ (eq_ix2 y)).trans ((block_gates m c t (y 0) (y 1) (in_rows t (y 0))).trans
      (at_row (fun r l => gates (logits (A m c) (B m c) (X m c) (W m c) (N m c) (Rt m c) (Rb m c) r) l) t (y 0) (y 1) _ _ ?_ ?_))
    · blk_simp [idx' t]
    · blk_simp [idx' t]
  · rw [outsAt0_B m c t h0]
    frame_out
    rw [stored_eq]
    refine (congrArg _ (eq_ix2 y)).trans ((block_gates m c t (y 0) (y 1) (in_rows t (y 0))).trans
      (at_row (fun r l => gates (logits (A m c) (B m c) (X m c) (W m c) (N m c) (Rt m c) (Rb m c) r) l) t (y 0) (y 1) _ _ ?_ ?_))
    · blk_simp [idx' t]
    · blk_simp [idx' t]

end Cert.OutProjIdeal.Own
end
-- ==== Proof.OutProjRef.lean ====
/- What the output projection's reference returns, the router's gates among it, at a row and a lane. -/
module

public import proofs.«01_k».proof.Proof.Gen.OutProjRefIdeal.Run
public import proofs.«01_k».proof.Proof.OutProjSpec
public import proofs.«01_k».proof.Proof.TopFour

@[expose] public section

set_option maxRecDepth 16384

noncomputable section

namespace Cert.OutProjRefIdeal.Own

open Cert.OutProjRefIdeal Cert.OutProjRefIdeal.Gen Cert.OutProjRefIdeal.Value Idealize.ShloMosaic Idealize.ShloMosaic.TcCoe Idealize.SL.Sem
open Cert.InProj1 Cert.OutProj1 Cert.TopFour

variable (a b : FVec Ideal S8x4096x512 .f32) (x : FVec Ideal S8x4096x1024 .f32) (w : FVec Ideal S1024x1024 .f32) (n : FVec Ideal S1024 .f32)

/-- The two mixers side by side. -/
def both : FVec Ideal S8x4096x1024 .f32 :=
  concatenate S8x4096x1024 2 [⟨S8x4096x512, a⟩, ⟨S8x4096x512, b⟩] concatenates_S8x4096x512_S8x4096x512_S8x4096x1024_d2

/-- The stream. -/
def sum : FVec Ideal S8x4096x1024 .f32 :=
  addf x (Host.dotGeneral dot_S8x4096x1024_S1024x1024_S8x4096x1024_2_0_01_1_n_n none (both a b) w)

/-- A stream normalised. -/
def normed : FVec Ideal S8x4096x1024 .f32 :=
  mulf (mulf x (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 n))

/-- An array as 32768 rows. -/
def rows : FVec Ideal S32768x1024 .f32 := shapeCast _ x shapeCasts_S8x4096x1024_S32768x1024

theorem rows_at (r : Fin 32768) (l : Fin 1024) : rows x (ix2 r l) = rowOf 1024 x r l := by
  unfold rowOf
  pointwise [rows]

theorem normed_at (i : Fin 8) (s : Fin 4096) (l : Fin 1024) :
    normed x n (ix3 i s l) = nrm (fun k => x (ix3 i s k)) (fun k => n (ix1 k)) l := by
  pointwise [normed]
  rfl

theorem both_first (i : Fin 8) (s : Fin 4096) (k : Fin 512) : both a b (ix3 i s ⟨k.val, by omega⟩) = a (ix3 i s k) := by
  pointwise [both]

theorem both_later (i : Fin 8) (s : Fin 4096) (k : Fin 512) : both a b (ix3 i s ⟨512 + k.val, by omega⟩) = b (ix3 i s k) := by
  pointwise [both]

/-- A sum of 1024 terms in two halves. -/
theorem sum_halves (f : Fin 1024 → EReal) :
    ∑ k, f k = ∑ k : Fin 512, f ⟨k.val, by omega⟩ + ∑ k : Fin 512, f ⟨512 + k.val, by omega⟩ :=
  Fin.sum_univ_add (a := 512) (b := 512) f

theorem sum_at (i : Fin 8) (s : Fin 4096) (l : Fin 1024) :
    sum a b x w (ix3 i s l) = mix (fun k => a (ix3 i s k)) (fun k => b (ix3 i s k)) (x (ix3 i s l)) fun k => w (ix2 k l) := by
  have h : sum a b x w (ix3 i s l) = (x (ix3 i s l) : EReal) + ∑ k, (both a b (ix3 i s k) : EReal) * w (ix2 k l) := by
    unfold sum
    generalize both a b = y
    pointwise
  rw [h, sum_halves]
  simp only [both_first, both_later]
  exact (add_assoc _ _ _).symm

/-- The reference's stream is the stream. -/
theorem rows_sum : rows (sum a b x w) = fun j => stream a b x w (j 0) (j 1) := by
  funext j
  exact (congrArg _ (eq_ix2 j)).trans ((rows_at _ (j 0) (j 1)).trans (sum_at ..))

/-- Its norm is the stream's norm. -/
theorem rows_normed : rows (normed (sum a b x w) n) = fun j => normal a b x w n (j 0) (j 1) := by
  funext j
  refine (congrArg _ (eq_ix2 j)).trans ((rows_at _ (j 0) (j 1)).trans ((normed_at ..).trans ?_))
  exact congrArg (fun y => nrm y (fun k => n (ix1 k)) (j 1)) (funext fun k => sum_at ..)

/-! The router's gates. -/

/-- The logits of the rows `h`. -/
def scores (h : FVec Ideal S32768x1024 .f32) (u : FVec Ideal S1024x32 .f32) (v : FVec Ideal S32 .f32) : FVec Ideal S32768x32 .f32 :=
  addf (Host.dotGeneral dot_S32768x1024_S1024x32_S32768x32_1_0_0_1_n_n none h u) (broadcastInDim S32768x32 ![0, 1] bcast_S1x32_S32768x32_0_1 (broadcastInDim S1x32 ![1] bcast_S32_S1x32_1 v))

/-- The four greatest of each row. -/
def top (y : FVec Ideal S32768x32 .f32) : FVec Ideal S32768x4 .f32 :=
  (Host.topK S32768x4 1 (FloatOps.cmpfTotal .gt) y sliceFits_S32768x32_S32768x4).1

/-- The greatest of each row of four. -/
def most (t : FVec Ideal S32768x4 .f32) : FVec Ideal S32768 .f32 :=
  maximumf (broadcastInDim S32768 ![] bcast_S_S32768 (constant S_ .f32 0xFF800000#32)) (Host.reduce FloatOps.maximumf t (constant S_ .f32 0xFF800000#32) reducesTo_S32768x4_S32768_d1 h_S_)

/-- The exponentials of four, the greatest taken off. -/
def powers (t : FVec Ideal S32768x4 .f32) (g : FVec Ideal S32768 .f32) : FVec Ideal S32768x4 .f32 :=
  Host.exp (subf t (broadcastInDim S32768x4 ![0, 1] bcast_S32768x1_S32768x4_0_1 (broadcastInDim S32768x1 ![0] bcast_S32768_S32768x1_0 g)))

/-- Their shares of the sum. -/
def shares (e : FVec Ideal S32768x4 .f32) : FVec Ideal S32768x4 .f32 :=
  Host.divf e (broadcastInDim S32768x4 ![0, 1] bcast_S32768x1_S32768x4_0_1 (broadcastInDim S32768x1 ![0] bcast_S32768_S32768x1_0 (Host.reduceAdd e (constant S_ .f32 0x00000000#32) reducesTo_S32768x4_S32768_d1 h_S_)))

/-- Four columns in 128, with zeros behind. -/
def padded (q : FVec Ideal S32768x4 .f32) : FVec Ideal S32768x128 .f32 :=
  pad S32768x128 ![0, 0] ![0, 124] ![0, 0] q (sitofp .f32 (constantI S_ 32 0#32)) pads_S32768x4_S32768x128_000_01240 h_S_

theorem scores_at (h : FVec Ideal S32768x1024 .f32) (u : FVec Ideal S1024x32 .f32) (v : FVec Ideal S32 .f32) (r : Fin 32768) (e : Fin 32) :
    scores h u v (ix2 r e) = ∑ k, (h (ix2 r k) : EReal) * u (ix2 k e) + (v (ix1 e) : EReal) := by
  pointwise [scores]

theorem along_row (r : Fin 32768) (i j : Fin 32) (h : 1 < S32768x32.rank) :
    Shape.Idx.along (s := S32768x32) (ix2 r i) ⟨1, h⟩ (show Fin (S32768x32.size ⟨1, h⟩) from j) = ix2 r j := by
  funext d
  match d with
  | ⟨0, _⟩ => rfl
  | ⟨1, _⟩ => rfl

theorem sort_row {β : Type} (cmp : EReal × β → EReal × β → BitVec 1) (y : S32768x32.Idx → EReal) (z : S32768x32.Idx → β) (r : Fin 32768)
    (i : Fin 32) :
    (Host.sort2 S32768x32 1 cmp y z).1 (ix2 r i)
      = y (ix2 r (sortedFrom (fun a b => cmp (y (ix2 r a), z (ix2 r a)) (y (ix2 r b), z (ix2 r b)) == 1#1) i)) := by
  have h : 1 < S32768x32.rank := by decide
  have e : ∀ f g : Fin 32 → Fin 32 → Bool, f = g → sortedFrom f i = sortedFrom g i := fun f g h => h ▸ rfl
  unfold Host.sort2
  rw [dif_pos h]
  refine congrArg y ((along_row r i _ h).trans ?_)
  refine congrArg (ix2 r) (e _ _ (funext fun a => funext fun b => ?_))
  have ea := along_row r i a h
  have eb := along_row r i b h
  exact congrArg (· == 1#1) (congr (congrArg cmp (congrArg (fun p => (y p, z p)) ea)) (congrArg (fun p => (y p, z p)) eb))

theorem first_four (x : S32768x32.Idx → EReal) (r : Fin 32768) (k : Fin 4) :
    extractStridedSlice S32768x4 (fun _ => 0) x sliceFits_S32768x32_S32768x4 (ix2 r k) = x (ix2 r ⟨k.val, by omega⟩) := by
  pointwise

theorem top_at (y : FVec Ideal S32768x32 .f32) (r : Fin 32768) (k : Fin 4) :
    top y (ix2 r k) = sorted (fun e => y (ix2 r e)) ⟨k.val, by omega⟩ := by
  unfold top Host.topK sorted
  dsimp only
  refine (first_four _ r k).trans ?_
  exact sort_row (fun p q : EReal × BitVec 32 => Ideal.cmp .ogt p.1 q.1) y
    (fun i => if hd : 1 < S32768x32.rank then iotaInDim S32768x32 32 ⟨1, hd⟩ i else 0#32) r _

theorem least : Ideal.ofBits .f32 0xFF800000#32 = ⊥ := by simp [Ideal.ofBits, Ideal.ieee]

theorem most_at (t : FVec Ideal S32768x4 .f32) (r : Fin 32768) : most t (ix1 r) = Finset.univ.sup fun k => (t (ix2 r k) : EReal) := by
  pointwise [most]
  rw [least, max_eq_right bot_le]
  rfl

theorem powers_at (t : FVec Ideal S32768x4 .f32) (g : FVec Ideal S32768 .f32) (r : Fin 32768) (k : Fin 4) :
    powers t g (ix2 r k) = Ideal.exp ((t (ix2 r k) : EReal) - (g (ix1 r) : EReal)) := by
  pointwise [powers]

theorem shares_at (e : FVec Ideal S32768x4 .f32) (r : Fin 32768) (k : Fin 4) :
    shares e (ix2 r k) = Ideal.div (e (ix2 r k)) (∑ i, (e (ix2 r i) : EReal)) := by
  pointwise [shares]

theorem padded_at (q : FVec Ideal S32768x4 .f32) (r : Fin 32768) (l : Fin 128) :
    padded q (ix2 r l) = if h : l.val < 4 then (q (ix2 r ⟨l.val, h⟩) : EReal) else 0 := by
  by_cases h : l.val < 4
  · rw [dif_pos h]
    pointwise [padded]
    exact dif_pos h
  · rw [dif_neg h]
    pointwise [padded]
    rw [dif_neg h]
    exact word_zero

/-- The gates of a row of four, the greatest first. -/
theorem shares_of (t : FVec Ideal S32768x4 .f32) (r : Fin 32768) (v : Fin 4 → EReal) (e : ∀ k, t (ix2 r k) = v k) (h : ∀ k, v k ≤ v 0)
    (k : Fin 4) : shares (powers t (most t)) (ix2 r k) = gate v k := by
  have g : (most t (ix1 r) : EReal) = v 0 := by
    rw [most_at]
    simp only [e]
    exact le_antisymm (Finset.sup_le fun k _ => h k) (Finset.le_sup (Finset.mem_univ 0))
  rw [shares_at]
  simp only [powers_at, e, g, Fin.sum_univ_four]
  rfl

/-- The four gates of a row. -/
theorem shares_top (y : FVec Ideal S32768x32 .f32) (r : Fin 32768) (k : Fin 4) :
    shares (powers (top y) (most (top y))) (ix2 r k) = gate (fun k => sorted (fun e => y (ix2 r e)) ⟨k.val, by omega⟩) k :=
  shares_of _ r _ (top_at y r) (fun _ => (falling_sorted _).2 _ _ (Fin.zero_le _)) k

/-- The reference's gates of a row. -/
theorem padded_top (y : FVec Ideal S32768x32 .f32) (r : Fin 32768) (l : Fin 128) :
    padded (shares (powers (top y) (most (top y)))) (ix2 r l) = gates (fun e => y (ix2 r e)) l := by
  rw [padded_at]
  unfold gates
  simp only [shares_top]

theorem scores_logits (u : FVec Ideal S1024x32 .f32) (v : FVec Ideal S32 .f32) (r : Fin 32768) (e : Fin 32) :
    scores (rows (normed (sum a b x w) n)) u v (ix2 r e) = logits a b x w n u v r e := by
  rw [scores_at, rows_normed]
  rfl

/-- The reference's gates are the gates of the logits. -/
theorem rows_gates (u : FVec Ideal S1024x32 .f32) (v : FVec Ideal S32 .f32) :
    padded (shares (powers (top (scores (rows (normed (sum a b x w) n)) u v)) (most (top (scores (rows (normed (sum a b x w) n)) u v)))))
      = fun j => gates (logits a b x w n u v (j 0)) (j 1) := by
  funext j
  refine (congrArg _ (eq_ix2 j)).trans ((padded_top _ (j 0) (j 1)).trans (congrArg (fun f => gates f (j 1)) (funext fun e => ?_)))
  exact scores_logits ..

variable (m : (ℓ : Loc nD τ sig) → Buf (Elt Ideal) ℓ)

/-- The reference's run, with the stream, its norm and the gates. -/
theorem run_parts (g : Dev nD → PrngReg) :
    θ_run (defs (F := Ideal)) (onTc (τ := τ) (main (F := Ideal))) ⟨m, fun _ => 0, g⟩ fun r => ∀ c : Dev nD,
      (r.2.mem ((c.tc : Thread nD τ).loc main_v32)
          = (fun j => stream (m ((c.tc : Thread nD τ).loc main_arg0)) (m ((c.tc : Thread nD τ).loc main_arg1))
              (m ((c.tc : Thread nD τ).loc main_arg2)) (m ((c.tc : Thread nD τ).loc main_arg3)) (j 0) (j 1))
      ∧ r.2.mem ((c.tc : Thread nD τ).loc main_v16)
          = (fun j => normal (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4)) (j 0) (j 1))
      ∧ r.2.mem ((c.tc : Thread nD τ).loc main_v33)
          = (fun j => gates (logits (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
              (m ((c.tc : Thread nD τ).loc main_arg5)) (m ((c.tc : Thread nD τ).loc main_arg6)) (j 0)) (j 1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run _ _ _).mono (fun r h c => ?_) (Cert.OutProjRefIdeal.Value.run m g)
  obtain ⟨h0, h1, h2, h3⟩ := h c
  exact ⟨⟨h0.trans (rows_sum ..), h1.trans (rows_normed ..), h2.trans (rows_gates ..)⟩, h3⟩

end Cert.OutProjRefIdeal.Own
end
-- ==== Proof.GatherIdealFrame.lean ====
/- The launch of `GatherIdeal`: the call gathering rows. Its body starts one transfer a row, 256 on one counter, and then
   waits for them all; the frame, and what each grid point leaves in the output. -/
module

public import proofs.«01_k».proof.Proof.Gen.GatherIdeal.Launch
public import proofs.«01_k».proof.Proof.Gen.GatherIdeal.Skeleton
public import proofs.«01_k».proof.Proof.Gen.Pre_slot_tok_names_rows
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Claim
public import Idealize.ShloMosaic.Lib.Pointwise
public import Idealize.ShloMosaic.Lib.Pipeline.ValueKit
public import Idealize.ShloMosaic.Lib.StableHlo.ReadAt

@[expose] public section

set_option maxRecDepth 16384

noncomputable section

namespace Cert.GatherIdeal.Own

open Cert.GatherIdeal Cert.GatherIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The transfers of one grid point -/

abbrev T1 : ℕ := k0_t1_loop.trips

theorem T1_eq : T1 = 256 := by decide

/-- The array the rows are read from. -/
abbrev srcA : Memref sig .tc .hbm S32768x1024 .f32 := Memref.whole main_arg0

/-- Row `k` of the output block. -/
def rowM (arg3 : Memref sig .tc .vmem S256x1024 .f32) (k : Fin T1) : Memref sig .tc .vmem S1x1024 .f32 :=
  arg3.slice (Rect.unit (s := S256x1024) (k0_off2 k) S1x1024.size (k0_off2_inb k)) (fun _ => rfl)

/-- The row of the array the word `w` names. -/
def srcM (w : BitVec 32) (h : k0_chk1 w) : Memref sig .tc .hbm S1x1024 .f32 :=
  srcA.slice (Rect.unit (s := S32768x1024) (k0_off3 w) S1x1024.size (k0_off3_inb w h)) (fun _ => rfl)

abbrev SrcBuf (c : Dev nD) : Type := Buf (Elt F) (srcA.view.loc (c : Thread nD τ))
abbrev RowsBuf (c : Dev nD) (arg3 : Memref sig .tc .vmem S256x1024 .f32) : Type := Buf (Elt F) (arg3.view.loc (c : Thread nD τ))
abbrev IdxBuf (c : Dev nD) (arg1 : Memref sig .tc .smem S1x1x256 .i32) : Type := Buf (Elt F) (arg1.view.loc (c : Thread nD τ))

section Body

variable (c : Dev nD) (arg1 : Memref sig .tc .smem S1x1x256 .i32) (harg1 : arg1.IsWhole)
  (arg3 : Memref sig .tc .vmem S256x1024 .f32) (harg3 : arg3.IsWhole)
  (f1 : IdxBuf (F := F) c arg1) (A : SrcBuf (F := F) c) (f3 : RowsBuf (F := F) c arg3)
  (wd : Fin T1 → BitVec 32) (hwd : ∀ k, k0_chk1 (wd k))

/-- Row `k` of the block, not yet written. -/
abbrev rowPre (k : Fin T1) : sProp 𝕄 :=
  (rowM arg3 k).view.loc (c : Thread nD τ) ↦[(rowM arg3 k).view.set]{fullShare} f3
/-- Row `k` written by its transfer. -/
abbrev rowPost (k : Fin T1) : sProp 𝕄 :=
  (rowM arg3 k).view.loc (c : Thread nD τ) ↦[(rowM arg3 k).view.set]{fullShare}
    (rowM arg3 k).view.writes (Elt F) f3 [⟨Rect.whole S1x1024, ReadAs.same.apply ((srcM (wd k) (hwd k)).view.read (Elt F) A)⟩]
/-- The source row of transfer `k` under its read token. -/
abbrev srcTok (k : Fin T1) : sProp 𝕄 :=
  (srcM (wd k) (hwd k)).view.loc (c : Thread nD τ) ↦[(srcM (wd k) (hwd k)).view.set]{Transfers.shareTokN fullShare k.val} A
/-- What transfer `k` hands back. -/
abbrev deliv (k : Fin T1) : sProp 𝕄 := iprop(rowPost c arg3 A f3 wd hwd k ∗ srcTok c A wd hwd k)

abbrev batch (j u : ℕ) : sProp 𝕄 :=
  Transfers.Batch (countersEmb (U := Pipeline.UD sig nD τ)) (c : Thread nD τ) (.dma cc0_scratch0.sem) () 128 (deliv c arg3 A f3 wd hwd) j u

/-- Before trip `k` of the first loop. -/
def issueAt (k : ℕ) (_ : Unit) : sProp 𝕄 :=
  iprop((arg1.view.loc (c : Thread nD τ) ↦[arg1.view.set]{fullShare} f1) ∗ batch c arg3 A f3 wd hwd k 0
    ∗ bigSep (Ring.rangeSet T1 k T1) (rowPre c arg3 f3) ∗ bigSep (Ring.rangeSet T1 k T1) (srcTok c A wd hwd))

/-- The word trip `k` reads. -/
def wordAt (k : Fin T1) : BitVec 32 :=
  View.readAt (Elt F) arg1.view (Rect.unit (s := S1x1x256) (k0_off1 k) S1x1x1.size (k0_off1_inb k)).toLoadRect f1 (Shape.Idx.first (numel1_S1x1x1.symm ▸ Nat.one_pos))

theorem issue_step (hw : ∀ k, wordAt c arg1 f1 k = wd k) (i : grid0.Coords) (k : Fin T1) (acc : Unit) :
    issueAt c arg1 arg3 f1 A f3 wd hwd k acc
      ⊢ wp frame (wpE (defs₀ (F := F)) Variants.none (c : Thread nD τ) none) Set.univ (k0_t1_body i arg1 harg1 srcA (Memref.isWhole_whole _) arg3 harg3 cc0_scratch0 k acc)
        (issueAt c arg1 arg3 f1 A f3 wd hwd (k.val + 1)) := by
  have hk := k.isLt
  unfold issueAt
  rw [Ring.bigSep_rangeSet_head (Φ := rowPre c arg3 f3) (by omega) hk, Ring.bigSep_rangeSet_head (Φ := srcTok c A wd hwd) (by omega) hk]
  iintro ⟨H1, HB, ⟨HR, HRs⟩, ⟨HS, HSs⟩⟩
  dsimp only [k0_t1_body]
  sl_exec
  have hr : issue_step.sl.r c arg1 f1 k = wd k := hw k
  rw [hr]
  have hc := hwd k
  sl_exec
  sl_step
  isplitl [H1]; · iexact H1
  isplitl [HB]; · iexact HB
  isplitl [HRs]; · iexact HRs
  iexact HSs

abbrev T2 : ℕ := k0_t2_loop.trips

theorem T2_eq : T2 = T1 := by decide

/-- Before trip `k` of the second loop. -/
def drainAt (k : ℕ) (_ : Unit) : sProp 𝕄 :=
  iprop(⌜k ≤ T2⌝ ∗ (∃ W, owes (c : Thread nD τ) 0 W)
    ∗ (if k < T2 then batch c arg3 A f3 wd hwd T1 (k * 128)
       else iprop(semVal ((c : Thread nD τ), SemLoc.dma cc0_scratch0.sem) 0 ∗ bigSep Finset.univ (deliv c arg3 A f3 wd hwd))))

theorem drain_step (i : grid0.Coords) (k : Fin T2) (acc : Unit) :
    drainAt c arg3 A f3 wd hwd k acc
      ⊢ wp frame (wpE (defs₀ (F := F)) Variants.none (c : Thread nD τ) none) Set.univ (k0_t2_body i arg1 harg1 srcA (Memref.isWhole_whole _) arg3 harg3 cc0_scratch0 k acc)
        (drainAt c arg3 A f3 wd hwd (k.val + 1)) := by
  have hk : k.val < T2 := k.isLt
  have hT := T2_eq
  have hT1 := T1_eq
  unfold drainAt
  simp only [if_pos hk]
  rcases Nat.lt_or_ge (k.val + 1) T2 with h1 | h1
  · simp only [if_pos h1]
    iintro ⟨-, ⟨%W, HO⟩, HB⟩
    dsimp only [k0_t2_body]
    sl_exec
    sl_step
    isplitr; · ipureintro; omega
    isplitl [HO]; · iexists _; iexact HO
    rw [show (k.val + 1) * 128 = k.val * 128 + 128 by omega]
    iexact HB
  · simp only [if_neg (Nat.not_lt.mpr h1)]
    iintro ⟨-, ⟨%W, HO⟩, HB⟩
    dsimp only [k0_t2_body]
    sl_exec
    sl_step
    isplitr; · ipureintro; omega
    isplitl [HO]; · iexists _; iexact HO
    isplitl [HB]; · iexact HB
    iexact HB_all

/-! ## Splitting and joining -/

theorem off2_lead : ∀ k : Fin T1, k0_off2 k 0 = 1 * k.val := by decide +kernel
theorem off2_rest : ∀ (k : Fin T1) (a : Fin 2), a ≠ 0 → k0_off2 k a = 0 := by decide +kernel

/-- The elements of row `k`. -/
abbrev rowSet (k : Fin T1) : Finset (Idx (arg3.view.loc (c : Thread nD τ))) := (rowM arg3 k).view.set

theorem rows_disjoint (k k' : Fin T1) (h : k ≠ k') : Disjoint (rowM arg3 k).view.set (rowM arg3 k').view.set := by
  unfold rowM Memref.slice
  simp only [View.set_slice]
  rw [Finset.disjoint_map]
  exact Ring.lead_disjoint (s := S256x1024) (0 : Fin 2) 1 (fun k => k0_off2 k) S1x1024.size k0_off2_inb off2_lead rfl k k' h

include harg3 in
theorem rows_cover : (Finset.univ : Finset (Fin T1)).biUnion (rowSet c arg3) = Finset.univ := by
  have h := Ring.lead_cover (s := S256x1024) (0 : Fin 2) 1 (fun k => k0_off2 k) S1x1024.size k0_off2_inb off2_lead off2_rest rfl
    (fun a ha => by fin_cases a; exact absurd rfl ha; rfl) (by decide)
  refine Finset.eq_univ_of_forall fun j => ?_
  have hj : j ∈ arg3.view.set := by rw [harg3.set_eq_univ]; exact Finset.mem_univ _
  unfold View.set at hj
  obtain ⟨y, -, rfl⟩ := Finset.mem_map.1 hj
  have hy : y ∈ Finset.univ.biUnion (fun k => (Rect.unit (s := S256x1024) (k0_off2 k) S1x1024.size (k0_off2_inb k)).set) := h ▸ Finset.mem_univ y
  obtain ⟨k, -, hk⟩ := Finset.mem_biUnion.1 hy
  refine Finset.mem_biUnion.2 ⟨k, Finset.mem_univ _, ?_⟩
  have e : rowSet c arg3 k = (Rect.unit (s := S256x1024) (k0_off2 k) S1x1024.size (k0_off2_inb k)).set.map arg3.view.emb := View.set_slice _ _
  rw [e]
  exact Finset.mem_map_of_mem _ hk

/-- What is left of token `k` beside its row. -/
abbrev srcRest (k : Fin T1) : sProp 𝕄 :=
  srcA.view.loc (c : Thread nD τ) ↦[Finset.univ \ (srcM (wd k) (hwd k)).view.set]{Transfers.shareTokN fullShare k.val} A

theorem src_split : (srcA.view.loc (c : Thread nD τ) ↦{fullShare} A : sProp 𝕄)
    ⊣⊢ iprop((srcA.view.loc (c : Thread nD τ) ↦{Transfers.shareDrop fullShare T1} A)
      ∗ bigSep Finset.univ (srcTok c A wd hwd) ∗ bigSep Finset.univ (srcRest c A wd hwd)) := by
  have h := Transfers.pointsTo_toks (ℓ := srcA.view.loc (c : Thread nD τ)) (S := Finset.univ) (f := A) (Lvl := ℕ) (Ix := Unit) (Name := ℕ) (U := Pipeline.UD sig nD τ) fullShare T1
  have e : bigSep Finset.univ (fun k : Fin T1 => (srcA.view.loc (c : Thread nD τ) ↦{Transfers.shareTok fullShare T1 k} A : sProp 𝕄))
      = iprop(bigSep Finset.univ (srcTok c A wd hwd) ∗ bigSep Finset.univ (srcRest c A wd hwd)) := by
    refine Eq.trans ?_ (BI.bigSep_sep _ _ _)
    refine congrArg _ (funext fun k => ?_)
    have := pointsTo_split_subset (ℓ := srcA.view.loc (c : Thread nD τ)) (q := Transfers.shareTokN fullShare k.val) (f := A) (Lvl := ℕ) (Ix := Unit) (Name := ℕ) (U := Pipeline.UD sig nD τ)
      (Finset.subset_univ (srcM (wd k) (hwd k)).view.set)
    exact BI.equiv_iff.mp ⟨this.1, this.2⟩
  rw [e] at h
  exact h

/-- The index a row's own index and a lane make in the array's row. -/
def lane (y : S256x1024.Idx) : S1x1024.Idx := Fin.cons ⟨0, Nat.one_pos⟩ (Fin.cons (y 1) finZeroElim)

/-- The gathered block: row `k` the array's row the word `wd k` names. -/
def gath : Vec F S256x1024 .f32 := fun y =>
  (srcM (wd ((y 0).cast T1_eq.symm)) (hwd _)).view.read (Elt F) A (lane y)

include harg3 in
theorem rows_join :
    (bigSep Finset.univ (rowPost c arg3 A f3 wd hwd) : sProp 𝕄) ⊢ owns (c : Thread nD τ) arg3 fullShare (gath c A wd hwd) := by
  refine (pointsTo_biUnion_join (ℓ := arg3.view.loc (c : Thread nD τ)) (q := fullShare) (Lvl := ℕ) (Ix := Unit) (Name := ℕ) (U := Pipeline.UD sig nD τ) Finset.univ (rowSet c arg3) _ f3
    (fun k _ k' _ h => rows_disjoint arg3 k k' h)).trans ?_
  rw [rows_cover c arg3 harg3]
  iintro ⟨%g, %hg, H⟩
  unfold owns
  iexists g
  isplitr
  swap
  · rw [harg3.set_eq_univ]; iexact H
  ipureintro
  funext y
  have hy : y = (Rect.unit (s := S256x1024) (k0_off2 ((y 0).cast T1_eq.symm)) S1x1024.size (k0_off2_inb _)).emb (lane y) := by
    refine (Rect.emb_eq_of_coords (Rect.unit (s := S256x1024) (k0_off2 ((y 0).cast T1_eq.symm)) S1x1024.size (k0_off2_inb _)) (lane y) y fun a => ?_).symm
    fin_cases a
    · show (y 0).val = k0_off2 _ 0 + 1 * 0
      rw [off2_lead]
      show (y 0).val = 1 * (y 0).val + 1 * 0
      omega
    · show (y 1).val = k0_off2 ((y 0).cast T1_eq.symm) 1 + 1 * (y 1).val
      rw [off2_rest _ 1 (by decide)]; simp
  have h1 := congrFun (View.read_congr (v := (rowM arg3 ((y 0).cast T1_eq.symm)).view) (Val := Elt F) (fun i hi => hg _ (Finset.mem_univ _) i hi)) (lane y)
  have h2 := congrFun (View.read_writes_whole (rowM arg3 ((y 0).cast T1_eq.symm)).view f3 (ReadAs.same.apply ((srcM (wd ((y 0).cast T1_eq.symm)) (hwd _)).view.read (Elt F) A))) (lane y)
  refine Eq.trans ?_ (h1.trans h2)
  conv_lhs => rw [hy]
  rfl

/-! ## The body -/

/-- Word `k` of an index block. -/
def wordOf (x : Vec F S1x1x256 .i32) (k : Fin T1) : BitVec 32 :=
  x ((Rect.unit (s := S1x1x256) (k0_off1 k) S1x1x1.size (k0_off1_inb k)).emb (Shape.Idx.first (s := S1x1x1) (numel1_S1x1x1.symm ▸ Nat.one_pos)))

theorem wordAt_eq (k : Fin T1) : wordAt c arg1 f1 k = wordOf (arg1.view.read (Elt F) f1) k := rfl

theorem pointsTo_storable (ℓ : Loc nD τ sig) (S : Finset (Idx ℓ)) (q : PosShare TreeShare) (f : Buf (Elt F) ℓ) :
    Storable (upEmb : UEmb _ 𝕄) (ℓ ↦[S]{q} f : sProp 𝕄) := by infer_instance

theorem deliv_storable (k : Fin T1) : Storable (upEmb : UEmb _ 𝕄) (deliv c arg3 A f3 wd hwd k) :=
  have h1 : Storable (upEmb : UEmb _ 𝕄) (rowPost c arg3 A f3 wd hwd k) := pointsTo_storable _ _ _ _
  have h2 : Storable (upEmb : UEmb _ 𝕄) (srcTok c A wd hwd k) := pointsTo_storable _ _ _ _
  Storable.sep _ _ _

theorem run_body (i : grid0.Coords) (x : Vec F S1x1x256 .i32) (hx : ∀ k, k0_chk1 (wordOf x k)) (W : Waits sig Unit) :
    iprop(owns (c : Thread nD τ) arg1 fullShare x ∗ (∃ d, owns (c : Thread nD τ) arg3 fullShare d)
        ∗ (srcA.view.loc (c : Thread nD τ) ↦{fullShare} A) ∗ semVal ((c : Thread nD τ), SemLoc.dma cc0_scratch0.sem) 0 ∗ owes (c : Thread nD τ) 0 W)
      ⊢ wp (M := 𝕄) frame (wpE (defs₀ (F := F)) Variants.none (c : Thread nD τ) none) Set.univ (cc0_gather_rows i arg1 harg1 srcA (Memref.isWhole_whole _) arg3 harg3 cc0_scratch0)
        (fun _ => iprop(owns (c : Thread nD τ) arg1 fullShare x ∗ owns (c : Thread nD τ) arg3 fullShare (gath c A (wordOf x) hx)
          ∗ (srcA.view.loc (c : Thread nD τ) ↦{fullShare} A) ∗ semVal ((c : Thread nD τ), SemLoc.dma cc0_scratch0.sem) 0 ∗ ∃ W', owes (c : Thread nD τ) 0 W')) := by
  rw [cc0_gather_rows_eq_skeleton]
  unfold owns
  iintro ⟨⟨%f1, %h1, H1⟩, ⟨%d3, %f3, %h3, H3⟩, HA, Hc, HO⟩
  have hw : ∀ k, wordAt c arg1 f1 k = wordOf x k := fun k => by rw [wordAt_eq, h1]
  ihave HA' := (src_split c A (wordOf x) hx).1 $$ HA
  icases HA' with ⟨HAd, HAt, HAr⟩
  ihave H3' := (show (arg3.view.loc (c : Thread nD τ) ↦[arg3.view.set]{fullShare} f3 : sProp 𝕄) ⊢ bigSep Finset.univ (rowPre c arg3 f3) from by
    rw [harg3.set_eq_univ]
    exact Entails.of_eq (Ring.pointsTo_blocks (rowSet c arg3) (rows_disjoint arg3) (rows_cover c arg3 harg3) f3)) $$ H3
  have hst : ∀ t, Storable (upEmb : UEmb _ 𝕄) (deliv c arg3 A f3 (wordOf x) hx t) := deliv_storable c arg3 A f3 (wordOf x) hx
  imod (Transfers.batch_alloc' (Lvl := ℕ) (countersEmb (U := Pipeline.UD sig nD τ)) (c : Thread nD τ) () 128 (deliv c arg3 A f3 (wordOf x) hx) (sm := .dma cc0_scratch0.sem) (E := Set.univ)) $$ Hc with HB
  sl_unfold [cc0_gather_rows_skel]
  sl_for (issueAt c arg1 arg3 f1 A f3 (wordOf x) hx) $$ [H1 HB H3' HAt]
  · intro k acc; exact issue_step c arg1 harg1 arg3 harg3 f1 A f3 (wordOf x) hx hw i k acc
  · unfold issueAt
    rw [Ring.rangeSet_univ]
    isplitl [H1]; · iexact H1
    isplitl [HB]; · iexact HB
    isplitl [H3']; · iexact H3'
    iexact HAt
  iintro %acc HL
  ihave HL' := (show issueAt c arg1 arg3 f1 A f3 (wordOf x) hx T1 acc ⊢ iprop((arg1.view.loc (c : Thread nD τ) ↦[arg1.view.set]{fullShare} f1) ∗ batch c arg3 A f3 (wordOf x) hx T1 0) from by
    unfold issueAt; iintro ⟨H1, HB, -, -⟩
    isplitl [H1] <;> iassumption) $$ HL
  icases HL' with ⟨H1, HB⟩
  sl_for (drainAt c arg3 A f3 (wordOf x) hx) $$ [HB HO]
  · intro k acc; exact drain_step c arg1 harg1 arg3 harg3 A f3 (wordOf x) hx i k acc
  · unfold drainAt
    rw [if_pos (by decide)]
    isplitr; · ipureintro; omega
    isplitl [HO]; · iexists _; iexact HO
    iexact HB
  iintro %acc' HL
  ihave HL' := (show drainAt c arg3 A f3 (wordOf x) hx T2 acc' ⊢ iprop((∃ W, owes (c : Thread nD τ) 0 W)
      ∗ semVal ((c : Thread nD τ), SemLoc.dma cc0_scratch0.sem) 0 ∗ bigSep Finset.univ (rowPost c arg3 A f3 (wordOf x) hx) ∗ bigSep Finset.univ (srcTok c A (wordOf x) hx)) from by
    unfold drainAt; rw [if_neg (Nat.lt_irrefl _)]; iintro ⟨-, HO, Hc, Hall⟩
    isplitl [HO]; · iexact HO
    isplitl [Hc]; · iexact Hc
    iapply (Entails.of_eq (BI.bigSep_sep Finset.univ (rowPost c arg3 A f3 (wordOf x) hx) (srcTok c A (wordOf x) hx)))
    iexact Hall) $$ HL
  icases HL' with ⟨HO, Hc, HR, HT⟩
  sl_step
  isplitl [H1]
  · iexists f1; isplitr; · ipureintro; exact h1
    iexact H1
  isplitl [HR]
  · iapply (show (bigSep Finset.univ (rowPost c arg3 A f3 (wordOf x) hx) : sProp 𝕄) ⊢ iprop(∃ f, ⌜arg3.view.read (Elt F) f = gath c A (wordOf x) hx⌝
        ∗ arg3.view.loc (c : Thread nD τ) ↦[arg3.view.set]{fullShare} f) from rows_join c arg3 harg3 A f3 (wordOf x) hx)
    iexact HR
  isplitl [HAd HT HAr]
  · iapply (src_split c A (wordOf x) hx).2
    isplitl [HAd]; · iexact HAd
    isplitl [HT] <;> iassumption
  isplitl [Hc]; · iexact Hc
  iexact HO

end Body

/-! ## @main up to the call -/

variable (m : (ℓ : Loc nD τ sig) → Buf (Elt F) ℓ) (ρ : Dev nD → PrngReg)

/-- Core `c`'s buffers when the call is entered: the indices cut in blocks. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The host operation writes no argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))

/-! ## The kernel's own counter and the array it reads -/

abbrev osem0 : Fin 1 → SemLoc sig := fun j => (![SemLoc.dma 4] : Fin 1 → SemLoc sig) j

theorem ownSemFacts0 : Pipeline.OwnSemFacts spec0 osem0 := by decide

theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma cc0_scratch0.sem) 0 := by
  rw [Pipeline.ownSems0_eq_of_list c osem0 [0] (by decide) (by decide)]; rfl

def H0 : Finset (Ref sig .tc) := {main_arg0}
theorem H0_sub : H0 ⊆ Pipeline.restRefs sig spec0 := by decide

theorem hbmPts0_eq (c : Dev nD) :
    (bigSep H0 (fun b => ((c : Thread nD τ).loc b) ↦{fullShare} V m c b) : sProp 𝕄)
      = (srcA.view.loc (c : Thread nD τ) ↦{fullShare} (V m c main_arg0 : SrcBuf (F := F) c)) := by
  rw [BI.bigSep_eq_bigSepL_of_eq [main_arg0] (by decide) (by decide)]; rfl

theorem PhiD0_eq (c : Dev nD) :
    (Pipeline.ΦD osem0 spec0 H0 (V m) c : sProp 𝕄)
      = iprop(emp ∗ (∃ r, prngReg c r) ∗ semVal ((c : Thread nD τ), SemLoc.dma cc0_scratch0.sem) 0
          ∗ (srcA.view.loc (c : Thread nD τ) ↦{fullShare} (V m c main_arg0 : SrcBuf (F := F) c))) := by
  rw [Pipeline.ΦD_eq, scopedRest0_eq, ownSems00_eq, hbmPts0_eq]; rfl

/-! ## The grid points -/

/-- Window `w`'s block at grid point `t`. -/
def iblk (c : Dev nD) (w : Fin cfg0.W) (t : Fin cfg0.N) :=
  ((cfg0.win w).blk t).view.read (Elt F) (V m c (Pipeline.arrRef spec0 w))

abbrev ms0 (t : Fin cfg0.N) : Memref sig .tc .smem S1x1x256 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x1024 .f32 := win0_1.stage (cfg0.slots t 1)
abbrev hs1 (t : Fin cfg0.N) : (ms1 t).IsWhole := hstage0_1 ((cfg0.slots t 1).cast nbuf0_1)

/-- Every index names a row of the array. -/
def Ok : Prop := ∀ (c : Dev nD) (t : Fin cfg0.N) (k : Fin T1), k0_chk1 (wordOf (F := F) (iblk m c 0 t) k)

/-- What the output's staging buffer holds after point `t`. -/
def outsAt (hO : Ok m) (c : Dev nD) (t : Fin cfg0.N) : Vec F S256x1024 .f32 :=
  gath c (V m c main_arg0) (wordOf (F := F) (iblk m c 0 t)) (hO c t)

/-- The proof data of the call on core `c`. -/
def dats (hO : Ok m) (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => outsAt m hO c t
  Φ _ := Pipeline.ΦD osem0 spec0 H0 (V m) c
  q _ := fullShare
  owed _ := 0

theorem A_eq (hO : Ok m) (c : Dev nD) (w : Fin cfg0.W) : (dats m hO 0 c).A w = V m c (Pipeline.arrRef spec0 w) := by
  dsimp only [dats]

theorem after0 (hO : Ok m) (c : Dev nD) (t : Fin cfg0.N) : (dats m hO 0 c).after 0 t = iblk m c 0 t := by dsimp only [dats]
theorem after1 (hO : Ok m) (c : Dev nD) (t : Fin cfg0.N) : (dats m hO 0 c).after 1 t = outsAt m hO c t := by dsimp only [dats]

theorem before0 (hO : Ok m) (c : Dev nD) (t : Fin cfg0.N) (d) : (dats m hO 0 c).before 0 t d = iblk m c 0 t :=
  ((dats m hO 0 c).before_in_eq_fetched 0 rfl (fun _ => rfl) (fun _ _ _ => rfl) (fun t => by
    rw [after0]; unfold Dat.blockOf iblk; rw [A_eq]; try rfl) t d).trans (by unfold Dat.fetched Dat.blockOf iblk; rw [A_eq]; try rfl)

def bodyPre (hO : Ok m) (c : Dev nD) (t : Fin cfg0.N) : sProp 𝕄 :=
  iprop((dats m hO 0 c).Φ t.castSucc ∗ (dats m hO 0 c).owesAt () t.castSucc
    ∗ (∃ d, owns (c : Thread nD τ) (ms0 t) fullShare ((dats m hO 0 c).before 0 t d))
    ∗ (∃ d, owns (c : Thread nD τ) (ms1 t) fullShare ((dats m hO 0 c).before 1 t d)))
def bodyPost (hO : Ok m) (c : Dev nD) (t : Fin cfg0.N) : sProp 𝕄 :=
  iprop((dats m hO 0 c).Φ t.succ ∗ (dats m hO 0 c).owesAt () t.succ
    ∗ owns (c : Thread nD τ) (ms0 t) fullShare ((dats m hO 0 c).after 0 t)
    ∗ owns (c : Thread nD τ) (ms1 t) fullShare ((dats m hO 0 c).after 1 t))

/-- The body at grid point `t`. -/
def bodyAt (t : Fin cfg0.N) : Prog (TpuEff nD τ sig (Elt F) Λ₀ .tc) PUnit :=
  cc0_gather_rows (grid0.coords t) (ms0 t) (hs0 t) srcA (Memref.isWhole_whole _) (ms1 t) (hs1 t) cc0_scratch0

theorem sound_body (hO : Ok m) (c : Dev nD) (t : Fin cfg0.N) :
    bodyPre m hO c t ⊢ wp frame (wpE (defs₀ (F := F)) Variants.none c none) Set.univ (bodyAt t) (fun _ => bodyPost m hO c t) := by
  unfold bodyPre bodyPost bodyAt
  rw [show (dats m hO 0 c).Φ t.succ = (dats m hO 0 c).Φ t.castSucc from rfl, after0, after1]
  rw [show (dats m hO 0 c).Φ t.castSucc = Pipeline.ΦD osem0 spec0 H0 (V m) c from rfl, PhiD0_eq]
  simp only [before0]
  unfold Dat.owesAt Pipeline.owesWithin
  rw [show (dats m hO 0 c).owed t.castSucc = 0 from rfl, show (dats m hO 0 c).owed t.succ = 0 from rfl]
  unfold outsAt
  iintro ⟨⟨-, Hg, Hq, Hh⟩, ⟨%W, -, HW⟩, ⟨%d0, H0⟩, ⟨%d1, H1⟩⟩
  iapply (wp_wand_r frame (wpE (defs₀ (F := F)) Variants.none (c : Thread nD τ) none) Set.univ (Q := fun _ => iprop(owns (c : Thread nD τ) (ms0 t) fullShare (iblk m c 0 t : Vec F S1x1x256 .i32)
      ∗ owns (c : Thread nD τ) (ms1 t) fullShare (gath c (V m c main_arg0) (wordOf (F := F) (iblk m c 0 t)) (hO c t))
      ∗ (srcA.view.loc (c : Thread nD τ) ↦{fullShare} (V m c main_arg0 : SrcBuf (F := F) c)) ∗ semVal ((c : Thread nD τ), SemLoc.dma cc0_scratch0.sem) 0
      ∗ ∃ W', owes (c : Thread nD τ) 0 W')))
  isplitl [H0 H1 Hh Hq HW]
  · iapply (run_body c (ms0 t) (hs0 t) (ms1 t) (hs1 t) (V m c main_arg0) (grid0.coords t) (iblk m c 0 t) (hO c t) W)
    isplitl [H0]; · iexact H0
    isplitl [H1]; · iexists _; iexact H1
    isplitl [Hh]; · iexact Hh
    isplitl [Hq]; · iexact Hq
    iexact HW
  iintro %a ⟨H0, H1, Hh, Hq, ⟨%W', HW'⟩⟩
  isplitl [Hg Hq Hh]
  · isplitr; · iempintro
    isplitl [Hg]; · iexact Hg
    isplitl [Hq]; · iexact Hq
    iexact Hh
  isplitl [HW']
  · iexists W'; isplitr; · ipureintro; exact fun _ _ => Or.inl trivial
    iexact HW'
  isplitl [H0]; · iexact H0
  iexact H1

theorem defs₀_row (t : Fin cfg0.N) :
    defs₀ (F := F) .tc cfg0.body (cfg0.bodyArgs t (cfg0.slots t)) = bodyAt t := by
  unfold defs₀; rw [Defs.onTc_tc]; rfl

theorem body_obligation (hO : Ok m) (c : Dev nD) : BodyObligation (dats (F := F) m hO 0 c) (defs₀ (F := F)) Variants.none () Set.univ := fun t => by
  rw [bigSep_W0, bigSep_W0, defs₀_row]
  exact triple_restated (sound_body m hO c t) rfl .rfl fun _ => .rfl

set_option backward.isDefEq.respectTransparency.types false in
/-- The launch. -/
theorem run_main (hO : Ok m) : θ_run defs (onTc (τ := τ) (main (F := F))) (s₀ m ρ)
    (fun r => Pipeline.FramePost cfgs (dats m hO) 0 (V m) r ∧ r.2.sem = fun _ => 0) :=
  Pipeline.θ_run_frame_dma (Q' := _) cfgs (dats m hO) (0 : Fin 1) launch0 osem0 defs₀ Variants.none ownSemFacts0 H0 H0_sub m ρ main
    (hbody := fun c => (body_obligation m hO c).loose) (hshare := fun c => (dats m hO 0 c).share_full fun _ => rfl)
    (howed := fun _ _ => rfl) (V := V m) (hmain := hmain m Variants.none) (hA := A_eq m hO)
    (hin := fun _ => .rfl) (hout := fun _ => .rfl)

/-- The frame: the arguments end unchanged and every counter at zero. -/
theorem frame_out (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨
    ((h.1 c).2 main_arg0 (show main_arg0 ∈ Pipeline.restRefs sig spec0 from Pipeline.mem_restRefs_of main_arg0 (by decide) (by decide))).trans (V_main_arg0 m c),
    ((h.1 c).2 main_arg1 (show main_arg1 ∈ Pipeline.restRefs sig spec0 from Pipeline.mem_restRefs_of main_arg1 (by decide) (by decide))).trans (V_main_arg1 m c)⟩, h.2⟩)
    (run_main m ρ hO)

/-! ## The indices -/

theorem off1_eq : ∀ k : Fin T1, k0_off1 k = ![0, 0, k.val] := by decide +kernel

theorem wordOf_eq (x : Vec F S1x1x256 .i32) (k : Fin T1) : wordOf x k = x (ix3 (0 : Fin 1) (0 : Fin 1) (k.cast T1_eq)) := by
  unfold wordOf
  refine congrArg x (Rect.emb_eq_of_coords (Rect.unit (s := S1x1x256) (k0_off1 k) S1x1x1.size (k0_off1_inb k)) _ _ fun a => ?_)
  show _ = k0_off1 k a + 1 * _
  rw [show k0_off1 k a = (![0, 0, k.val] : Fin 3 → Nat) a from congrFun (off1_eq k) a]
  fin_cases a
  · rfl
  · rfl
  · show k.val = k.val + 1 * 0
    omega

theorem V_idx (c : Dev nD) (b : Fin 544) (k : Fin 256) (h : b.val * 256 + k.val < 139264) :
    V m c main_v0 (ix3 b (0 : Fin 1) k) = m ((c : Thread nD τ).loc main_arg1) (ix1 (⟨b.val * 256 + k.val, h⟩ : Fin 139264)) := by
  unfold V
  after_reads_at

theorem idx : ∀ t : Fin cfg0.N, win0_0.index t = ![t.val, 0, 0] ∧ win0_1.index t = ![t.val, 0] :=
  (by decide +kernel : ∀ t : Fin grid0.N, _)

/-- Word `k` of grid point `t` is index `256 t + k`. -/
theorem word_eq (c : Dev nD) (t : Fin cfg0.N) (k : Fin T1) (h : t.val * 256 + k.val < 139264) :
    wordOf (F := F) (iblk m c 0 t) k = m ((c : Thread nD τ).loc main_arg1) (ix1 (⟨t.val * 256 + k.val, h⟩ : Fin 139264)) := by
  rw [wordOf_eq]
  refine Eq.trans ?_ (V_idx m c (t.cast N_0) (k.cast T1_eq) h)
  blk_ext [iblk, idx t]
  exact Nat.add_zero _

theorem chk_of_lt (w : BitVec 32) (h : w.toNat < 32768) : k0_chk1 w := fun a => by
  fin_cases a
  · show w.toNat + 1 ≤ 32768
    omega
  · exact Nat.le_of_eq rfl

/-- A word that is not negative and is below 32768, read without its sign. -/
theorem lt_of_cmp (w : BitVec 32) (h : IntOp.andi (IntOp.cmpi .sge w 0#32) (IntOp.cmpi .slt w 32768#32) = 1#1) : w.toNat < 32768 := by
  simp only [IntOp.cmpi, WordCmp.andi_ofBool, WordCmp.ofBool_eq_one_iff, Bool.and_eq_true] at h
  obtain ⟨h0, h1⟩ := h
  rw [BitVec.sle_eq_decide, decide_eq_true_iff] at h0
  rw [BitVec.slt_eq_decide, decide_eq_true_iff] at h1
  have e0 : (0#32 : BitVec 32).toInt = 0 := by decide
  have e1 : (32768#32 : BitVec 32).toInt = 32768 := by decide
  rw [e0] at h0; rw [e1] at h1
  rw [BitVec.toInt_eq_toNat_cond] at h0 h1
  split at h0 <;> omega

/-- From the precondition: every index is a row's number. -/
theorem index_lt (h : ∀ c : Dev nD, Cert.Pre_slot_tok_names_rows.fn (F := F) (m (c.tc.loc main_arg0)) (m (c.tc.loc main_arg1)) = fun _ => 1#1)
    (c : Dev nD) (i : S139264.Idx) : (m ((c : Thread nD τ).loc main_arg1) i : BitVec 32).toNat < 32768 :=
  lt_of_cmp _ (congrFun (h c) i)

theorem ok_of_pre (h : ∀ c : Dev nD, Cert.Pre_slot_tok_names_rows.fn (F := F) (m (c.tc.loc main_arg0)) (m (c.tc.loc main_arg1)) = fun _ => 1#1) :
    Ok m := fun c t k => by
  have ht : t.val < 544 := lt_of_lt_of_eq t.isLt N_0
  have hk : k.val < 256 := lt_of_lt_of_eq k.isLt T1_eq
  rw [word_eq m c t k (by omega)]
  exact chk_of_lt _ (index_lt m h c _)

end Cert.GatherIdeal.Own

end
-- ==== Proof.GatherArray.lean ====
/- The gathered rows after the run. -/
module

public import proofs.«01_k».proof.Proof.GatherIdealFrame

@[expose] public section

set_option maxRecDepth 16384

noncomputable section

namespace Cert.GatherIdeal.Own

open Cert.GatherIdeal Cert.GatherIdeal.Gen Idealize.ShloMosaic Idealize.ShloMosaic.TcCoe Idealize.SL.Sem
open Idealize.ShloMosaic.Pipeline (Dat)

variable {F : FTy → Type} [FloatOps F] (m : (ℓ : Loc nD τ sig) → Buf (Elt F) ℓ)

/-- Row `r` of the result: the row that index `r` names. -/
def result (hI : ∀ (c : Dev nD) (i : S139264.Idx), (m ((c : Thread nD τ).loc main_arg1) i : BitVec 32).toNat < 32768) (c : Dev nD) :
    S139264x1024.Idx → Elt F .f32 := fun j =>
  m ((c : Thread nD τ).loc main_arg0) (ix2 (⟨(m ((c : Thread nD τ).loc main_arg1) (ix1 (n0 := 139264) (j 0)) : BitVec 32).toNat, hI c _⟩ : Fin 32768) (n1 := 1024) (j 1))

/-- What a row of the array reads as, at a lane. -/
theorem row_read (c : Dev nD) (A : SrcBuf (F := F) c) (w : BitVec 32) (h : k0_chk1 w) (y : S256x1024.Idx) (hw : w.toNat < 32768) :
    (srcM w h).view.read (Elt F) A (lane y) = A (ix2 (⟨w.toNat, hw⟩ : Fin 32768) (n1 := 1024) (y 1)) := by
  refine congrArg A (funext fun a => Fin.ext ?_)
  fin_cases a
  · show w.toNat + 1 * 0 = w.toNat
    omega
  · show 0 + 1 * (y 1).val = (y 1).val
    omega

theorem final1 (hO : Ok m) (hI : ∀ (c : Dev nD) (i : S139264.Idx), (m ((c : Thread nD τ).loc main_arg1) i : BitVec 32).toNat < 32768) (c : Dev nD) :
    (dats m hO 0 c).arrAt 1 cfg0.N = result m hI c := by
  refine (dats m hO 0 c).arrAt_eq_of_covers 1 _ (by decide +kernel) fun t _ y => ?_
  have ht : t.val < 544 := lt_of_lt_of_eq t.isLt N_0
  have hy : (y 0).val < 256 := (y 0).isLt
  blk_simp
  rw [after1]
  have e := word_eq m c t ((y 0).cast T1_eq.symm) (by show t.val * 256 + (y 0).val < 139264; omega)
  have hlt : (wordOf (F := F) (iblk m c 0 t) ((y 0).cast T1_eq.symm)).toNat < 32768 := by rw [e]; exact hI c _
  refine (row_read c (V m c main_arg0) _ (hO c t _) y hlt).trans ?_
  rw [V_main_arg0]
  unfold result
  refine congrArg (m ((c : Thread nD τ).loc main_arg0)) ?_
  refine congrArg₂ (ix2 (n0 := 32768) (n1 := 1024)) (Fin.ext ?_) (Fin.ext ?_)
  · refine congrArg BitVec.toNat (e.trans (congrArg (m ((c : Thread nD τ).loc main_arg1)) (congrArg (ix1 (n0 := 139264)) (Fin.ext ?_))))
    blk_simp [idx t]
    rfl
  · blk_simp [idx t]

/-- The run ends with the named rows in the result, and the arguments as they were. -/
theorem run (ρ : Dev nD → PrngReg) (hO : Ok m) (hI : ∀ (c : Dev nD) (i : S139264.Idx), (m ((c : Thread nD τ).loc main_arg1) i : BitVec 32).toNat < 32768) :
    θ_run defs (onTc (τ := τ) (main (F := F))) ⟨m, fun _ => 0, ρ⟩ (fun r => ∀ c : Dev nD,
      r.2.mem ((c.tc : Thread nD τ).loc main_v1) = result m hI c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.1 c).1 1).trans (final1 m hO hI c),
    ((h.1 c).2 main_arg0 (show main_arg0 ∈ Pipeline.restRefs sig spec0 from Pipeline.mem_restRefs_of main_arg0 (by decide) (by decide))).trans (V_main_arg0 m c),
    ((h.1 c).2 main_arg1 (show main_arg1 ∈ Pipeline.restRefs sig spec0 from Pipeline.mem_restRefs_of main_arg1 (by decide) (by decide))).trans (V_main_arg1 m c)⟩)
    (run_main m ρ hO)

end Cert.GatherIdeal.Own
end
-- ==== Proof.GatherRef.lean ====
/- What the reference of the gathering of rows returns, at a row and a lane. -/
module

public import proofs.«01_k».proof.Proof.Gen.GatherRefIdeal.Run
public import Idealize.ShloMosaic.Lib.Pointwise
public import Idealize.ShloMosaic.Lib.Routing.Ops

@[expose] public section

set_option maxRecDepth 16384

noncomputable section

namespace Cert.GatherRefIdeal.Own

open Cert.GatherRefIdeal Cert.GatherRefIdeal.Gen Idealize.ShloMosaic Idealize.ShloMosaic.TcCoe Idealize.SL.Sem

variable {F : FTy → Type} [FloatOps F]

/-- An index below 32768 is not negative, so it is taken as it stands. -/
theorem index_at (i : IVec S139264 32) (r : Fin 139264) (h : (i (ix1 r)).toNat < 32768) :
    (broadcastInDim S139264x1 ![0] bcast_S139264_S139264x1_0 (select (cmpi .slt i (broadcastInDim S139264 ![] bcast_S_S139264 (constantI S_ 32 0#32)))
      (addi i (broadcastInDim S139264 ![] bcast_S_S139264 (constantI S_ 32 32768#32))) i) : IVec S139264x1 32) (ix2 r (0 : Fin 1)) = i (ix1 r) := by
  have hn : IntOp.cmpi .slt (i (ix1 r)) 0#32 = 0#1 := by
    have e : (i (ix1 r)).slt 0#32 = false := by
      rw [BitVec.slt_eq_decide, decide_eq_false_iff_not, BitVec.toInt_eq_toNat_cond]
      have e0 : (0#32 : BitVec 32).toInt = 0 := by decide
      rw [e0]
      split <;> omega
    show BitVec.ofBool _ = _
    rw [e]; rfl
  pointwise
  rw [hn]
  rfl

theorem rows_at (x : FVec F S32768x1024 .f32) (i : IVec S139264 32) (r : Fin 139264) (l : Fin 1024) (h : (i (ix1 r)).toNat < 32768) :
    Host.gather gather_S32768x1024_S139264x1_S139264x1024_1_0_n_n_0_1_11024 x (broadcastInDim S139264x1 ![0] bcast_S139264_S139264x1_0
      (select (cmpi .slt i (broadcastInDim S139264 ![] bcast_S_S139264 (constantI S_ 32 0#32)))
        (addi i (broadcastInDim S139264 ![] bcast_S_S139264 (constantI S_ 32 32768#32))) i)) (ix2 r l) = x (ix2 (⟨(i (ix1 r)).toNat, h⟩ : Fin 32768) l) :=
  Routing.gather_row gather_S32768x1024_S139264x1_S139264x1024_1_0_n_n_0_1_11024 rfl rfl rfl rfl rfl x _ r l ⟨(i (ix1 r)).toNat, h⟩
    ((index_at i r h).trans (by simp)) (by norm_num)

end Cert.GatherRefIdeal.Own
end
-- ==== Proof.lean ====
module

public import proofs.«01_k».proof.Defs
public import proofs.«01_k».proof.Proof.Gen.Kernel
public import proofs.«01_k».proof.Proof.Gen.Kernel.Frame
public import proofs.«01_k».proof.Proof.AttnEq
public import proofs.«01_k».proof.Proof.Gen.Experts
public import proofs.«01_k».proof.Proof.Gen.Experts.Skeleton
public import proofs.«01_k».proof.Proof.Gen.Experts.Launch
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsRefIdeal
public import proofs.«01_k».proof.Proof.Gen.ExpertsRefIdeal.Run
public import proofs.«01_k».proof.Proof.Gen.Pre_block_e_names_experts
public import proofs.«01_k».proof.Proof.Gen.Pre_slot_tok_names_rows
public import proofs.«01_k».proof.Proof.ExpertsOk
public import proofs.«01_k».proof.Proof.ExpertsEq
public import proofs.«01_k».proof.Proof.Gen.InProj
public import proofs.«01_k».proof.Proof.Gen.InProj.Frame
public import proofs.«01_k».proof.Proof.Gen.InProjIdeal
public import proofs.«01_k».proof.Proof.Gen.InProjIdeal.Value
public import proofs.«01_k».proof.Proof.Gen.InProjRefIdeal.Run
public import proofs.«01_k».proof.Proof.InProjArray
public import proofs.«01_k».proof.Proof.InProjRef
public import proofs.«01_k».proof.Proof.Gen.OutProj
public import proofs.«01_k».proof.Proof.Gen.OutProj.Frame
public import proofs.«01_k».proof.Proof.Gen.OutProjIdeal
public import proofs.«01_k».proof.Proof.Gen.OutProjIdeal.Value
public import proofs.«01_k».proof.Proof.Gen.OutProjRefIdeal.Run
public import proofs.«01_k».proof.Proof.Gen.Gather
public import proofs.«01_k».proof.Proof.Gen.Gather.Launch
public import proofs.«01_k».proof.Proof.Gen.Gather.Skeleton
public import proofs.«01_k».proof.Proof.Gen.GatherIdeal
public import proofs.«01_k».proof.Proof.Gen.GatherIdeal.Launch
public import proofs.«01_k».proof.Proof.Gen.GatherIdeal.Skeleton
public import proofs.«01_k».proof.Proof.Gen.GatherRefIdeal.Run
public import proofs.«01_k».proof.Proof.OutProjGates
public import proofs.«01_k».proof.Proof.OutProjRef
public import proofs.«01_k».proof.Proof.GatherFrame
public import proofs.«01_k».proof.Proof.GatherArray
public import proofs.«01_k».proof.Proof.GatherRef
public import Idealize.ShloMosaic.Lib.Claim

@[expose] public section

noncomputable section

namespace Cert.Proof

open Idealize.ShloMosaic Idealize.SL.Sem

/-- The attention kernel and its reference end with the same result. -/
theorem attention : Cert.algebraic_KernelIdeal_ReferenceIdeal (hKernelIdeal := Cert.KernelIdeal.Gen.facts) (hReferenceIdeal := Cert.ReferenceIdeal.Gen.facts) := by
  intro m g m' g' _ hag
  refine ⟨fun c => (Cert.KernelIdeal.Gen.dats m 0 c).arrAt 5 Cert.KernelIdeal.cfg0.N, Cert.KernelIdeal.Value.run_blocks m g,
    (θ_run _ _ _).mono (fun _ h c => ⟨(h c).1.trans ?_, (h c).2⟩) (Cert.ReferenceIdeal.Value.run m' g')⟩
  exact Cert.KernelIdeal.Attn.equation m c (StableHlo.launchContents m' c) (hag c).1 (hag c).2.1 (hag c).2.2.1 (hag c).2.2.2.1 (hag c).2.2.2.2

/-- The attention's reference runs, and leaves its arguments and counters as they were. -/
theorem attention_reference : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

/-- The experts' kernel and its reference end with the same result. -/
theorem experts : Cert.algebraic_ExpertsIdeal_ExpertsRefIdeal (hExpertsIdeal := Cert.ExpertsIdeal.Gen.facts)
    (hExpertsRefIdeal := Cert.ExpertsRefIdeal.Gen.facts) (hPre_block_e_names_experts := Cert.Pre_block_e_names_experts.Gen.facts) := by
  intro m g m' g' h hag
  refine ⟨fun c => Cert.ExpertsIdeal.Own.result m c,
    Cert.ExpertsIdeal.Own.run m g (Cert.ExpertsIdeal.Own.ok_of_pre m h) (Cert.ExpertsIdeal.Own.word_lt m h),
    (θ_run _ _ _).mono (fun _ r c => ⟨(r c).1.trans ?_, (r c).2⟩) (Cert.ExpertsRefIdeal.Value.run m' g')⟩
  obtain rfl : c = 0 := Subsingleton.elim _ _
  obtain ⟨h0, h1, h2, h3, h4, h5, h6, h7, h8⟩ := hag 0
  exact (Cert.ExpertsRefIdeal.Mlp.res_eq m' 0).trans
    (Cert.ExpertsIdeal.Own.value_of_eq m _ h0 _ h1 _ h2 _ h3 _ h4 _ h5 _ h6 _ h7 _ h8 (Cert.ExpertsIdeal.Own.word_lt m h))

/-- The experts' reference runs, and leaves its arguments and counters as they were. -/
theorem experts_reference : Cert.quiescent_ExpertsRefIdeal (hExpertsRefIdeal := Cert.ExpertsRefIdeal.Gen.facts) := fun m g _ =>
  (θ_run _ _ _).mono (fun r h => ⟨fun c => (h c).2, sem_eq_zero_of_no_sems (by decide) r.2⟩) (Cert.ExpertsRefIdeal.Value.run m g)

/-- The first projection's kernel and its reference end with the same six results. -/
theorem projection : Cert.algebraic_InProjIdeal_InProjRefIdeal (hInProjIdeal := Cert.InProjIdeal.Gen.facts)
    (hInProjRefIdeal := Cert.InProjRefIdeal.Gen.facts) := by
  intro m g m' g' _ hag
  refine ⟨fun c => Cert.InProjIdeal.Own.result m 0 1536 c, fun c => Cert.InProjIdeal.Own.result m 1536 512 c,
    fun c => Cert.InProjIdeal.Own.result m 3584 128 c, fun c => Cert.InProjIdeal.Own.result m 2048 512 c,
    fun c => Cert.InProjIdeal.Own.result m 2560 512 c, fun c => Cert.InProjIdeal.Own.result m 3072 512 c,
    (θ_run _ _ _).mono (fun r h c => ?_) (Cert.InProjIdeal.Value.run_blocks m g),
    (θ_run _ _ _).mono (fun r h c => ?_) (Cert.InProjRefIdeal.Own.run_parts m' g')⟩
  · obtain ⟨h0, h1, h2, h3, h4, h5, h6⟩ := h c
    exact ⟨h0.trans (Cert.InProjIdeal.Own.final3 m c), h1.trans (Cert.InProjIdeal.Own.final4 m c), h2.trans (Cert.InProjIdeal.Own.final5 m c),
      h3.trans (Cert.InProjIdeal.Own.final6 m c), h4.trans (Cert.InProjIdeal.Own.final7 m c), h5.trans (Cert.InProjIdeal.Own.final8 m c), h6⟩
  · obtain ⟨⟨h0, h1, h2, h3, h4, h5⟩, h6⟩ := h c
    obtain ⟨a0, a1, a2⟩ := hag c
    have e : ∀ o d, Cert.InProjRefIdeal.Own.part (m' ((c.tc : Thread Cert.InProjRefIdeal.nD Cert.InProjRefIdeal.τ).loc Cert.InProjRefIdeal.main_arg0))
        (m' ((c.tc : Thread Cert.InProjRefIdeal.nD Cert.InProjRefIdeal.τ).loc Cert.InProjRefIdeal.main_arg1))
        (m' ((c.tc : Thread Cert.InProjRefIdeal.nD Cert.InProjRefIdeal.τ).loc Cert.InProjRefIdeal.main_arg2)) o d
        = Cert.InProjIdeal.Own.result m o d c := fun o d => by
      rw [a0, a1, a2]
      rfl
    exact ⟨h0.trans (e 0 1536), h1.trans (e 1536 512), h2.trans (e 3584 128), h3.trans (e 2048 512), h4.trans (e 2560 512), h5.trans (e 3072 512), h6⟩

/-- The first projection's reference runs, and leaves its arguments and counters as they were. -/
theorem projection_reference : Cert.quiescent_InProjRefIdeal (hInProjRefIdeal := Cert.InProjRefIdeal.Gen.facts) := fun m g _ =>
  (θ_run _ _ _).mono (fun r h => ⟨fun c => (h c).2, sem_eq_zero_of_no_sems (by decide) r.2⟩) (Cert.InProjRefIdeal.Own.run_parts m g)

/-- The output projection's kernel and its reference end with the same stream, the same norm of it and the same gates. -/
theorem output : Cert.algebraic_OutProjIdeal_OutProjRefIdeal (hOutProjIdeal := Cert.OutProjIdeal.Gen.facts)
    (hOutProjRefIdeal := Cert.OutProjRefIdeal.Gen.facts) := by
  intro m g m' g' _ hag
  refine ⟨fun c => (Cert.OutProjIdeal.Gen.dats m 0 c).arrAt 7 Cert.OutProjIdeal.cfg0.N,
    fun c => (Cert.OutProjIdeal.Gen.dats m 0 c).arrAt 8 Cert.OutProjIdeal.cfg0.N,
    fun c => (Cert.OutProjIdeal.Gen.dats m 0 c).arrAt 10 Cert.OutProjIdeal.cfg0.N,
    (θ_run _ _ _).mono (fun r h c => ?_) (Cert.OutProjIdeal.Value.run_blocks m g),
    (θ_run _ _ _).mono (fun r h c => ?_) (Cert.OutProjRefIdeal.Own.run_parts m' g')⟩
  · obtain ⟨h0, h1, _, h3, _, h5⟩ := h c
    exact ⟨h0, h1, h3, h5⟩
  · obtain ⟨⟨h0, h1, h2⟩, h3⟩ := h c
    obtain ⟨a0, a1, a2, a3, a4, a5, a6⟩ := hag c
    rw [a0, a1, a2, a3] at h0
    rw [a0, a1, a2, a3, a4] at h1
    rw [a0, a1, a2, a3, a4, a5, a6] at h2
    exact ⟨h0.trans (Cert.OutProjIdeal.Own.final7 m c).symm, h1.trans (Cert.OutProjIdeal.Own.final8 m c).symm,
      h2.trans (Cert.OutProjIdeal.Own.final10 m c).symm, h3⟩

/-- The output projection's reference runs, and leaves its arguments and counters as they were. -/
theorem output_reference : Cert.quiescent_OutProjRefIdeal (hOutProjRefIdeal := Cert.OutProjRefIdeal.Gen.facts) := fun m g _ =>
  (θ_run _ _ _).mono (fun r h => ⟨fun c => (h c).2, sem_eq_zero_of_no_sems (by decide) r.2⟩) (Cert.OutProjRefIdeal.Own.run_parts m g)

/-- The gathering kernel and its reference end with the same rows. -/
theorem gather : Cert.algebraic_GatherIdeal_GatherRefIdeal (hGatherIdeal := Cert.GatherIdeal.Gen.facts)
    (hGatherRefIdeal := Cert.GatherRefIdeal.Gen.facts) (hPre_slot_tok_names_rows := Cert.Pre_slot_tok_names_rows.Gen.facts) := by
  intro m g m' g' h hag
  have hI := Cert.GatherIdeal.Own.index_lt m h
  refine ⟨fun c => Cert.GatherIdeal.Own.result m hI c, Cert.GatherIdeal.Own.run m g (Cert.GatherIdeal.Own.ok_of_pre m h) hI,
    (θ_run _ _ _).mono (fun _ r c => ⟨(r c).1.trans ?_, (r c).2⟩) (Cert.GatherRefIdeal.Value.run m' g')⟩
  rw [(hag c).1, (hag c).2]
  funext j
  exact (congrArg _ (eq_ix2 j)).trans (Cert.GatherRefIdeal.Own.rows_at (F := Ideal) _ _ (j 0) (j 1) (hI c _))

/-- The gathering's reference runs, and leaves its arguments and counters as they were. -/
theorem gather_reference : Cert.quiescent_GatherRefIdeal (hGatherRefIdeal := Cert.GatherRefIdeal.Gen.facts) := fun m g _ =>
  (θ_run _ _ _).mono (fun r h => ⟨fun c => (h c).2, sem_eq_zero_of_no_sems (by decide) r.2⟩) (Cert.GatherRefIdeal.Value.run m g)

theorem claim : Cert.Claim :=
  ⟨Cert.Kernel.Gen.facts, Cert.KernelIdeal.Gen.facts, Cert.ReferenceIdeal.Gen.facts, Cert.Experts.Gen.facts, Cert.ExpertsIdeal.Gen.facts,
    Cert.ExpertsRefIdeal.Gen.facts, Cert.InProj.Gen.facts, Cert.InProjIdeal.Gen.facts, Cert.InProjRefIdeal.Gen.facts, Cert.OutProj.Gen.facts, Cert.OutProjIdeal.Gen.facts,
    Cert.OutProjRefIdeal.Gen.facts, Cert.Gather.Gen.facts, Cert.GatherIdeal.Gen.facts, Cert.GatherRefIdeal.Gen.facts,
    Cert.Pre_block_e_names_experts.Gen.facts, Cert.Pre_slot_tok_names_rows.Gen.facts,
    fun m ρ _ => Cert.Kernel.Gen.frame m ρ, fun m ρ _ => Cert.KernelIdeal.Gen.frame m ρ, attention_reference,
    fun m ρ h => Cert.Experts.Own.frame m ρ (Cert.Experts.Own.ok_of_pre m h),
    fun m ρ h => Cert.ExpertsIdeal.Own.frame m ρ (Cert.ExpertsIdeal.Own.ok_of_pre m h),
    experts_reference, fun m ρ _ => experts_reference m ρ trivial,
    fun m ρ _ => Cert.InProj.Gen.frame m ρ, fun m ρ _ => Cert.InProjIdeal.Gen.frame m ρ, projection_reference,
    fun m ρ _ => Cert.OutProj.Gen.frame m ρ, fun m ρ _ => Cert.OutProjIdeal.Gen.frame m ρ, output_reference,
    fun m ρ h => Cert.Gather.Own.frame_out m ρ (Cert.Gather.Own.ok_of_pre m h),
    fun m ρ h => Cert.GatherIdeal.Own.frame_out m ρ (Cert.GatherIdeal.Own.ok_of_pre m h),
    gather_reference, fun m ρ _ => gather_reference m ρ trivial,
    trivial, attention, trivial, experts, trivial, projection, trivial, output, trivial, gather⟩

end Cert.Proof

end
